-- ==== Defs.lean ====
def Pre_KDw (m : (ℓ : Loc Cert.KDw.nD Cert.KDw.τ Cert.KDw.sig) → Buf (Elt Bits) ℓ) : Prop :=
  True

def Pre_KDwIdeal (m : (ℓ : Loc Cert.KDwIdeal.nD Cert.KDwIdeal.τ Cert.KDwIdeal.sig) → Buf (Elt Ideal) ℓ) : Prop :=
  True

def Pre_RDwIdeal (m : (ℓ : Loc Cert.RDwIdeal.nD Cert.RDwIdeal.τ Cert.RDwIdeal.sig) → Buf (Elt Ideal) ℓ) : Prop :=
  True

def Pre_KDwo (m : (ℓ : Loc Cert.KDwo.nD Cert.KDwo.τ Cert.KDwo.sig) → Buf (Elt Bits) ℓ) : Prop :=
  True

def Pre_KDwoIdeal (m : (ℓ : Loc Cert.KDwoIdeal.nD Cert.KDwoIdeal.τ Cert.KDwoIdeal.sig) → Buf (Elt Ideal) ℓ) : Prop :=
  True

def Pre_RDwoIdeal (m : (ℓ : Loc Cert.RDwoIdeal.nD Cert.RDwoIdeal.τ Cert.RDwoIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KDx (m : (ℓ : Loc Cert.KDx.nD Cert.KDx.τ Cert.KDx.sig) → Buf (Elt Bits) ℓ) : Prop :=
  True

def Pre_KDxIdeal (m : (ℓ : Loc Cert.KDxIdeal.nD Cert.KDxIdeal.τ Cert.KDxIdeal.sig) → Buf (Elt Ideal) ℓ) : Prop :=
  True

def Pre_RDxIdeal (m : (ℓ : Loc Cert.RDxIdeal.nD Cert.RDxIdeal.τ Cert.RDxIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KAttn (m : (ℓ : Loc Cert.KAttn.nD Cert.KAttn.τ Cert.KAttn.sig) → Buf (Elt Bits) ℓ) : Prop :=
  True

def Pre_KAttnIdeal (m : (ℓ : Loc Cert.KAttnIdeal.nD Cert.KAttnIdeal.τ Cert.KAttnIdeal.sig) → Buf (Elt Ideal) ℓ) : Prop :=
  True

def quiescent_KDw [hKDw : Cert.KDw.Facts] : Prop :=
  ∀ (m : (ℓ : Loc Cert.KDw.nD Cert.KDw.τ Cert.KDw.sig) → Buf (Elt Bits) ℓ) (g : Dev Cert.KDw.nD → PrngReg), Pre_KDw m →
    θ_run (Cert.KDw.defs (F := Bits)) (onTc (τ := Cert.KDw.τ) (Cert.KDw.main (F := Bits))) ⟨m, fun _ => 0, g⟩ (fun r => (∀ c : Dev Cert.KDw.nD,
      r.2.mem ((c.tc : Thread Cert.KDw.nD Cert.KDw.τ).loc Cert.KDw.main_arg0) = m ((c.tc : Thread Cert.KDw.nD Cert.KDw.τ).loc Cert.KDw.main_arg0)
      ∧ r.2.mem ((c.tc : Thread Cert.KDw.nD Cert.KDw.τ).loc Cert.KDw.main_arg1) = m ((c.tc : Thread Cert.KDw.nD Cert.KDw.τ).loc Cert.KDw.main_arg1)
      ∧ r.2.mem ((c.tc : Thread Cert.KDw.nD Cert.KDw.τ).loc Cert.KDw.main_arg2) = m ((c.tc : Thread Cert.KDw.nD Cert.KDw.τ).loc Cert.KDw.main_arg2)
      ∧ r.2.mem ((c.tc : Thread Cert.KDw.nD Cert.KDw.τ).loc Cert.KDw.main_arg3) = m ((c.tc : Thread Cert.KDw.nD Cert.KDw.τ).loc Cert.KDw.main_arg3)
      ∧ r.2.mem ((c.tc : Thread Cert.KDw.nD Cert.KDw.τ).loc Cert.KDw.main_arg4) = m ((c.tc : Thread Cert.KDw.nD Cert.KDw.τ).loc Cert.KDw.main_arg4)
      ∧ r.2.mem ((c.tc : Thread Cert.KDw.nD Cert.KDw.τ).loc Cert.KDw.main_arg5) = m ((c.tc : Thread Cert.KDw.nD Cert.KDw.τ).loc Cert.KDw.main_arg5)
      ∧ r.2.mem ((c.tc : Thread Cert.KDw.nD Cert.KDw.τ).loc Cert.KDw.main_arg6) = m ((c.tc : Thread Cert.KDw.nD Cert.KDw.τ).loc Cert.KDw.main_arg6)
      ∧ r.2.mem ((c.tc : Thread Cert.KDw.nD Cert.KDw.τ).loc Cert.KDw.main_arg7) = m ((c.tc : Thread Cert.KDw.nD Cert.KDw.τ).loc Cert.KDw.main_arg7))
      ∧ r.2.sem = fun _ => 0)

def quiescent_KDwIdeal [hKDwIdeal : Cert.KDwIdeal.Facts] : Prop :=
  ∀ (m : (ℓ : Loc Cert.KDwIdeal.nD Cert.KDwIdeal.τ Cert.KDwIdeal.sig) → Buf (Elt Ideal) ℓ) (g : Dev Cert.KDwIdeal.nD → PrngReg), Pre_KDwIdeal m →
    θ_run (Cert.KDwIdeal.defs (F := Ideal)) (onTc (τ := Cert.KDwIdeal.τ) (Cert.KDwIdeal.main (F := Ideal))) ⟨m, fun _ => 0, g⟩ (fun r => (∀ c : Dev Cert.KDwIdeal.nD,
      r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
      ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1)
      ∧ r.2.mem ((c.tc : Thread Cert.KDwIdeal.nD Cert.KDwIdeal.τ).loc Cert.KDwIdeal.main_arg2) = m ((c.tc : Thread Cert.KDwIdeal.nD Cert.KDwIdeal.τ).loc Cert.KDwIdeal.main_arg2)
      ∧ r.2.mem ((c.tc : Thread Cert.KDwIdeal.nD Cert.KDwIdeal.τ).loc Cert.KDwIdeal.main_arg3) = m ((c.tc : Thread Cert.KDwIdeal.nD Cert.KDwIdeal.τ).loc Cert.KDwIdeal.main_arg3)
      ∧ r.2.mem ((c.tc : Thread Cert.KDwIdeal.nD Cert.KDwIdeal.τ).loc Cert.KDwIdeal.main_arg4) = m ((c.tc : Thread Cert.KDwIdeal.nD Cert.KDwIdeal.τ).loc Cert.KDwIdeal.main_arg4)
      ∧ r.2.mem ((c.tc : Thread Cert.KDwIdeal.nD Cert.KDwIdeal.τ).loc Cert.KDwIdeal.main_arg5) = m ((c.tc : Thread Cert.KDwIdeal.nD Cert.KDwIdeal.τ).loc Cert.KDwIdeal.main_arg5)
      ∧ r.2.mem ((c.tc : Thread Cert.KDwIdeal.nD Cert.KDwIdeal.τ).loc Cert.KDwIdeal.main_arg6) = m ((c.tc : Thread Cert.KDwIdeal.nD Cert.KDwIdeal.τ).loc Cert.KDwIdeal.main_arg6)
      ∧ r.2.mem ((c.tc : Thread Cert.KDwIdeal.nD Cert.KDwIdeal.τ).loc Cert.KDwIdeal.main_arg7) = m ((c.tc : Thread Cert.KDwIdeal.nD Cert.KDwIdeal.τ).loc Cert.KDwIdeal.main_arg7))
      ∧ r.2.sem = fun _ => 0)

def quiescent_RDwIdeal [hRDwIdeal : Cert.RDwIdeal.Facts] : Prop :=
  ∀ (m : (ℓ : Loc Cert.RDwIdeal.nD Cert.RDwIdeal.τ Cert.RDwIdeal.sig) → Buf (Elt Ideal) ℓ) (g : Dev Cert.RDwIdeal.nD → PrngReg), Pre_RDwIdeal m →
    θ_run (Cert.RDwIdeal.defs (F := Ideal)) (onTc (τ := Cert.RDwIdeal.τ) (Cert.RDwIdeal.main (F := Ideal))) ⟨m, fun _ => 0, g⟩ (fun r => (∀ c : Dev Cert.RDwIdeal.nD,
      r.2.mem ((c.tc : Thread Cert.RDwIdeal.nD Cert.RDwIdeal.τ).loc Cert.RDwIdeal.main_arg0) = m ((c.tc : Thread Cert.RDwIdeal.nD Cert.RDwIdeal.τ).loc Cert.RDwIdeal.main_arg0)
      ∧ r.2.mem ((c.tc : Thread Cert.RDwIdeal.nD Cert.RDwIdeal.τ).loc Cert.RDwIdeal.main_arg1) = m ((c.tc : Thread Cert.RDwIdeal.nD Cert.RDwIdeal.τ).loc Cert.RDwIdeal.main_arg1)
      ∧ r.2.mem ((c.tc : Thread Cert.RDwIdeal.nD Cert.RDwIdeal.τ).loc Cert.RDwIdeal.main_arg2) = m ((c.tc : Thread Cert.RDwIdeal.nD Cert.RDwIdeal.τ).loc Cert.RDwIdeal.main_arg2)
      ∧ r.2.mem ((c.tc : Thread Cert.RDwIdeal.nD Cert.RDwIdeal.τ).loc Cert.RDwIdeal.main_arg3) = m ((c.tc : Thread Cert.RDwIdeal.nD Cert.RDwIdeal.τ).loc Cert.RDwIdeal.main_arg3)
      ∧ r.2.mem ((c.tc : Thread Cert.RDwIdeal.nD Cert.RDwIdeal.τ).loc Cert.RDwIdeal.main_arg4) = m ((c.tc : Thread Cert.RDwIdeal.nD Cert.RDwIdeal.τ).loc Cert.RDwIdeal.main_arg4)
      ∧ r.2.mem ((c.tc : Thread Cert.RDwIdeal.nD Cert.RDwIdeal.τ).loc Cert.RDwIdeal.main_arg5) = m ((c.tc : Thread Cert.RDwIdeal.nD Cert.RDwIdeal.τ).loc Cert.RDwIdeal.main_arg5)
      ∧ r.2.mem ((c.tc : Thread Cert.RDwIdeal.nD Cert.RDwIdeal.τ).loc Cert.RDwIdeal.main_arg6) = m ((c.tc : Thread Cert.RDwIdeal.nD Cert.RDwIdeal.τ).loc Cert.RDwIdeal.main_arg6)
      ∧ r.2.mem ((c.tc : Thread Cert.RDwIdeal.nD Cert.RDwIdeal.τ).loc Cert.RDwIdeal.main_arg7) = m ((c.tc : Thread Cert.RDwIdeal.nD Cert.RDwIdeal.τ).loc Cert.RDwIdeal.main_arg7))
      ∧ r.2.sem = fun _ => 0)

def quiescent_KDwo [hKDwo : Cert.KDwo.Facts] : Prop :=
  ∀ (m : (ℓ : Loc Cert.KDwo.nD Cert.KDwo.τ Cert.KDwo.sig) → Buf (Elt Bits) ℓ) (g : Dev Cert.KDwo.nD → PrngReg), Pre_KDwo m →
    θ_run (Cert.KDwo.defs (F := Bits)) (onTc (τ := Cert.KDwo.τ) (Cert.KDwo.main (F := Bits))) ⟨m, fun _ => 0, g⟩ (fun r => (∀ c : Dev Cert.KDwo.nD,
      r.2.mem ((c.tc : Thread Cert.KDwo.nD Cert.KDwo.τ).loc Cert.KDwo.main_arg0) = m ((c.tc : Thread Cert.KDwo.nD Cert.KDwo.τ).loc Cert.KDwo.main_arg0)
      ∧ r.2.mem ((c.tc : Thread Cert.KDwo.nD Cert.KDwo.τ).loc Cert.KDwo.main_arg1) = m ((c.tc : Thread Cert.KDwo.nD Cert.KDwo.τ).loc Cert.KDwo.main_arg1)
      ∧ r.2.mem ((c.tc : Thread Cert.KDwo.nD Cert.KDwo.τ).loc Cert.KDwo.main_arg2) = m ((c.tc : Thread Cert.KDwo.nD Cert.KDwo.τ).loc Cert.KDwo.main_arg2)
      ∧ r.2.mem ((c.tc : Thread Cert.KDwo.nD Cert.KDwo.τ).loc Cert.KDwo.main_arg3) = m ((c.tc : Thread Cert.KDwo.nD Cert.KDwo.τ).loc Cert.KDwo.main_arg3))
      ∧ r.2.sem = fun _ => 0)

def quiescent_KDwoIdeal [hKDwoIdeal : Cert.KDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg), Pre_KDwoIdeal m →
    θ_run (Cert.KDwoIdeal.defs (F := Ideal)) (onTc (τ := Cert.KDwoIdeal.τ) (Cert.KDwoIdeal.main (F := Ideal))) ⟨m, fun _ => 0, g⟩ (fun r => (∀ c : Dev Cert.KDwoIdeal.nD,
      r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
      ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1)
      ∧ r.2.mem ((c.tc : Thread Cert.KDwoIdeal.nD Cert.KDwoIdeal.τ).loc Cert.KDwoIdeal.main_arg2) = m ((c.tc : Thread Cert.KDwoIdeal.nD Cert.KDwoIdeal.τ).loc Cert.KDwoIdeal.main_arg2)
      ∧ r.2.mem ((c.tc : Thread Cert.KDwoIdeal.nD Cert.KDwoIdeal.τ).loc Cert.KDwoIdeal.main_arg3) = m ((c.tc : Thread Cert.KDwoIdeal.nD Cert.KDwoIdeal.τ).loc Cert.KDwoIdeal.main_arg3))
      ∧ r.2.sem = fun _ => 0)

def quiescent_RDwoIdeal [hRDwoIdeal : Cert.RDwoIdeal.Facts] : Prop :=
  ∀ (m : (ℓ : Loc Cert.RDwoIdeal.nD Cert.RDwoIdeal.τ Cert.RDwoIdeal.sig) → Buf (Elt Ideal) ℓ) (g : Dev Cert.RDwoIdeal.nD → PrngReg), Pre_RDwoIdeal m →
    θ_run (Cert.RDwoIdeal.defs (F := Ideal)) (onTc (τ := Cert.RDwoIdeal.τ) (Cert.RDwoIdeal.main (F := Ideal))) ⟨m, fun _ => 0, g⟩ (fun r => (∀ c : Dev Cert.RDwoIdeal.nD,
      r.2.mem ((c.tc : Thread Cert.RDwoIdeal.nD Cert.RDwoIdeal.τ).loc Cert.RDwoIdeal.main_arg0) = m ((c.tc : Thread Cert.RDwoIdeal.nD Cert.RDwoIdeal.τ).loc Cert.RDwoIdeal.main_arg0)
      ∧ r.2.mem ((c.tc : Thread Cert.RDwoIdeal.nD Cert.RDwoIdeal.τ).loc Cert.RDwoIdeal.main_arg1) = m ((c.tc : Thread Cert.RDwoIdeal.nD Cert.RDwoIdeal.τ).loc Cert.RDwoIdeal.main_arg1)
      ∧ r.2.mem ((c.tc : Thread Cert.RDwoIdeal.nD Cert.RDwoIdeal.τ).loc Cert.RDwoIdeal.main_arg2) = m ((c.tc : Thread Cert.RDwoIdeal.nD Cert.RDwoIdeal.τ).loc Cert.RDwoIdeal.main_arg2)
      ∧ r.2.mem ((c.tc : Thread Cert.RDwoIdeal.nD Cert.RDwoIdeal.τ).loc Cert.RDwoIdeal.main_arg3) = m ((c.tc : Thread Cert.RDwoIdeal.nD Cert.RDwoIdeal.τ).loc Cert.RDwoIdeal.main_arg3))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3)
      ∧ r.2.mem ((c.tc : Thread Cert.KOut.nD Cert.KOut.τ).loc Cert.KOut.main_arg4) = m ((c.tc : Thread Cert.KOut.nD Cert.KOut.τ).loc Cert.KOut.main_arg4))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
      ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3)
      ∧ r.2.mem ((c.tc : Thread Cert.ROutIdeal.nD Cert.ROutIdeal.τ).loc Cert.ROutIdeal.main_arg4) = m ((c.tc : Thread Cert.ROutIdeal.nD Cert.ROutIdeal.τ).loc Cert.ROutIdeal.main_arg4))
      ∧ r.2.sem = fun _ => 0)

def quiescent_KDx [hKDx : Cert.KDx.Facts] : Prop :=
  ∀ (m : (ℓ : Loc Cert.KDx.nD Cert.KDx.τ Cert.KDx.sig) → Buf (Elt Bits) ℓ) (g : Dev Cert.KDx.nD → PrngReg), Pre_KDx m →
    θ_run (Cert.KDx.defs (F := Bits)) (onTc (τ := Cert.KDx.τ) (Cert.KDx.main (F := Bits))) ⟨m, fun _ => 0, g⟩ (fun r => (∀ c : Dev Cert.KDx.nD,
      r.2.mem ((c.tc : Thread Cert.KDx.nD Cert.KDx.τ).loc Cert.KDx.main_arg0) = m ((c.tc : Thread Cert.KDx.nD Cert.KDx.τ).loc Cert.KDx.main_arg0)
      ∧ r.2.mem ((c.tc : Thread Cert.KDx.nD Cert.KDx.τ).loc Cert.KDx.main_arg1) = m ((c.tc : Thread Cert.KDx.nD Cert.KDx.τ).loc Cert.KDx.main_arg1)
      ∧ r.2.mem ((c.tc : Thread Cert.KDx.nD Cert.KDx.τ).loc Cert.KDx.main_arg2) = m ((c.tc : Thread Cert.KDx.nD Cert.KDx.τ).loc Cert.KDx.main_arg2)
      ∧ r.2.mem ((c.tc : Thread Cert.KDx.nD Cert.KDx.τ).loc Cert.KDx.main_arg3) = m ((c.tc : Thread Cert.KDx.nD Cert.KDx.τ).loc Cert.KDx.main_arg3)
      ∧ r.2.mem ((c.tc : Thread Cert.KDx.nD Cert.KDx.τ).loc Cert.KDx.main_arg4) = m ((c.tc : Thread Cert.KDx.nD Cert.KDx.τ).loc Cert.KDx.main_arg4)
      ∧ r.2.mem ((c.tc : Thread Cert.KDx.nD Cert.KDx.τ).loc Cert.KDx.main_arg5) = m ((c.tc : Thread Cert.KDx.nD Cert.KDx.τ).loc Cert.KDx.main_arg5)
      ∧ r.2.mem ((c.tc : Thread Cert.KDx.nD Cert.KDx.τ).loc Cert.KDx.main_arg6) = m ((c.tc : Thread Cert.KDx.nD Cert.KDx.τ).loc Cert.KDx.main_arg6)
      ∧ r.2.mem ((c.tc : Thread Cert.KDx.nD Cert.KDx.τ).loc Cert.KDx.main_arg7) = m ((c.tc : Thread Cert.KDx.nD Cert.KDx.τ).loc Cert.KDx.main_arg7)
      ∧ r.2.mem ((c.tc : Thread Cert.KDx.nD Cert.KDx.τ).loc Cert.KDx.main_arg8) = m ((c.tc : Thread Cert.KDx.nD Cert.KDx.τ).loc Cert.KDx.main_arg8)
      ∧ r.2.mem ((c.tc : Thread Cert.KDx.nD Cert.KDx.τ).loc Cert.KDx.main_arg9) = m ((c.tc : Thread Cert.KDx.nD Cert.KDx.τ).loc Cert.KDx.main_arg9)
      ∧ r.2.mem ((c.tc : Thread Cert.KDx.nD Cert.KDx.τ).loc Cert.KDx.main_arg10) = m ((c.tc : Thread Cert.KDx.nD Cert.KDx.τ).loc Cert.KDx.main_arg10)
      ∧ r.2.mem ((c.tc : Thread Cert.KDx.nD Cert.KDx.τ).loc Cert.KDx.main_arg11) = m ((c.tc : Thread Cert.KDx.nD Cert.KDx.τ).loc Cert.KDx.main_arg11)
      ∧ r.2.mem ((c.tc : Thread Cert.KDx.nD Cert.KDx.τ).loc Cert.KDx.main_arg12) = m ((c.tc : Thread Cert.KDx.nD Cert.KDx.τ).loc Cert.KDx.main_arg12)
      ∧ r.2.mem ((c.tc : Thread Cert.KDx.nD Cert.KDx.τ).loc Cert.KDx.main_arg13) = m ((c.tc : Thread Cert.KDx.nD Cert.KDx.τ).loc Cert.KDx.main_arg13)
      ∧ r.2.mem ((c.tc : Thread Cert.KDx.nD Cert.KDx.τ).loc Cert.KDx.main_arg14) = m ((c.tc : Thread Cert.KDx.nD Cert.KDx.τ).loc Cert.KDx.main_arg14))
      ∧ r.2.sem = fun _ => 0)

def quiescent_KDxIdeal [hKDxIdeal : Cert.KDxIdeal.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
      ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
      ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3)
      ∧ r.2.mem ((c.tc : Thread Cert.KDxIdeal.nD Cert.KDxIdeal.τ).loc Cert.KDxIdeal.main_arg4) = m ((c.tc : Thread Cert.KDxIdeal.nD Cert.KDxIdeal.τ).loc Cert.KDxIdeal.main_arg4)
      ∧ r.2.mem ((c.tc : Thread Cert.KDxIdeal.nD Cert.KDxIdeal.τ).loc Cert.KDxIdeal.main_arg5) = m ((c.tc : Thread Cert.KDxIdeal.nD Cert.KDxIdeal.τ).loc Cert.KDxIdeal.main_arg5)
      ∧ r.2.mem ((c.tc : Thread Cert.KDxIdeal.nD Cert.KDxIdeal.τ).loc Cert.KDxIdeal.main_arg6) = m ((c.tc : Thread Cert.KDxIdeal.nD Cert.KDxIdeal.τ).loc Cert.KDxIdeal.main_arg6)
      ∧ r.2.mem ((c.tc : Thread Cert.KDxIdeal.nD Cert.KDxIdeal.τ).loc Cert.KDxIdeal.main_arg7) = m ((c.tc : Thread Cert.KDxIdeal.nD Cert.KDxIdeal.τ).loc Cert.KDxIdeal.main_arg7)
      ∧ r.2.mem ((c.tc : Thread Cert.KDxIdeal.nD Cert.KDxIdeal.τ).loc Cert.KDxIdeal.main_arg8) = m ((c.tc : Thread Cert.KDxIdeal.nD Cert.KDxIdeal.τ).loc Cert.KDxIdeal.main_arg8)
      ∧ r.2.mem ((c.tc : Thread Cert.KDxIdeal.nD Cert.KDxIdeal.τ).loc Cert.KDxIdeal.main_arg9) = m ((c.tc : Thread Cert.KDxIdeal.nD Cert.KDxIdeal.τ).loc Cert.KDxIdeal.main_arg9)
      ∧ r.2.mem ((c.tc : Thread Cert.KDxIdeal.nD Cert.KDxIdeal.τ).loc Cert.KDxIdeal.main_arg10) = m ((c.tc : Thread Cert.KDxIdeal.nD Cert.KDxIdeal.τ).loc Cert.KDxIdeal.main_arg10)
      ∧ r.2.mem ((c.tc : Thread Cert.KDxIdeal.nD Cert.KDxIdeal.τ).loc Cert.KDxIdeal.main_arg11) = m ((c.tc : Thread Cert.KDxIdeal.nD Cert.KDxIdeal.τ).loc Cert.KDxIdeal.main_arg11)
      ∧ r.2.mem ((c.tc : Thread Cert.KDxIdeal.nD Cert.KDxIdeal.τ).loc Cert.KDxIdeal.main_arg12) = m ((c.tc : Thread Cert.KDxIdeal.nD Cert.KDxIdeal.τ).loc Cert.KDxIdeal.main_arg12)
      ∧ r.2.mem ((c.tc : Thread Cert.KDxIdeal.nD Cert.KDxIdeal.τ).loc Cert.KDxIdeal.main_arg13) = m ((c.tc : Thread Cert.KDxIdeal.nD Cert.KDxIdeal.τ).loc Cert.KDxIdeal.main_arg13)
      ∧ r.2.mem ((c.tc : Thread Cert.KDxIdeal.nD Cert.KDxIdeal.τ).loc Cert.KDxIdeal.main_arg14) = m ((c.tc : Thread Cert.KDxIdeal.nD Cert.KDxIdeal.τ).loc Cert.KDxIdeal.main_arg14))
      ∧ r.2.sem = fun _ => 0)

def quiescent_RDxIdeal [hRDxIdeal : Cert.RDxIdeal.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2)
      ∧ r.2.mem ((c.tc : Thread Cert.RDxIdeal.nD Cert.RDxIdeal.τ).loc Cert.RDxIdeal.main_arg3) = m ((c.tc : Thread Cert.RDxIdeal.nD Cert.RDxIdeal.τ).loc Cert.RDxIdeal.main_arg3)
      ∧ r.2.mem ((c.tc : Thread Cert.RDxIdeal.nD Cert.RDxIdeal.τ).loc Cert.RDxIdeal.main_arg4) = m ((c.tc : Thread Cert.RDxIdeal.nD Cert.RDxIdeal.τ).loc Cert.RDxIdeal.main_arg4)
      ∧ r.2.mem ((c.tc : Thread Cert.RDxIdeal.nD Cert.RDxIdeal.τ).loc Cert.RDxIdeal.main_arg5) = m ((c.tc : Thread Cert.RDxIdeal.nD Cert.RDxIdeal.τ).loc Cert.RDxIdeal.main_arg5)
      ∧ r.2.mem ((c.tc : Thread Cert.RDxIdeal.nD Cert.RDxIdeal.τ).loc Cert.RDxIdeal.main_arg6) = m ((c.tc : Thread Cert.RDxIdeal.nD Cert.RDxIdeal.τ).loc Cert.RDxIdeal.main_arg6)
      ∧ r.2.mem ((c.tc : Thread Cert.RDxIdeal.nD Cert.RDxIdeal.τ).loc Cert.RDxIdeal.main_arg7) = m ((c.tc : Thread Cert.RDxIdeal.nD Cert.RDxIdeal.τ).loc Cert.RDxIdeal.main_arg7)
      ∧ r.2.mem ((c.tc : Thread Cert.RDxIdeal.nD Cert.RDxIdeal.τ).loc Cert.RDxIdeal.main_arg8) = m ((c.tc : Thread Cert.RDxIdeal.nD Cert.RDxIdeal.τ).loc Cert.RDxIdeal.main_arg8)
      ∧ r.2.mem ((c.tc : Thread Cert.RDxIdeal.nD Cert.RDxIdeal.τ).loc Cert.RDxIdeal.main_arg9) = m ((c.tc : Thread Cert.RDxIdeal.nD Cert.RDxIdeal.τ).loc Cert.RDxIdeal.main_arg9)
      ∧ r.2.mem ((c.tc : Thread Cert.RDxIdeal.nD Cert.RDxIdeal.τ).loc Cert.RDxIdeal.main_arg10) = m ((c.tc : Thread Cert.RDxIdeal.nD Cert.RDxIdeal.τ).loc Cert.RDxIdeal.main_arg10)
      ∧ r.2.mem ((c.tc : Thread Cert.RDxIdeal.nD Cert.RDxIdeal.τ).loc Cert.RDxIdeal.main_arg11) = m ((c.tc : Thread Cert.RDxIdeal.nD Cert.RDxIdeal.τ).loc Cert.RDxIdeal.main_arg11)
      ∧ r.2.mem ((c.tc : Thread Cert.RDxIdeal.nD Cert.RDxIdeal.τ).loc Cert.RDxIdeal.main_arg12) = m ((c.tc : Thread Cert.RDxIdeal.nD Cert.RDxIdeal.τ).loc Cert.RDxIdeal.main_arg12)
      ∧ r.2.mem ((c.tc : Thread Cert.RDxIdeal.nD Cert.RDxIdeal.τ).loc Cert.RDxIdeal.main_arg13) = m ((c.tc : Thread Cert.RDxIdeal.nD Cert.RDxIdeal.τ).loc Cert.RDxIdeal.main_arg13)
      ∧ r.2.mem ((c.tc : Thread Cert.RDxIdeal.nD Cert.RDxIdeal.τ).loc Cert.RDxIdeal.main_arg14) = m ((c.tc : Thread Cert.RDxIdeal.nD Cert.RDxIdeal.τ).loc Cert.RDxIdeal.main_arg14))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2)
      ∧ r.2.mem ((c.tc : Thread Cert.KProj.nD Cert.KProj.τ).loc Cert.KProj.main_arg3) = m ((c.tc : Thread Cert.KProj.nD Cert.KProj.τ).loc Cert.KProj.main_arg3)
      ∧ r.2.mem ((c.tc : Thread Cert.KProj.nD Cert.KProj.τ).loc Cert.KProj.main_arg4) = m ((c.tc : Thread Cert.KProj.nD Cert.KProj.τ).loc Cert.KProj.main_arg4)
      ∧ r.2.mem ((c.tc : Thread Cert.KProj.nD Cert.KProj.τ).loc Cert.KProj.main_arg5) = m ((c.tc : Thread Cert.KProj.nD Cert.KProj.τ).loc Cert.KProj.main_arg5)
      ∧ r.2.mem ((c.tc : Thread Cert.KProj.nD Cert.KProj.τ).loc Cert.KProj.main_arg6) = m ((c.tc : Thread Cert.KProj.nD Cert.KProj.τ).loc Cert.KProj.main_arg6)
      ∧ r.2.mem ((c.tc : Thread Cert.KProj.nD Cert.KProj.τ).loc Cert.KProj.main_arg7) = m ((c.tc : Thread Cert.KProj.nD Cert.KProj.τ).loc Cert.KProj.main_arg7)
      ∧ r.2.mem ((c.tc : Thread Cert.KProj.nD Cert.KProj.τ).loc Cert.KProj.main_arg8) = m ((c.tc : Thread Cert.KProj.nD Cert.KProj.τ).loc Cert.KProj.main_arg8)
      ∧ r.2.mem ((c.tc : Thread Cert.KProj.nD Cert.KProj.τ).loc Cert.KProj.main_arg9) = m ((c.tc : Thread Cert.KProj.nD Cert.KProj.τ).loc Cert.KProj.main_arg9)
      ∧ r.2.mem ((c.tc : Thread Cert.KProj.nD Cert.KProj.τ).loc Cert.KProj.main_arg10) = m ((c.tc : Thread Cert.KProj.nD Cert.KProj.τ).loc Cert.KProj.main_arg10)
      ∧ r.2.mem ((c.tc : Thread Cert.KProj.nD Cert.KProj.τ).loc Cert.KProj.main_arg11) = m ((c.tc : Thread Cert.KProj.nD Cert.KProj.τ).loc Cert.KProj.main_arg11)
      ∧ r.2.mem ((c.tc : Thread Cert.KProj.nD Cert.KProj.τ).loc Cert.KProj.main_arg12) = m ((c.tc : Thread Cert.KProj.nD Cert.KProj.τ).loc Cert.KProj.main_arg12))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
      ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
      ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
      ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6)
      ∧ r.2.mem ((c.tc : Thread Cert.KProjIdeal.nD Cert.KProjIdeal.τ).loc Cert.KProjIdeal.main_arg7) = m ((c.tc : Thread Cert.KProjIdeal.nD Cert.KProjIdeal.τ).loc Cert.KProjIdeal.main_arg7)
      ∧ r.2.mem ((c.tc : Thread Cert.KProjIdeal.nD Cert.KProjIdeal.τ).loc Cert.KProjIdeal.main_arg8) = m ((c.tc : Thread Cert.KProjIdeal.nD Cert.KProjIdeal.τ).loc Cert.KProjIdeal.main_arg8)
      ∧ r.2.mem ((c.tc : Thread Cert.KProjIdeal.nD Cert.KProjIdeal.τ).loc Cert.KProjIdeal.main_arg9) = m ((c.tc : Thread Cert.KProjIdeal.nD Cert.KProjIdeal.τ).loc Cert.KProjIdeal.main_arg9)
      ∧ r.2.mem ((c.tc : Thread Cert.KProjIdeal.nD Cert.KProjIdeal.τ).loc Cert.KProjIdeal.main_arg10) = m ((c.tc : Thread Cert.KProjIdeal.nD Cert.KProjIdeal.τ).loc Cert.KProjIdeal.main_arg10)
      ∧ r.2.mem ((c.tc : Thread Cert.KProjIdeal.nD Cert.KProjIdeal.τ).loc Cert.KProjIdeal.main_arg11) = m ((c.tc : Thread Cert.KProjIdeal.nD Cert.KProjIdeal.τ).loc Cert.KProjIdeal.main_arg11)
      ∧ r.2.mem ((c.tc : Thread Cert.KProjIdeal.nD Cert.KProjIdeal.τ).loc Cert.KProjIdeal.main_arg12) = m ((c.tc : Thread Cert.KProjIdeal.nD Cert.KProjIdeal.τ).loc Cert.KProjIdeal.main_arg12))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3)
      ∧ r.2.mem ((c.tc : Thread Cert.RProjIdeal.nD Cert.RProjIdeal.τ).loc Cert.RProjIdeal.main_arg4) = m ((c.tc : Thread Cert.RProjIdeal.nD Cert.RProjIdeal.τ).loc Cert.RProjIdeal.main_arg4)
      ∧ r.2.mem ((c.tc : Thread Cert.RProjIdeal.nD Cert.RProjIdeal.τ).loc Cert.RProjIdeal.main_arg5) = m ((c.tc : Thread Cert.RProjIdeal.nD Cert.RProjIdeal.τ).loc Cert.RProjIdeal.main_arg5)
      ∧ r.2.mem ((c.tc : Thread Cert.RProjIdeal.nD Cert.RProjIdeal.τ).loc Cert.RProjIdeal.main_arg6) = m ((c.tc : Thread Cert.RProjIdeal.nD Cert.RProjIdeal.τ).loc Cert.RProjIdeal.main_arg6)
      ∧ r.2.mem ((c.tc : Thread Cert.RProjIdeal.nD Cert.RProjIdeal.τ).loc Cert.RProjIdeal.main_arg7) = m ((c.tc : Thread Cert.RProjIdeal.nD Cert.RProjIdeal.τ).loc Cert.RProjIdeal.main_arg7)
      ∧ r.2.mem ((c.tc : Thread Cert.RProjIdeal.nD Cert.RProjIdeal.τ).loc Cert.RProjIdeal.main_arg8) = m ((c.tc : Thread Cert.RProjIdeal.nD Cert.RProjIdeal.τ).loc Cert.RProjIdeal.main_arg8)
      ∧ r.2.mem ((c.tc : Thread Cert.RProjIdeal.nD Cert.RProjIdeal.τ).loc Cert.RProjIdeal.main_arg9) = m ((c.tc : Thread Cert.RProjIdeal.nD Cert.RProjIdeal.τ).loc Cert.RProjIdeal.main_arg9)
      ∧ r.2.mem ((c.tc : Thread Cert.RProjIdeal.nD Cert.RProjIdeal.τ).loc Cert.RProjIdeal.main_arg10) = m ((c.tc : Thread Cert.RProjIdeal.nD Cert.RProjIdeal.τ).loc Cert.RProjIdeal.main_arg10)
      ∧ r.2.mem ((c.tc : Thread Cert.RProjIdeal.nD Cert.RProjIdeal.τ).loc Cert.RProjIdeal.main_arg11) = m ((c.tc : Thread Cert.RProjIdeal.nD Cert.RProjIdeal.τ).loc Cert.RProjIdeal.main_arg11)
      ∧ r.2.mem ((c.tc : Thread Cert.RProjIdeal.nD Cert.RProjIdeal.τ).loc Cert.RProjIdeal.main_arg12) = m ((c.tc : Thread Cert.RProjIdeal.nD Cert.RProjIdeal.τ).loc Cert.RProjIdeal.main_arg12))
      ∧ r.2.sem = fun _ => 0)

def quiescent_KAttn [hKAttn : Cert.KAttn.Facts] : Prop :=
  ∀ (m : (ℓ : Loc Cert.KAttn.nD Cert.KAttn.τ Cert.KAttn.sig) → Buf (Elt Bits) ℓ) (g : Dev Cert.KAttn.nD → PrngReg), Pre_KAttn m →
    θ_run (Cert.KAttn.defs (F := Bits)) (onTc (τ := Cert.KAttn.τ) (Cert.KAttn.main (F := Bits))) ⟨m, fun _ => 0, g⟩ (fun r => (∀ c : Dev Cert.KAttn.nD,
      r.2.mem ((c.tc : Thread Cert.KAttn.nD Cert.KAttn.τ).loc Cert.KAttn.main_arg0) = m ((c.tc : Thread Cert.KAttn.nD Cert.KAttn.τ).loc Cert.KAttn.main_arg0)
      ∧ r.2.mem ((c.tc : Thread Cert.KAttn.nD Cert.KAttn.τ).loc Cert.KAttn.main_arg1) = m ((c.tc : Thread Cert.KAttn.nD Cert.KAttn.τ).loc Cert.KAttn.main_arg1)
      ∧ r.2.mem ((c.tc : Thread Cert.KAttn.nD Cert.KAttn.τ).loc Cert.KAttn.main_arg2) = m ((c.tc : Thread Cert.KAttn.nD Cert.KAttn.τ).loc Cert.KAttn.main_arg2)
      ∧ r.2.mem ((c.tc : Thread Cert.KAttn.nD Cert.KAttn.τ).loc Cert.KAttn.main_arg3) = m ((c.tc : Thread Cert.KAttn.nD Cert.KAttn.τ).loc Cert.KAttn.main_arg3)
      ∧ r.2.mem ((c.tc : Thread Cert.KAttn.nD Cert.KAttn.τ).loc Cert.KAttn.main_arg4) = m ((c.tc : Thread Cert.KAttn.nD Cert.KAttn.τ).loc Cert.KAttn.main_arg4)
      ∧ r.2.mem ((c.tc : Thread Cert.KAttn.nD Cert.KAttn.τ).loc Cert.KAttn.main_arg5) = m ((c.tc : Thread Cert.KAttn.nD Cert.KAttn.τ).loc Cert.KAttn.main_arg5)
      ∧ r.2.mem ((c.tc : Thread Cert.KAttn.nD Cert.KAttn.τ).loc Cert.KAttn.main_arg6) = m ((c.tc : Thread Cert.KAttn.nD Cert.KAttn.τ).loc Cert.KAttn.main_arg6))
      ∧ r.2.sem = fun _ => 0)

def quiescent_KAttnIdeal [hKAttnIdeal : Cert.KAttnIdeal.Facts] : Prop :=
  ∀ (m : (ℓ : Loc Cert.KAttnIdeal.nD Cert.KAttnIdeal.τ Cert.KAttnIdeal.sig) → Buf (Elt Ideal) ℓ) (g : Dev Cert.KAttnIdeal.nD → PrngReg), Pre_KAttnIdeal m →
    θ_run (Cert.KAttnIdeal.defs (F := Ideal)) (onTc (τ := Cert.KAttnIdeal.τ) (Cert.KAttnIdeal.main (F := Ideal))) ⟨m, fun _ => 0, g⟩ (fun r => (∀ c : Dev Cert.KAttnIdeal.nD,
      r.2.mem ((c.tc : Thread Cert.KAttnIdeal.nD Cert.KAttnIdeal.τ).loc Cert.KAttnIdeal.main_arg0) = m ((c.tc : Thread Cert.KAttnIdeal.nD Cert.KAttnIdeal.τ).loc Cert.KAttnIdeal.main_arg0)
      ∧ r.2.mem ((c.tc : Thread Cert.KAttnIdeal.nD Cert.KAttnIdeal.τ).loc Cert.KAttnIdeal.main_arg1) = m ((c.tc : Thread Cert.KAttnIdeal.nD Cert.KAttnIdeal.τ).loc Cert.KAttnIdeal.main_arg1)
      ∧ r.2.mem ((c.tc : Thread Cert.KAttnIdeal.nD Cert.KAttnIdeal.τ).loc Cert.KAttnIdeal.main_arg2) = m ((c.tc : Thread Cert.KAttnIdeal.nD Cert.KAttnIdeal.τ).loc Cert.KAttnIdeal.main_arg2)
      ∧ r.2.mem ((c.tc : Thread Cert.KAttnIdeal.nD Cert.KAttnIdeal.τ).loc Cert.KAttnIdeal.main_arg3) = m ((c.tc : Thread Cert.KAttnIdeal.nD Cert.KAttnIdeal.τ).loc Cert.KAttnIdeal.main_arg3)
      ∧ r.2.mem ((c.tc : Thread Cert.KAttnIdeal.nD Cert.KAttnIdeal.τ).loc Cert.KAttnIdeal.main_arg4) = m ((c.tc : Thread Cert.KAttnIdeal.nD Cert.KAttnIdeal.τ).loc Cert.KAttnIdeal.main_arg4)
      ∧ r.2.mem ((c.tc : Thread Cert.KAttnIdeal.nD Cert.KAttnIdeal.τ).loc Cert.KAttnIdeal.main_arg5) = m ((c.tc : Thread Cert.KAttnIdeal.nD Cert.KAttnIdeal.τ).loc Cert.KAttnIdeal.main_arg5)
      ∧ r.2.mem ((c.tc : Thread Cert.KAttnIdeal.nD Cert.KAttnIdeal.τ).loc Cert.KAttnIdeal.main_arg6) = m ((c.tc : Thread Cert.KAttnIdeal.nD Cert.KAttnIdeal.τ).loc Cert.KAttnIdeal.main_arg6))
      ∧ r.2.sem = fun _ => 0)

def preserves_KDw_KDwIdeal : Prop :=
  True

def algebraic_KDwIdeal_RDwIdeal [hKDwIdeal : Cert.KDwIdeal.Facts] [hRDwIdeal : Cert.RDwIdeal.Facts] : Prop :=
  ∀ (m : (ℓ : Loc Cert.KDwIdeal.nD Cert.KDwIdeal.τ Cert.KDwIdeal.sig) → Buf (Elt Ideal) ℓ) (g : Dev Cert.KDwIdeal.nD → PrngReg)
    (m' : (ℓ : Loc Cert.RDwIdeal.nD Cert.RDwIdeal.τ Cert.RDwIdeal.sig) → Buf (Elt Ideal) ℓ) (g' : Dev Cert.RDwIdeal.nD → PrngReg), Pre_KDwIdeal m →
    (∀ c : Dev Cert.KDwIdeal.nD,
      m' ((c.tc : Thread Cert.RDwIdeal.nD Cert.RDwIdeal.τ).loc Cert.RDwIdeal.main_arg0) = m ((c.tc : Thread Cert.KDwIdeal.nD Cert.KDwIdeal.τ).loc Cert.KDwIdeal.main_arg0)
      ∧ m' ((c.tc : Thread Cert.RDwIdeal.nD Cert.RDwIdeal.τ).loc Cert.RDwIdeal.main_arg1) = m ((c.tc : Thread Cert.KDwIdeal.nD Cert.KDwIdeal.τ).loc Cert.KDwIdeal.main_arg1)
      ∧ m' ((c.tc : Thread Cert.RDwIdeal.nD Cert.RDwIdeal.τ).loc Cert.RDwIdeal.main_arg2) = m ((c.tc : Thread Cert.KDwIdeal.nD Cert.KDwIdeal.τ).loc Cert.KDwIdeal.main_arg2)
      ∧ m' ((c.tc : Thread Cert.RDwIdeal.nD Cert.RDwIdeal.τ).loc Cert.RDwIdeal.main_arg3) = m ((c.tc : Thread Cert.KDwIdeal.nD Cert.KDwIdeal.τ).loc Cert.KDwIdeal.main_arg3)
      ∧ m' ((c.tc : Thread Cert.RDwIdeal.nD Cert.RDwIdeal.τ).loc Cert.RDwIdeal.main_arg4) = m ((c.tc : Thread Cert.KDwIdeal.nD Cert.KDwIdeal.τ).loc Cert.KDwIdeal.main_arg4)
      ∧ m' ((c.tc : Thread Cert.RDwIdeal.nD Cert.RDwIdeal.τ).loc Cert.RDwIdeal.main_arg5) = m ((c.tc : Thread Cert.KDwIdeal.nD Cert.KDwIdeal.τ).loc Cert.KDwIdeal.main_arg5)
      ∧ m' ((c.tc : Thread Cert.RDwIdeal.nD Cert.RDwIdeal.τ).loc Cert.RDwIdeal.main_arg6) = m ((c.tc : Thread Cert.KDwIdeal.nD Cert.KDwIdeal.τ).loc Cert.KDwIdeal.main_arg6)
      ∧ m' ((c.tc : Thread Cert.RDwIdeal.nD Cert.RDwIdeal.τ).loc Cert.RDwIdeal.main_arg7) = m ((c.tc : Thread Cert.KDwIdeal.nD Cert.KDwIdeal.τ).loc Cert.KDwIdeal.main_arg7)) →
    ∃ (v0 : (c : Dev Cert.KDwIdeal.nD) → Buf (Elt Ideal) ((c.tc : Thread Cert.KDwIdeal.nD Cert.KDwIdeal.τ).loc Cert.KDwIdeal.main_v8_0)) (v1 : (c : Dev Cert.KDwIdeal.nD) → Buf (Elt Ideal) ((c.tc : Thread Cert.KDwIdeal.nD Cert.KDwIdeal.τ).loc Cert.KDwIdeal.main_v8_1)) (v2 : (c : Dev Cert.KDwIdeal.nD) → Buf (Elt Ideal) ((c.tc : Thread Cert.KDwIdeal.nD Cert.KDwIdeal.τ).loc Cert.KDwIdeal.main_v8_2)),
      θ_run (Cert.KDwIdeal.defs (F := Ideal)) (onTc (τ := Cert.KDwIdeal.τ) (Cert.KDwIdeal.main (F := Ideal))) ⟨m, fun _ => 0, g⟩ (fun r => ∀ c : Dev Cert.KDwIdeal.nD,
          r.2.mem ((c.tc : Thread Cert.KDwIdeal.nD Cert.KDwIdeal.τ).loc Cert.KDwIdeal.main_v8_0) = v0 c
          ∧ r.2.mem ((c.tc : Thread Cert.KDwIdeal.nD Cert.KDwIdeal.τ).loc Cert.KDwIdeal.main_v8_1) = v1 c
          ∧ r.2.mem ((c.tc : Thread Cert.KDwIdeal.nD Cert.KDwIdeal.τ).loc Cert.KDwIdeal.main_v8_2) = v2 c
          ∧ r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
          ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1)
          ∧ r.2.mem ((c.tc : Thread Cert.KDwIdeal.nD Cert.KDwIdeal.τ).loc Cert.KDwIdeal.main_arg2) = m ((c.tc : Thread Cert.KDwIdeal.nD Cert.KDwIdeal.τ).loc Cert.KDwIdeal.main_arg2)
          ∧ r.2.mem ((c.tc : Thread Cert.KDwIdeal.nD Cert.KDwIdeal.τ).loc Cert.KDwIdeal.main_arg3) = m ((c.tc : Thread Cert.KDwIdeal.nD Cert.KDwIdeal.τ).loc Cert.KDwIdeal.main_arg3)
          ∧ r.2.mem ((c.tc : Thread Cert.KDwIdeal.nD Cert.KDwIdeal.τ).loc Cert.KDwIdeal.main_arg4) = m ((c.tc : Thread Cert.KDwIdeal.nD Cert.KDwIdeal.τ).loc Cert.KDwIdeal.main_arg4)
          ∧ r.2.mem ((c.tc : Thread Cert.KDwIdeal.nD Cert.KDwIdeal.τ).loc Cert.KDwIdeal.main_arg5) = m ((c.tc : Thread Cert.KDwIdeal.nD Cert.KDwIdeal.τ).loc Cert.KDwIdeal.main_arg5)
          ∧ r.2.mem ((c.tc : Thread Cert.KDwIdeal.nD Cert.KDwIdeal.τ).loc Cert.KDwIdeal.main_arg6) = m ((c.tc : Thread Cert.KDwIdeal.nD Cert.KDwIdeal.τ).loc Cert.KDwIdeal.main_arg6)
          ∧ r.2.mem ((c.tc : Thread Cert.KDwIdeal.nD Cert.KDwIdeal.τ).loc Cert.KDwIdeal.main_arg7) = m ((c.tc : Thread Cert.KDwIdeal.nD Cert.KDwIdeal.τ).loc Cert.KDwIdeal.main_arg7))
      ∧ θ_run (Cert.RDwIdeal.defs (F := Ideal)) (onTc (τ := Cert.RDwIdeal.τ) (Cert.RDwIdeal.main (F := Ideal))) ⟨m', fun _ => 0, g'⟩ (fun r => ∀ c : Dev Cert.RDwIdeal.nD,
          r.2.mem ((c.tc : Thread Cert.RDwIdeal.nD Cert.RDwIdeal.τ).loc Cert.RDwIdeal.main_v8_0) = v0 c
          ∧ r.2.mem ((c.tc : Thread Cert.RDwIdeal.nD Cert.RDwIdeal.τ).loc Cert.RDwIdeal.main_v8_1) = v1 c
          ∧ r.2.mem ((c.tc : Thread Cert.RDwIdeal.nD Cert.RDwIdeal.τ).loc Cert.RDwIdeal.main_v8_2) = v2 c
          ∧ r.2.mem ((c.tc : Thread Cert.RDwIdeal.nD Cert.RDwIdeal.τ).loc Cert.RDwIdeal.main_arg0) = m' ((c.tc : Thread Cert.RDwIdeal.nD Cert.RDwIdeal.τ).loc Cert.RDwIdeal.main_arg0)
          ∧ r.2.mem ((c.tc : Thread Cert.RDwIdeal.nD Cert.RDwIdeal.τ).loc Cert.RDwIdeal.main_arg1) = m' ((c.tc : Thread Cert.RDwIdeal.nD Cert.RDwIdeal.τ).loc Cert.RDwIdeal.main_arg1)
          ∧ r.2.mem ((c.tc : Thread Cert.RDwIdeal.nD Cert.RDwIdeal.τ).loc Cert.RDwIdeal.main_arg2) = m' ((c.tc : Thread Cert.RDwIdeal.nD Cert.RDwIdeal.τ).loc Cert.RDwIdeal.main_arg2)
          ∧ r.2.mem ((c.tc : Thread Cert.RDwIdeal.nD Cert.RDwIdeal.τ).loc Cert.RDwIdeal.main_arg3) = m' ((c.tc : Thread Cert.RDwIdeal.nD Cert.RDwIdeal.τ).loc Cert.RDwIdeal.main_arg3)
          ∧ r.2.mem ((c.tc : Thread Cert.RDwIdeal.nD Cert.RDwIdeal.τ).loc Cert.RDwIdeal.main_arg4) = m' ((c.tc : Thread Cert.RDwIdeal.nD Cert.RDwIdeal.τ).loc Cert.RDwIdeal.main_arg4)
          ∧ r.2.mem ((c.tc : Thread Cert.RDwIdeal.nD Cert.RDwIdeal.τ).loc Cert.RDwIdeal.main_arg5) = m' ((c.tc : Thread Cert.RDwIdeal.nD Cert.RDwIdeal.τ).loc Cert.RDwIdeal.main_arg5)
          ∧ r.2.mem ((c.tc : Thread Cert.RDwIdeal.nD Cert.RDwIdeal.τ).loc Cert.RDwIdeal.main_arg6) = m' ((c.tc : Thread Cert.RDwIdeal.nD Cert.RDwIdeal.τ).loc Cert.RDwIdeal.main_arg6)
          ∧ r.2.mem ((c.tc : Thread Cert.RDwIdeal.nD Cert.RDwIdeal.τ).loc Cert.RDwIdeal.main_arg7) = m' ((c.tc : Thread Cert.RDwIdeal.nD Cert.RDwIdeal.τ).loc Cert.RDwIdeal.main_arg7))

def preserves_KDwo_KDwoIdeal : Prop :=
  True

def algebraic_KDwoIdeal_RDwoIdeal [hKDwoIdeal : Cert.KDwoIdeal.Facts] [hRDwoIdeal : Cert.RDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg)
    (m' : (ℓ : Loc Cert.RDwoIdeal.nD Cert.RDwoIdeal.τ Cert.RDwoIdeal.sig) → Buf (Elt Ideal) ℓ) (g' : Dev Cert.RDwoIdeal.nD → PrngReg), Pre_KDwoIdeal m →
    (∀ c : Dev Cert.KDwoIdeal.nD,
      m' ((c.tc : Thread Cert.RDwoIdeal.nD Cert.RDwoIdeal.τ).loc Cert.RDwoIdeal.main_arg0) = m ((c.tc : Thread Cert.KDwoIdeal.nD Cert.KDwoIdeal.τ).loc Cert.KDwoIdeal.main_arg0)
      ∧ m' ((c.tc : Thread Cert.RDwoIdeal.nD Cert.RDwoIdeal.τ).loc Cert.RDwoIdeal.main_arg1) = m ((c.tc : Thread Cert.KDwoIdeal.nD Cert.KDwoIdeal.τ).loc Cert.KDwoIdeal.main_arg1)
      ∧ m' ((c.tc : Thread Cert.RDwoIdeal.nD Cert.RDwoIdeal.τ).loc Cert.RDwoIdeal.main_arg2) = m ((c.tc : Thread Cert.KDwoIdeal.nD Cert.KDwoIdeal.τ).loc Cert.KDwoIdeal.main_arg2)
      ∧ m' ((c.tc : Thread Cert.RDwoIdeal.nD Cert.RDwoIdeal.τ).loc Cert.RDwoIdeal.main_arg3) = m ((c.tc : Thread Cert.KDwoIdeal.nD Cert.KDwoIdeal.τ).loc Cert.KDwoIdeal.main_arg3)) →
    ∃ (v0 : (c : Dev Cert.KDwoIdeal.nD) → Buf (Elt Ideal) ((c.tc : Thread Cert.KDwoIdeal.nD Cert.KDwoIdeal.τ).loc Cert.KDwoIdeal.main_v4)),
      θ_run (Cert.KDwoIdeal.defs (F := Ideal)) (onTc (τ := Cert.KDwoIdeal.τ) (Cert.KDwoIdeal.main (F := Ideal))) ⟨m, fun _ => 0, g⟩ (fun r => ∀ c : Dev Cert.KDwoIdeal.nD,
          r.2.mem ((c.tc : Thread Cert.KDwoIdeal.nD Cert.KDwoIdeal.τ).loc Cert.KDwoIdeal.main_v4) = v0 c
          ∧ r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
          ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1)
          ∧ r.2.mem ((c.tc : Thread Cert.KDwoIdeal.nD Cert.KDwoIdeal.τ).loc Cert.KDwoIdeal.main_arg2) = m ((c.tc : Thread Cert.KDwoIdeal.nD Cert.KDwoIdeal.τ).loc Cert.KDwoIdeal.main_arg2)
          ∧ r.2.mem ((c.tc : Thread Cert.KDwoIdeal.nD Cert.KDwoIdeal.τ).loc Cert.KDwoIdeal.main_arg3) = m ((c.tc : Thread Cert.KDwoIdeal.nD Cert.KDwoIdeal.τ).loc Cert.KDwoIdeal.main_arg3))
      ∧ θ_run (Cert.RDwoIdeal.defs (F := Ideal)) (onTc (τ := Cert.RDwoIdeal.τ) (Cert.RDwoIdeal.main (F := Ideal))) ⟨m', fun _ => 0, g'⟩ (fun r => ∀ c : Dev Cert.RDwoIdeal.nD,
          r.2.mem ((c.tc : Thread Cert.RDwoIdeal.nD Cert.RDwoIdeal.τ).loc Cert.RDwoIdeal.main_v4) = v0 c
          ∧ r.2.mem ((c.tc : Thread Cert.RDwoIdeal.nD Cert.RDwoIdeal.τ).loc Cert.RDwoIdeal.main_arg0) = m' ((c.tc : Thread Cert.RDwoIdeal.nD Cert.RDwoIdeal.τ).loc Cert.RDwoIdeal.main_arg0)
          ∧ r.2.mem ((c.tc : Thread Cert.RDwoIdeal.nD Cert.RDwoIdeal.τ).loc Cert.RDwoIdeal.main_arg1) = m' ((c.tc : Thread Cert.RDwoIdeal.nD Cert.RDwoIdeal.τ).loc Cert.RDwoIdeal.main_arg1)
          ∧ r.2.mem ((c.tc : Thread Cert.RDwoIdeal.nD Cert.RDwoIdeal.τ).loc Cert.RDwoIdeal.main_arg2) = m' ((c.tc : Thread Cert.RDwoIdeal.nD Cert.RDwoIdeal.τ).loc Cert.RDwoIdeal.main_arg2)
          ∧ r.2.mem ((c.tc : Thread Cert.RDwoIdeal.nD Cert.RDwoIdeal.τ).loc Cert.RDwoIdeal.main_arg3) = m' ((c.tc : Thread Cert.RDwoIdeal.nD Cert.RDwoIdeal.τ).loc Cert.RDwoIdeal.main_arg3))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)
      ∧ m' ((c.tc : Thread Cert.ROutIdeal.nD Cert.ROutIdeal.τ).loc Cert.ROutIdeal.main_arg4) = m ((c.tc : Thread Cert.KOutIdeal.nD Cert.KOutIdeal.τ).loc Cert.KOutIdeal.main_arg4)) →
    ∃ (v0 : (c : Dev Cert.KOutIdeal.nD) → Buf (Elt Ideal) ((c.tc : Thread Cert.KOutIdeal.nD Cert.KOutIdeal.τ).loc Cert.KOutIdeal.main_v4)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v4) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3)
          ∧ r.2.mem ((c.tc : Thread Cert.KOutIdeal.nD Cert.KOutIdeal.τ).loc Cert.KOutIdeal.main_arg4) = m ((c.tc : Thread Cert.KOutIdeal.nD Cert.KOutIdeal.τ).loc Cert.KOutIdeal.main_arg4))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v4) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3)
          ∧ r.2.mem ((c.tc : Thread Cert.ROutIdeal.nD Cert.ROutIdeal.τ).loc Cert.ROutIdeal.main_arg4) = m' ((c.tc : Thread Cert.ROutIdeal.nD Cert.ROutIdeal.τ).loc Cert.ROutIdeal.main_arg4))

def preserves_KDx_KDxIdeal : Prop :=
  IdealRules.named_const.Statement Cert.KDxIdeal.κ "inv_d" .f32 0x3A2AAAAB#32 ((1 / 1536 : ℝ) : EReal)

def algebraic_KDxIdeal_RDxIdeal [hKDxIdeal : Cert.KDxIdeal.Facts] [hRDxIdeal : Cert.RDxIdeal.Facts] : Prop :=
  ∀ (m : (ℓ : Loc Cert.KDxIdeal.nD Cert.KDxIdeal.τ Cert.KDxIdeal.sig) → Buf (Elt Ideal) ℓ) (g : Dev Cert.KDxIdeal.nD → PrngReg)
    (m' : (ℓ : Loc Cert.RDxIdeal.nD Cert.RDxIdeal.τ Cert.RDxIdeal.sig) → Buf (Elt Ideal) ℓ) (g' : Dev Cert.RDxIdeal.nD → PrngReg), Pre_KDxIdeal m →
    (∀ c : Dev Cert.KDxIdeal.nD,
      m' ((c.tc : Thread Cert.RDxIdeal.nD Cert.RDxIdeal.τ).loc Cert.RDxIdeal.main_arg0) = m ((c.tc : Thread Cert.KDxIdeal.nD Cert.KDxIdeal.τ).loc Cert.KDxIdeal.main_arg0)
      ∧ m' ((c.tc : Thread Cert.RDxIdeal.nD Cert.RDxIdeal.τ).loc Cert.RDxIdeal.main_arg1) = m ((c.tc : Thread Cert.KDxIdeal.nD Cert.KDxIdeal.τ).loc Cert.KDxIdeal.main_arg1)
      ∧ m' ((c.tc : Thread Cert.RDxIdeal.nD Cert.RDxIdeal.τ).loc Cert.RDxIdeal.main_arg2) = m ((c.tc : Thread Cert.KDxIdeal.nD Cert.KDxIdeal.τ).loc Cert.KDxIdeal.main_arg2)
      ∧ m' ((c.tc : Thread Cert.RDxIdeal.nD Cert.RDxIdeal.τ).loc Cert.RDxIdeal.main_arg3) = m ((c.tc : Thread Cert.KDxIdeal.nD Cert.KDxIdeal.τ).loc Cert.KDxIdeal.main_arg3)
      ∧ m' ((c.tc : Thread Cert.RDxIdeal.nD Cert.RDxIdeal.τ).loc Cert.RDxIdeal.main_arg4) = m ((c.tc : Thread Cert.KDxIdeal.nD Cert.KDxIdeal.τ).loc Cert.KDxIdeal.main_arg4)
      ∧ m' ((c.tc : Thread Cert.RDxIdeal.nD Cert.RDxIdeal.τ).loc Cert.RDxIdeal.main_arg5) = m ((c.tc : Thread Cert.KDxIdeal.nD Cert.KDxIdeal.τ).loc Cert.KDxIdeal.main_arg5)
      ∧ m' ((c.tc : Thread Cert.RDxIdeal.nD Cert.RDxIdeal.τ).loc Cert.RDxIdeal.main_arg6) = m ((c.tc : Thread Cert.KDxIdeal.nD Cert.KDxIdeal.τ).loc Cert.KDxIdeal.main_arg6)
      ∧ m' ((c.tc : Thread Cert.RDxIdeal.nD Cert.RDxIdeal.τ).loc Cert.RDxIdeal.main_arg7) = m ((c.tc : Thread Cert.KDxIdeal.nD Cert.KDxIdeal.τ).loc Cert.KDxIdeal.main_arg7)
      ∧ m' ((c.tc : Thread Cert.RDxIdeal.nD Cert.RDxIdeal.τ).loc Cert.RDxIdeal.main_arg8) = m ((c.tc : Thread Cert.KDxIdeal.nD Cert.KDxIdeal.τ).loc Cert.KDxIdeal.main_arg8)
      ∧ m' ((c.tc : Thread Cert.RDxIdeal.nD Cert.RDxIdeal.τ).loc Cert.RDxIdeal.main_arg9) = m ((c.tc : Thread Cert.KDxIdeal.nD Cert.KDxIdeal.τ).loc Cert.KDxIdeal.main_arg9)
      ∧ m' ((c.tc : Thread Cert.RDxIdeal.nD Cert.RDxIdeal.τ).loc Cert.RDxIdeal.main_arg10) = m ((c.tc : Thread Cert.KDxIdeal.nD Cert.KDxIdeal.τ).loc Cert.KDxIdeal.main_arg10)
      ∧ m' ((c.tc : Thread Cert.RDxIdeal.nD Cert.RDxIdeal.τ).loc Cert.RDxIdeal.main_arg11) = m ((c.tc : Thread Cert.KDxIdeal.nD Cert.KDxIdeal.τ).loc Cert.KDxIdeal.main_arg11)
      ∧ m' ((c.tc : Thread Cert.RDxIdeal.nD Cert.RDxIdeal.τ).loc Cert.RDxIdeal.main_arg12) = m ((c.tc : Thread Cert.KDxIdeal.nD Cert.KDxIdeal.τ).loc Cert.KDxIdeal.main_arg12)
      ∧ m' ((c.tc : Thread Cert.RDxIdeal.nD Cert.RDxIdeal.τ).loc Cert.RDxIdeal.main_arg13) = m ((c.tc : Thread Cert.KDxIdeal.nD Cert.KDxIdeal.τ).loc Cert.KDxIdeal.main_arg13)
      ∧ m' ((c.tc : Thread Cert.RDxIdeal.nD Cert.RDxIdeal.τ).loc Cert.RDxIdeal.main_arg14) = m ((c.tc : Thread Cert.KDxIdeal.nD Cert.KDxIdeal.τ).loc Cert.KDxIdeal.main_arg14)) →
    ∃ (v0 : (c : Dev Cert.KDxIdeal.nD) → Buf (Elt Ideal) ((c.tc : Thread Cert.KDxIdeal.nD Cert.KDxIdeal.τ).loc Cert.KDxIdeal.main_v9_0)) (v1 : (c : Dev Cert.KDxIdeal.nD) → Buf (Elt Ideal) ((c.tc : Thread Cert.KDxIdeal.nD Cert.KDxIdeal.τ).loc Cert.KDxIdeal.main_v9_1)) (v2 : (c : Dev Cert.KDxIdeal.nD) → Buf (Elt Ideal) ((c.tc : Thread Cert.KDxIdeal.nD Cert.KDxIdeal.τ).loc Cert.KDxIdeal.main_v9_2)) (v3 : (c : Dev Cert.KDxIdeal.nD) → Buf (Elt Ideal) ((c.tc : Thread Cert.KDxIdeal.nD Cert.KDxIdeal.τ).loc Cert.KDxIdeal.main_v9_3)) (v4 : (c : Dev Cert.KDxIdeal.nD) → Buf (Elt Ideal) ((c.tc : Thread Cert.KDxIdeal.nD Cert.KDxIdeal.τ).loc Cert.KDxIdeal.main_v9_4)) (v5 : (c : Dev Cert.KDxIdeal.nD) → Buf (Elt Ideal) ((c.tc : Thread Cert.KDxIdeal.nD Cert.KDxIdeal.τ).loc Cert.KDxIdeal.main_v9_5)) (v6 : (c : Dev Cert.KDxIdeal.nD) → Buf (Elt Ideal) ((c.tc : Thread Cert.KDxIdeal.nD Cert.KDxIdeal.τ).loc Cert.KDxIdeal.main_v9_6)) (v7 : (c : Dev Cert.KDxIdeal.nD) → Buf (Elt Ideal) ((c.tc : Thread Cert.KDxIdeal.nD Cert.KDxIdeal.τ).loc Cert.KDxIdeal.main_v9_7)) (v8 : (c : Dev Cert.KDxIdeal.nD) → Buf (Elt Ideal) ((c.tc : Thread Cert.KDxIdeal.nD Cert.KDxIdeal.τ).loc Cert.KDxIdeal.main_v9_8)),
      θ_run (Cert.KDxIdeal.defs (F := Ideal)) (onTc (τ := Cert.KDxIdeal.τ) (Cert.KDxIdeal.main (F := Ideal))) ⟨m, fun _ => 0, g⟩ (fun r => ∀ c : Dev Cert.KDxIdeal.nD,
          r.2.mem ((c.tc : Thread Cert.KDxIdeal.nD Cert.KDxIdeal.τ).loc Cert.KDxIdeal.main_v9_0) = v0 c
          ∧ r.2.mem ((c.tc : Thread Cert.KDxIdeal.nD Cert.KDxIdeal.τ).loc Cert.KDxIdeal.main_v9_1) = v1 c
          ∧ r.2.mem ((c.tc : Thread Cert.KDxIdeal.nD Cert.KDxIdeal.τ).loc Cert.KDxIdeal.main_v9_2) = v2 c
          ∧ r.2.mem ((c.tc : Thread Cert.KDxIdeal.nD Cert.KDxIdeal.τ).loc Cert.KDxIdeal.main_v9_3) = v3 c
          ∧ r.2.mem ((c.tc : Thread Cert.KDxIdeal.nD Cert.KDxIdeal.τ).loc Cert.KDxIdeal.main_v9_4) = v4 c
          ∧ r.2.mem ((c.tc : Thread Cert.KDxIdeal.nD Cert.KDxIdeal.τ).loc Cert.KDxIdeal.main_v9_5) = v5 c
          ∧ r.2.mem ((c.tc : Thread Cert.KDxIdeal.nD Cert.KDxIdeal.τ).loc Cert.KDxIdeal.main_v9_6) = v6 c
          ∧ r.2.mem ((c.tc : Thread Cert.KDxIdeal.nD Cert.KDxIdeal.τ).loc Cert.KDxIdeal.main_v9_7) = v7 c
          ∧ r.2.mem ((c.tc : Thread Cert.KDxIdeal.nD Cert.KDxIdeal.τ).loc Cert.KDxIdeal.main_v9_8) = v8 c
          ∧ r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
          ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
          ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
          ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3)
          ∧ r.2.mem ((c.tc : Thread Cert.KDxIdeal.nD Cert.KDxIdeal.τ).loc Cert.KDxIdeal.main_arg4) = m ((c.tc : Thread Cert.KDxIdeal.nD Cert.KDxIdeal.τ).loc Cert.KDxIdeal.main_arg4)
          ∧ r.2.mem ((c.tc : Thread Cert.KDxIdeal.nD Cert.KDxIdeal.τ).loc Cert.KDxIdeal.main_arg5) = m ((c.tc : Thread Cert.KDxIdeal.nD Cert.KDxIdeal.τ).loc Cert.KDxIdeal.main_arg5)
          ∧ r.2.mem ((c.tc : Thread Cert.KDxIdeal.nD Cert.KDxIdeal.τ).loc Cert.KDxIdeal.main_arg6) = m ((c.tc : Thread Cert.KDxIdeal.nD Cert.KDxIdeal.τ).loc Cert.KDxIdeal.main_arg6)
          ∧ r.2.mem ((c.tc : Thread Cert.KDxIdeal.nD Cert.KDxIdeal.τ).loc Cert.KDxIdeal.main_arg7) = m ((c.tc : Thread Cert.KDxIdeal.nD Cert.KDxIdeal.τ).loc Cert.KDxIdeal.main_arg7)
          ∧ r.2.mem ((c.tc : Thread Cert.KDxIdeal.nD Cert.KDxIdeal.τ).loc Cert.KDxIdeal.main_arg8) = m ((c.tc : Thread Cert.KDxIdeal.nD Cert.KDxIdeal.τ).loc Cert.KDxIdeal.main_arg8)
          ∧ r.2.mem ((c.tc : Thread Cert.KDxIdeal.nD Cert.KDxIdeal.τ).loc Cert.KDxIdeal.main_arg9) = m ((c.tc : Thread Cert.KDxIdeal.nD Cert.KDxIdeal.τ).loc Cert.KDxIdeal.main_arg9)
          ∧ r.2.mem ((c.tc : Thread Cert.KDxIdeal.nD Cert.KDxIdeal.τ).loc Cert.KDxIdeal.main_arg10) = m ((c.tc : Thread Cert.KDxIdeal.nD Cert.KDxIdeal.τ).loc Cert.KDxIdeal.main_arg10)
          ∧ r.2.mem ((c.tc : Thread Cert.KDxIdeal.nD Cert.KDxIdeal.τ).loc Cert.KDxIdeal.main_arg11) = m ((c.tc : Thread Cert.KDxIdeal.nD Cert.KDxIdeal.τ).loc Cert.KDxIdeal.main_arg11)
          ∧ r.2.mem ((c.tc : Thread Cert.KDxIdeal.nD Cert.KDxIdeal.τ).loc Cert.KDxIdeal.main_arg12) = m ((c.tc : Thread Cert.KDxIdeal.nD Cert.KDxIdeal.τ).loc Cert.KDxIdeal.main_arg12)
          ∧ r.2.mem ((c.tc : Thread Cert.KDxIdeal.nD Cert.KDxIdeal.τ).loc Cert.KDxIdeal.main_arg13) = m ((c.tc : Thread Cert.KDxIdeal.nD Cert.KDxIdeal.τ).loc Cert.KDxIdeal.main_arg13)
          ∧ r.2.mem ((c.tc : Thread Cert.KDxIdeal.nD Cert.KDxIdeal.τ).loc Cert.KDxIdeal.main_arg14) = m ((c.tc : Thread Cert.KDxIdeal.nD Cert.KDxIdeal.τ).loc Cert.KDxIdeal.main_arg14))
      ∧ θ_run (Cert.RDxIdeal.defs (F := Ideal)) (onTc (τ := Cert.RDxIdeal.τ) (Cert.RDxIdeal.main (F := Ideal))) ⟨m', fun _ => 0, g'⟩ (fun r => ∀ c : Dev Cert.RDxIdeal.nD,
          r.2.mem ((c.tc : Thread Cert.RDxIdeal.nD Cert.RDxIdeal.τ).loc Cert.RDxIdeal.main_v9_0) = v0 c
          ∧ r.2.mem ((c.tc : Thread Cert.RDxIdeal.nD Cert.RDxIdeal.τ).loc Cert.RDxIdeal.main_v9_1) = v1 c
          ∧ r.2.mem ((c.tc : Thread Cert.RDxIdeal.nD Cert.RDxIdeal.τ).loc Cert.RDxIdeal.main_v9_2) = v2 c
          ∧ r.2.mem ((c.tc : Thread Cert.RDxIdeal.nD Cert.RDxIdeal.τ).loc Cert.RDxIdeal.main_v9_3) = v3 c
          ∧ r.2.mem ((c.tc : Thread Cert.RDxIdeal.nD Cert.RDxIdeal.τ).loc Cert.RDxIdeal.main_v9_4) = v4 c
          ∧ r.2.mem ((c.tc : Thread Cert.RDxIdeal.nD Cert.RDxIdeal.τ).loc Cert.RDxIdeal.main_v9_5) = v5 c
          ∧ r.2.mem ((c.tc : Thread Cert.RDxIdeal.nD Cert.RDxIdeal.τ).loc Cert.RDxIdeal.main_v9_6) = v6 c
          ∧ r.2.mem ((c.tc : Thread Cert.RDxIdeal.nD Cert.RDxIdeal.τ).loc Cert.RDxIdeal.main_v9_7) = v7 c
          ∧ r.2.mem ((c.tc : Thread Cert.RDxIdeal.nD Cert.RDxIdeal.τ).loc Cert.RDxIdeal.main_v9_8) = v8 c
          ∧ r.2.mem ((c.tc : Thread Cert.RDxIdeal.nD Cert.RDxIdeal.τ).loc Cert.RDxIdeal.main_arg0) = m' ((c.tc : Thread Cert.RDxIdeal.nD Cert.RDxIdeal.τ).loc Cert.RDxIdeal.main_arg0)
          ∧ r.2.mem ((c.tc : Thread Cert.RDxIdeal.nD Cert.RDxIdeal.τ).loc Cert.RDxIdeal.main_arg1) = m' ((c.tc : Thread Cert.RDxIdeal.nD Cert.RDxIdeal.τ).loc Cert.RDxIdeal.main_arg1)
          ∧ r.2.mem ((c.tc : Thread Cert.RDxIdeal.nD Cert.RDxIdeal.τ).loc Cert.RDxIdeal.main_arg2) = m' ((c.tc : Thread Cert.RDxIdeal.nD Cert.RDxIdeal.τ).loc Cert.RDxIdeal.main_arg2)
          ∧ r.2.mem ((c.tc : Thread Cert.RDxIdeal.nD Cert.RDxIdeal.τ).loc Cert.RDxIdeal.main_arg3) = m' ((c.tc : Thread Cert.RDxIdeal.nD Cert.RDxIdeal.τ).loc Cert.RDxIdeal.main_arg3)
          ∧ r.2.mem ((c.tc : Thread Cert.RDxIdeal.nD Cert.RDxIdeal.τ).loc Cert.RDxIdeal.main_arg4) = m' ((c.tc : Thread Cert.RDxIdeal.nD Cert.RDxIdeal.τ).loc Cert.RDxIdeal.main_arg4)
          ∧ r.2.mem ((c.tc : Thread Cert.RDxIdeal.nD Cert.RDxIdeal.τ).loc Cert.RDxIdeal.main_arg5) = m' ((c.tc : Thread Cert.RDxIdeal.nD Cert.RDxIdeal.τ).loc Cert.RDxIdeal.main_arg5)
          ∧ r.2.mem ((c.tc : Thread Cert.RDxIdeal.nD Cert.RDxIdeal.τ).loc Cert.RDxIdeal.main_arg6) = m' ((c.tc : Thread Cert.RDxIdeal.nD Cert.RDxIdeal.τ).loc Cert.RDxIdeal.main_arg6)
          ∧ r.2.mem ((c.tc : Thread Cert.RDxIdeal.nD Cert.RDxIdeal.τ).loc Cert.RDxIdeal.main_arg7) = m' ((c.tc : Thread Cert.RDxIdeal.nD Cert.RDxIdeal.τ).loc Cert.RDxIdeal.main_arg7)
          ∧ r.2.mem ((c.tc : Thread Cert.RDxIdeal.nD Cert.RDxIdeal.τ).loc Cert.RDxIdeal.main_arg8) = m' ((c.tc : Thread Cert.RDxIdeal.nD Cert.RDxIdeal.τ).loc Cert.RDxIdeal.main_arg8)
          ∧ r.2.mem ((c.tc : Thread Cert.RDxIdeal.nD Cert.RDxIdeal.τ).loc Cert.RDxIdeal.main_arg9) = m' ((c.tc : Thread Cert.RDxIdeal.nD Cert.RDxIdeal.τ).loc Cert.RDxIdeal.main_arg9)
          ∧ r.2.mem ((c.tc : Thread Cert.RDxIdeal.nD Cert.RDxIdeal.τ).loc Cert.RDxIdeal.main_arg10) = m' ((c.tc : Thread Cert.RDxIdeal.nD Cert.RDxIdeal.τ).loc Cert.RDxIdeal.main_arg10)
          ∧ r.2.mem ((c.tc : Thread Cert.RDxIdeal.nD Cert.RDxIdeal.τ).loc Cert.RDxIdeal.main_arg11) = m' ((c.tc : Thread Cert.RDxIdeal.nD Cert.RDxIdeal.τ).loc Cert.RDxIdeal.main_arg11)
          ∧ r.2.mem ((c.tc : Thread Cert.RDxIdeal.nD Cert.RDxIdeal.τ).loc Cert.RDxIdeal.main_arg12) = m' ((c.tc : Thread Cert.RDxIdeal.nD Cert.RDxIdeal.τ).loc Cert.RDxIdeal.main_arg12)
          ∧ r.2.mem ((c.tc : Thread Cert.RDxIdeal.nD Cert.RDxIdeal.τ).loc Cert.RDxIdeal.main_arg13) = m' ((c.tc : Thread Cert.RDxIdeal.nD Cert.RDxIdeal.τ).loc Cert.RDxIdeal.main_arg13)
          ∧ r.2.mem ((c.tc : Thread Cert.RDxIdeal.nD Cert.RDxIdeal.τ).loc Cert.RDxIdeal.main_arg14) = m' ((c.tc : Thread Cert.RDxIdeal.nD Cert.RDxIdeal.τ).loc Cert.RDxIdeal.main_arg14))

def preserves_KProj_KProjIdeal : Prop :=
  IdealRules.named_const.Statement Cert.KProjIdeal.κ "inv_d" .f32 0x3A2AAAAB#32 ((1 / 1536 : ℝ) : EReal)

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)
      ∧ m' ((c.tc : Thread Cert.RProjIdeal.nD Cert.RProjIdeal.τ).loc Cert.RProjIdeal.main_arg3) = m ((c.tc : Thread Cert.KProjIdeal.nD Cert.KProjIdeal.τ).loc Cert.KProjIdeal.main_arg3)
      ∧ m' ((c.tc : Thread Cert.RProjIdeal.nD Cert.RProjIdeal.τ).loc Cert.RProjIdeal.main_arg4) = m ((c.tc : Thread Cert.KProjIdeal.nD Cert.KProjIdeal.τ).loc Cert.KProjIdeal.main_arg4)
      ∧ m' ((c.tc : Thread Cert.RProjIdeal.nD Cert.RProjIdeal.τ).loc Cert.RProjIdeal.main_arg5) = m ((c.tc : Thread Cert.KProjIdeal.nD Cert.KProjIdeal.τ).loc Cert.KProjIdeal.main_arg5)
      ∧ m' ((c.tc : Thread Cert.RProjIdeal.nD Cert.RProjIdeal.τ).loc Cert.RProjIdeal.main_arg6) = m ((c.tc : Thread Cert.KProjIdeal.nD Cert.KProjIdeal.τ).loc Cert.KProjIdeal.main_arg6)
      ∧ m' ((c.tc : Thread Cert.RProjIdeal.nD Cert.RProjIdeal.τ).loc Cert.RProjIdeal.main_arg7) = m ((c.tc : Thread Cert.KProjIdeal.nD Cert.KProjIdeal.τ).loc Cert.KProjIdeal.main_arg7)
      ∧ m' ((c.tc : Thread Cert.RProjIdeal.nD Cert.RProjIdeal.τ).loc Cert.RProjIdeal.main_arg8) = m ((c.tc : Thread Cert.KProjIdeal.nD Cert.KProjIdeal.τ).loc Cert.KProjIdeal.main_arg8)
      ∧ m' ((c.tc : Thread Cert.RProjIdeal.nD Cert.RProjIdeal.τ).loc Cert.RProjIdeal.main_arg9) = m ((c.tc : Thread Cert.KProjIdeal.nD Cert.KProjIdeal.τ).loc Cert.KProjIdeal.main_arg9)
      ∧ m' ((c.tc : Thread Cert.RProjIdeal.nD Cert.RProjIdeal.τ).loc Cert.RProjIdeal.main_arg10) = m ((c.tc : Thread Cert.KProjIdeal.nD Cert.KProjIdeal.τ).loc Cert.KProjIdeal.main_arg10)
      ∧ m' ((c.tc : Thread Cert.RProjIdeal.nD Cert.RProjIdeal.τ).loc Cert.RProjIdeal.main_arg11) = m ((c.tc : Thread Cert.KProjIdeal.nD Cert.KProjIdeal.τ).loc Cert.KProjIdeal.main_arg11)
      ∧ m' ((c.tc : Thread Cert.RProjIdeal.nD Cert.RProjIdeal.τ).loc Cert.RProjIdeal.main_arg12) = m ((c.tc : Thread Cert.KProjIdeal.nD Cert.KProjIdeal.τ).loc Cert.KProjIdeal.main_arg12)) →
    ∃ (v0 : (c : Dev Cert.KProjIdeal.nD) → Buf (Elt Ideal) ((c.tc : Thread Cert.KProjIdeal.nD Cert.KProjIdeal.τ).loc Cert.KProjIdeal.main_v9_0)) (v1 : (c : Dev Cert.KProjIdeal.nD) → Buf (Elt Ideal) ((c.tc : Thread Cert.KProjIdeal.nD Cert.KProjIdeal.τ).loc Cert.KProjIdeal.main_v9_1)) (v2 : (c : Dev Cert.KProjIdeal.nD) → Buf (Elt Ideal) ((c.tc : Thread Cert.KProjIdeal.nD Cert.KProjIdeal.τ).loc Cert.KProjIdeal.main_v9_2)) (v3 : (c : Dev Cert.KProjIdeal.nD) → Buf (Elt Ideal) ((c.tc : Thread Cert.KProjIdeal.nD Cert.KProjIdeal.τ).loc Cert.KProjIdeal.main_v9_3)) (v4 : (c : Dev Cert.KProjIdeal.nD) → Buf (Elt Ideal) ((c.tc : Thread Cert.KProjIdeal.nD Cert.KProjIdeal.τ).loc Cert.KProjIdeal.main_v9_4)) (v5 : (c : Dev Cert.KProjIdeal.nD) → Buf (Elt Ideal) ((c.tc : Thread Cert.KProjIdeal.nD Cert.KProjIdeal.τ).loc Cert.KProjIdeal.main_v9_5)) (v6 : (c : Dev Cert.KProjIdeal.nD) → Buf (Elt Ideal) ((c.tc : Thread Cert.KProjIdeal.nD Cert.KProjIdeal.τ).loc Cert.KProjIdeal.main_v9_6)) (v7 : (c : Dev Cert.KProjIdeal.nD) → Buf (Elt Ideal) ((c.tc : Thread Cert.KProjIdeal.nD Cert.KProjIdeal.τ).loc Cert.KProjIdeal.main_v9_7)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v9_0) = v0 c
          ∧ r.2.mem ((c.tc : Thread Cert.KProjIdeal.nD Cert.KProjIdeal.τ).loc Cert.KProjIdeal.main_v9_1) = v1 c
          ∧ r.2.mem ((c.tc : Thread Cert.KProjIdeal.nD Cert.KProjIdeal.τ).loc Cert.KProjIdeal.main_v9_2) = v2 c
          ∧ r.2.mem ((c.tc : Thread Cert.KProjIdeal.nD Cert.KProjIdeal.τ).loc Cert.KProjIdeal.main_v9_3) = v3 c
          ∧ r.2.mem ((c.tc : Thread Cert.KProjIdeal.nD Cert.KProjIdeal.τ).loc Cert.KProjIdeal.main_v9_4) = v4 c
          ∧ r.2.mem ((c.tc : Thread Cert.KProjIdeal.nD Cert.KProjIdeal.τ).loc Cert.KProjIdeal.main_v9_5) = v5 c
          ∧ r.2.mem ((c.tc : Thread Cert.KProjIdeal.nD Cert.KProjIdeal.τ).loc Cert.KProjIdeal.main_v9_6) = v6 c
          ∧ r.2.mem ((c.tc : Thread Cert.KProjIdeal.nD Cert.KProjIdeal.τ).loc Cert.KProjIdeal.main_v9_7) = v7 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
          ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
          ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
          ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
          ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6)
          ∧ r.2.mem ((c.tc : Thread Cert.KProjIdeal.nD Cert.KProjIdeal.τ).loc Cert.KProjIdeal.main_arg7) = m ((c.tc : Thread Cert.KProjIdeal.nD Cert.KProjIdeal.τ).loc Cert.KProjIdeal.main_arg7)
          ∧ r.2.mem ((c.tc : Thread Cert.KProjIdeal.nD Cert.KProjIdeal.τ).loc Cert.KProjIdeal.main_arg8) = m ((c.tc : Thread Cert.KProjIdeal.nD Cert.KProjIdeal.τ).loc Cert.KProjIdeal.main_arg8)
          ∧ r.2.mem ((c.tc : Thread Cert.KProjIdeal.nD Cert.KProjIdeal.τ).loc Cert.KProjIdeal.main_arg9) = m ((c.tc : Thread Cert.KProjIdeal.nD Cert.KProjIdeal.τ).loc Cert.KProjIdeal.main_arg9)
          ∧ r.2.mem ((c.tc : Thread Cert.KProjIdeal.nD Cert.KProjIdeal.τ).loc Cert.KProjIdeal.main_arg10) = m ((c.tc : Thread Cert.KProjIdeal.nD Cert.KProjIdeal.τ).loc Cert.KProjIdeal.main_arg10)
          ∧ r.2.mem ((c.tc : Thread Cert.KProjIdeal.nD Cert.KProjIdeal.τ).loc Cert.KProjIdeal.main_arg11) = m ((c.tc : Thread Cert.KProjIdeal.nD Cert.KProjIdeal.τ).loc Cert.KProjIdeal.main_arg11)
          ∧ r.2.mem ((c.tc : Thread Cert.KProjIdeal.nD Cert.KProjIdeal.τ).loc Cert.KProjIdeal.main_arg12) = m ((c.tc : Thread Cert.KProjIdeal.nD Cert.KProjIdeal.τ).loc Cert.KProjIdeal.main_arg12))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v9_0) = v0 c
          ∧ r.2.mem ((c.tc : Thread Cert.RProjIdeal.nD Cert.RProjIdeal.τ).loc Cert.RProjIdeal.main_v9_1) = v1 c
          ∧ r.2.mem ((c.tc : Thread Cert.RProjIdeal.nD Cert.RProjIdeal.τ).loc Cert.RProjIdeal.main_v9_2) = v2 c
          ∧ r.2.mem ((c.tc : Thread Cert.RProjIdeal.nD Cert.RProjIdeal.τ).loc Cert.RProjIdeal.main_v9_3) = v3 c
          ∧ r.2.mem ((c.tc : Thread Cert.RProjIdeal.nD Cert.RProjIdeal.τ).loc Cert.RProjIdeal.main_v9_4) = v4 c
          ∧ r.2.mem ((c.tc : Thread Cert.RProjIdeal.nD Cert.RProjIdeal.τ).loc Cert.RProjIdeal.main_v9_5) = v5 c
          ∧ r.2.mem ((c.tc : Thread Cert.RProjIdeal.nD Cert.RProjIdeal.τ).loc Cert.RProjIdeal.main_v9_6) = v6 c
          ∧ r.2.mem ((c.tc : Thread Cert.RProjIdeal.nD Cert.RProjIdeal.τ).loc Cert.RProjIdeal.main_v9_7) = v7 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2)
          ∧ r.2.mem ((c.tc : Thread Cert.RProjIdeal.nD Cert.RProjIdeal.τ).loc Cert.RProjIdeal.main_arg3) = m' ((c.tc : Thread Cert.RProjIdeal.nD Cert.RProjIdeal.τ).loc Cert.RProjIdeal.main_arg3)
          ∧ r.2.mem ((c.tc : Thread Cert.RProjIdeal.nD Cert.RProjIdeal.τ).loc Cert.RProjIdeal.main_arg4) = m' ((c.tc : Thread Cert.RProjIdeal.nD Cert.RProjIdeal.τ).loc Cert.RProjIdeal.main_arg4)
          ∧ r.2.mem ((c.tc : Thread Cert.RProjIdeal.nD Cert.RProjIdeal.τ).loc Cert.RProjIdeal.main_arg5) = m' ((c.tc : Thread Cert.RProjIdeal.nD Cert.RProjIdeal.τ).loc Cert.RProjIdeal.main_arg5)
          ∧ r.2.mem ((c.tc : Thread Cert.RProjIdeal.nD Cert.RProjIdeal.τ).loc Cert.RProjIdeal.main_arg6) = m' ((c.tc : Thread Cert.RProjIdeal.nD Cert.RProjIdeal.τ).loc Cert.RProjIdeal.main_arg6)
          ∧ r.2.mem ((c.tc : Thread Cert.RProjIdeal.nD Cert.RProjIdeal.τ).loc Cert.RProjIdeal.main_arg7) = m' ((c.tc : Thread Cert.RProjIdeal.nD Cert.RProjIdeal.τ).loc Cert.RProjIdeal.main_arg7)
          ∧ r.2.mem ((c.tc : Thread Cert.RProjIdeal.nD Cert.RProjIdeal.τ).loc Cert.RProjIdeal.main_arg8) = m' ((c.tc : Thread Cert.RProjIdeal.nD Cert.RProjIdeal.τ).loc Cert.RProjIdeal.main_arg8)
          ∧ r.2.mem ((c.tc : Thread Cert.RProjIdeal.nD Cert.RProjIdeal.τ).loc Cert.RProjIdeal.main_arg9) = m' ((c.tc : Thread Cert.RProjIdeal.nD Cert.RProjIdeal.τ).loc Cert.RProjIdeal.main_arg9)
          ∧ r.2.mem ((c.tc : Thread Cert.RProjIdeal.nD Cert.RProjIdeal.τ).loc Cert.RProjIdeal.main_arg10) = m' ((c.tc : Thread Cert.RProjIdeal.nD Cert.RProjIdeal.τ).loc Cert.RProjIdeal.main_arg10)
          ∧ r.2.mem ((c.tc : Thread Cert.RProjIdeal.nD Cert.RProjIdeal.τ).loc Cert.RProjIdeal.main_arg11) = m' ((c.tc : Thread Cert.RProjIdeal.nD Cert.RProjIdeal.τ).loc Cert.RProjIdeal.main_arg11)
          ∧ r.2.mem ((c.tc : Thread Cert.RProjIdeal.nD Cert.RProjIdeal.τ).loc Cert.RProjIdeal.main_arg12) = m' ((c.tc : Thread Cert.RProjIdeal.nD Cert.RProjIdeal.τ).loc Cert.RProjIdeal.main_arg12))

def preserves_KAttn_KAttnIdeal : Prop :=
  True

def Claim : Prop :=
  ∃ (hKDw : Cert.KDw.Facts) (hKDwIdeal : Cert.KDwIdeal.Facts) (hRDwIdeal : Cert.RDwIdeal.Facts) (hKDwo : Cert.KDwo.Facts) (hKDwoIdeal : Cert.KDwoIdeal.Facts) (hRDwoIdeal : Cert.RDwoIdeal.Facts) (hKOut : Cert.KOut.Facts) (hKOutIdeal : Cert.KOutIdeal.Facts) (hROutIdeal : Cert.ROutIdeal.Facts) (hKDx : Cert.KDx.Facts) (hKDxIdeal : Cert.KDxIdeal.Facts) (hRDxIdeal : Cert.RDxIdeal.Facts) (hKProj : Cert.KProj.Facts) (hKProjIdeal : Cert.KProjIdeal.Facts) (hRProjIdeal : Cert.RProjIdeal.Facts) (hKAttn : Cert.KAttn.Facts) (hKAttnIdeal : Cert.KAttnIdeal.Facts),
    quiescent_KDw (hKDw := hKDw)
    ∧ quiescent_KDwIdeal (hKDwIdeal := hKDwIdeal)
    ∧ quiescent_RDwIdeal (hRDwIdeal := hRDwIdeal)
    ∧ quiescent_KDwo (hKDwo := hKDwo)
    ∧ quiescent_KDwoIdeal (hKDwoIdeal := hKDwoIdeal)
    ∧ quiescent_RDwoIdeal (hRDwoIdeal := hRDwoIdeal)
    ∧ quiescent_KOut (hKOut := hKOut)
    ∧ quiescent_KOutIdeal (hKOutIdeal := hKOutIdeal)
    ∧ quiescent_ROutIdeal (hROutIdeal := hROutIdeal)
    ∧ quiescent_KDx (hKDx := hKDx)
    ∧ quiescent_KDxIdeal (hKDxIdeal := hKDxIdeal)
    ∧ quiescent_RDxIdeal (hRDxIdeal := hRDxIdeal)
    ∧ quiescent_KProj (hKProj := hKProj)
    ∧ quiescent_KProjIdeal (hKProjIdeal := hKProjIdeal)
    ∧ quiescent_RProjIdeal (hRProjIdeal := hRProjIdeal)
    ∧ quiescent_KAttn (hKAttn := hKAttn)
    ∧ quiescent_KAttnIdeal (hKAttnIdeal := hKAttnIdeal)
    ∧ preserves_KDw_KDwIdeal
    ∧ algebraic_KDwIdeal_RDwIdeal (hKDwIdeal := hKDwIdeal) (hRDwIdeal := hRDwIdeal)
    ∧ preserves_KDwo_KDwoIdeal
    ∧ algebraic_KDwoIdeal_RDwoIdeal (hKDwoIdeal := hKDwoIdeal) (hRDwoIdeal := hRDwoIdeal)
    ∧ preserves_KOut_KOutIdeal
    ∧ algebraic_KOutIdeal_ROutIdeal (hKOutIdeal := hKOutIdeal) (hROutIdeal := hROutIdeal)
    ∧ preserves_KDx_KDxIdeal
    ∧ algebraic_KDxIdeal_RDxIdeal (hKDxIdeal := hKDxIdeal) (hRDxIdeal := hRDxIdeal)
    ∧ preserves_KProj_KProjIdeal
    ∧ algebraic_KProjIdeal_RProjIdeal (hKProjIdeal := hKProjIdeal) (hRProjIdeal := hRProjIdeal)
    ∧ preserves_KAttn_KAttnIdeal
-- ==== KDw.lean ====
abbrev S3x640x1536 : Shape := ⟨3, ![3, 640, 1536]⟩
abbrev S3x640x1024 : Shape := ⟨3, ![3, 640, 1024]⟩
abbrev S_ : Shape := ⟨0, ![]⟩
abbrev S1920x1536 : Shape := ⟨2, ![1920, 1536]⟩
abbrev S1920x1024 : Shape := ⟨2, ![1920, 1024]⟩
abbrev S1 : Shape := ⟨1, ![1]⟩
abbrev S1536x1024 : Shape := ⟨2, ![1536, 1024]⟩
abbrev S1920x256 : Shape := ⟨2, ![1920, 256]⟩
abbrev S256x1024 : Shape := ⟨2, ![256, 1024]⟩

abbrev nBuf : Space → Nat
  | .hbm => 19
  | .vmem => 11
  | .smem => 4
  | _ => 0

abbrev bufTy : (tb : Table) → Fin (tcTables nBuf tb) → BufTy
  | .hbm, ⟨0, _⟩ => ⟨S3x640x1536, .fp8e4m3⟩
  | .hbm, ⟨1, _⟩ => ⟨S3x640x1024, .fp8e5m2⟩
  | .hbm, ⟨2, _⟩ => ⟨S3x640x1024, .fp8e5m2⟩
  | .hbm, ⟨3, _⟩ => ⟨S3x640x1024, .fp8e5m2⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1920x1536, .fp8e4m3⟩
  | .hbm, ⟨9, _⟩ => ⟨S1920x1024, .fp8e5m2⟩
  | .hbm, ⟨10, _⟩ => ⟨S1920x1024, .fp8e5m2⟩
  | .hbm, ⟨11, _⟩ => ⟨S1920x1024, .fp8e5m2⟩
  | .hbm, ⟨12, _⟩ => ⟨S1, .f32⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1536x1024, .f32⟩
  | .hbm, ⟨17, _⟩ => ⟨S1536x1024, .f32⟩
  | .hbm, ⟨18, _⟩ => ⟨S1536x1024, .f32⟩
  | .local _ .vmem, ⟨0, _⟩ => ⟨S1920x256, .fp8e4m3⟩
  | .local _ .vmem, ⟨1, _⟩ => ⟨S1920x256, .fp8e4m3⟩
  | .local _ .vmem, ⟨2, _⟩ => ⟨S1920x1024, .fp8e5m2⟩
  | .local _ .vmem, ⟨3, _⟩ => ⟨S1920x1024, .fp8e5m2⟩
  | .local _ .vmem, ⟨4, _⟩ => ⟨S1920x1024, .fp8e5m2⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S3x640x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1920x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1920x1024 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1920x1024 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1920x1024 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RDwIdeal.lean ====
abbrev S3x640x1536 : Shape := ⟨3, ![3, 640, 1536]⟩
abbrev S3x640x1024 : Shape := ⟨3, ![3, 640, 1024]⟩
abbrev S_ : Shape := ⟨0, ![]⟩
abbrev S1920x1536 : Shape := ⟨2, ![1920, 1536]⟩
abbrev S1920x1024 : Shape := ⟨2, ![1920, 1024]⟩
abbrev S1x1 : Shape := ⟨2, ![1, 1]⟩
abbrev S1536x1024 : Shape := ⟨2, ![1536, 1024]⟩

abbrev nBuf : Space → Nat
  | .hbm => 19
  | .vmem => 11
  | .smem => 0
  | _ => 0

abbrev bufTy : (tb : Table) → Fin (tcTables nBuf tb) → BufTy
  | .hbm, ⟨0, _⟩ => ⟨S3x640x1536, .fp8e4m3⟩
  | .hbm, ⟨1, _⟩ => ⟨S3x640x1024, .fp8e5m2⟩
  | .hbm, ⟨2, _⟩ => ⟨S3x640x1024, .fp8e5m2⟩
  | .hbm, ⟨3, _⟩ => ⟨S3x640x1024, .fp8e5m2⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1920x1536, .fp8e4m3⟩
  | .hbm, ⟨9, _⟩ => ⟨S1920x1024, .fp8e5m2⟩
  | .hbm, ⟨10, _⟩ => ⟨S1920x1024, .fp8e5m2⟩
  | .hbm, ⟨11, _⟩ => ⟨S1920x1024, .fp8e5m2⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S1536x1024, .f32⟩
  | .hbm, ⟨17, _⟩ => ⟨S1536x1024, .f32⟩
  | .hbm, ⟨18, _⟩ => ⟨S1536x1024, .f32⟩
  | .local _ .vmem, ⟨0, _⟩ => ⟨S1920x1536, .fp8e4m3⟩
  | .local _ .vmem, ⟨1, _⟩ => ⟨S1920x1024, .fp8e5m2⟩
  | .local _ .vmem, ⟨2, _⟩ => ⟨S1920x1024, .fp8e5m2⟩
  | .local _ .vmem, ⟨3, _⟩ => ⟨S1920x1024, .fp8e5m2⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1536x1024, .f32⟩
  | .local _ .vmem, ⟨9, _⟩ => ⟨S1536x1024, .f32⟩
  | .local _ .vmem, ⟨10, _⟩ => ⟨S1536x1024, .f32⟩
  | _, _ => ⟨S3x640x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1920x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1024 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x1024 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x1024 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KDwo.lean ====
abbrev S3x640x1024 : Shape := ⟨3, ![3, 640, 1024]⟩
abbrev S3x640x1536 : Shape := ⟨3, ![3, 640, 1536]⟩
abbrev S_ : Shape := ⟨0, ![]⟩
abbrev S1920x1024 : Shape := ⟨2, ![1920, 1024]⟩
abbrev S1920x1536 : Shape := ⟨2, ![1920, 1536]⟩
abbrev S1 : Shape := ⟨1, ![1]⟩
abbrev S1024x1536 : Shape := ⟨2, ![1024, 1536]⟩
abbrev S1920x256 : Shape := ⟨2, ![1920, 256]⟩
abbrev S256x1536 : Shape := ⟨2, ![256, 1536]⟩

abbrev nBuf : Space → Nat
  | .hbm => 9
  | .vmem => 5
  | .smem => 2
  | _ => 0

abbrev bufTy : (tb : Table) → Fin (tcTables nBuf tb) → BufTy
  | .hbm, ⟨0, _⟩ => ⟨S3x640x1024, .fp8e4m3⟩
  | .hbm, ⟨1, _⟩ => ⟨S3x640x1536, .fp8e5m2⟩
  | .hbm, ⟨2, _⟩ => ⟨S_, .f32⟩
  | .hbm, ⟨3, _⟩ => ⟨S_, .f32⟩
  | .hbm, ⟨4, _⟩ => ⟨S1920x1024, .fp8e4m3⟩
  | .hbm, ⟨5, _⟩ => ⟨S1920x1536, .fp8e5m2⟩
  | .hbm, ⟨6, _⟩ => ⟨S1, .f32⟩
  | .hbm, ⟨7, _⟩ => ⟨S1, .f32⟩
  | .hbm, ⟨8, _⟩ => ⟨S1024x1536, .f32⟩
  | .local _ .vmem, ⟨0, _⟩ => ⟨S1920x256, .fp8e4m3⟩
  | .local _ .vmem, ⟨1, _⟩ => ⟨S1920x256, .fp8e4m3⟩
  | .local _ .vmem, ⟨2, _⟩ => ⟨S1920x1536, .fp8e5m2⟩
  | .local _ .vmem, ⟨3, _⟩ => ⟨S256x1536, .f32⟩
  | .local _ .vmem, ⟨4, _⟩ => ⟨S256x1536, .f32⟩
  | .local _ .smem, ⟨0, _⟩ => ⟨S1, .f32⟩
  | .local _ .smem, ⟨1, _⟩ => ⟨S1, .f32⟩
  | _, _ => ⟨S3x640x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1920x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1920x1536 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RDwoIdeal.lean ====
abbrev S3x640x1024 : Shape := ⟨3, ![3, 640, 1024]⟩
abbrev S3x640x1536 : Shape := ⟨3, ![3, 640, 1536]⟩
abbrev S_ : Shape := ⟨0, ![]⟩
abbrev S1920x1024 : Shape := ⟨2, ![1920, 1024]⟩
abbrev S1920x1536 : Shape := ⟨2, ![1920, 1536]⟩
abbrev S1x1 : Shape := ⟨2, ![1, 1]⟩
abbrev S1024x1536 : Shape := ⟨2, ![1024, 1536]⟩

abbrev nBuf : Space → Nat
  | .hbm => 9
  | .vmem => 5
  | .smem => 0
  | _ => 0

abbrev bufTy : (tb : Table) → Fin (tcTables nBuf tb) → BufTy
  | .hbm, ⟨0, _⟩ => ⟨S3x640x1024, .fp8e4m3⟩
  | .hbm, ⟨1, _⟩ => ⟨S3x640x1536, .fp8e5m2⟩
  | .hbm, ⟨2, _⟩ => ⟨S_, .f32⟩
  | .hbm, ⟨3, _⟩ => ⟨S_, .f32⟩
  | .hbm, ⟨4, _⟩ => ⟨S1920x1024, .fp8e4m3⟩
  | .hbm, ⟨5, _⟩ => ⟨S1920x1536, .fp8e5m2⟩
  | .hbm, ⟨6, _⟩ => ⟨S1x1, .f32⟩
  | .hbm, ⟨7, _⟩ => ⟨S1x1, .f32⟩
  | .hbm, ⟨8, _⟩ => ⟨S1024x1536, .f32⟩
  | .local _ .vmem, ⟨0, _⟩ => ⟨S1920x1024, .fp8e4m3⟩
  | .local _ .vmem, ⟨1, _⟩ => ⟨S1920x1536, .fp8e5m2⟩
  | .local _ .vmem, ⟨2, _⟩ => ⟨S1x1, .f32⟩
  | .local _ .vmem, ⟨3, _⟩ => ⟨S1x1, .f32⟩
  | .local _ .vmem, ⟨4, _⟩ => ⟨S1024x1536, .f32⟩
  | _, _ => ⟨S3x640x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1920x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1536 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KOut.lean ====
abbrev S3x640x1536 : Shape := ⟨3, ![3, 640, 1536]⟩
abbrev S3x640x1024 : Shape := ⟨3, ![3, 640, 1024]⟩
abbrev S1024x1536 : Shape := ⟨2, ![1024, 1536]⟩
abbrev S_ : Shape := ⟨0, ![]⟩
abbrev S1920x1536 : Shape := ⟨2, ![1920, 1536]⟩
abbrev S1920x1024 : Shape := ⟨2, ![1920, 1024]⟩
abbrev S1 : Shape := ⟨1, ![1]⟩
abbrev S320x1536 : Shape := ⟨2, ![320, 1536]⟩
abbrev S320x1024 : Shape := ⟨2, ![320, 1024]⟩

abbrev nBuf : Space → Nat
  | .hbm => 10
  | .vmem => 7
  | .smem => 2
  | _ => 0

abbrev bufTy : (tb : Table) → Fin (tcTables nBuf tb) → BufTy
  | .hbm, ⟨0, _⟩ => ⟨S3x640x1536, .bf16⟩
  | .hbm, ⟨1, _⟩ => ⟨S3x640x1024, .fp8e4m3⟩
  | .hbm, ⟨2, _⟩ => ⟨S1024x1536, .fp8e4m3⟩
  | .hbm, ⟨3, _⟩ => ⟨S_, .f32⟩
  | .hbm, ⟨4, _⟩ => ⟨S_, .f32⟩
  | .hbm, ⟨5, _⟩ => ⟨S1920x1536, .bf16⟩
  | .hbm, ⟨6, _⟩ => ⟨S1920x1024, .fp8e4m3⟩
  | .hbm, ⟨7, _⟩ => ⟨S1, .f32⟩
  | .hbm, ⟨8, _⟩ => ⟨S1, .f32⟩
  | .hbm, ⟨9, _⟩ => ⟨S1920x1536, .bf16⟩
  | .local _ .vmem, ⟨0, _⟩ => ⟨S320x1536, .bf16⟩
  | .local _ .vmem, ⟨1, _⟩ => ⟨S320x1536, .bf16⟩
  | .local _ .vmem, ⟨2, _⟩ => ⟨S320x1024, .fp8e4m3⟩
  | .local _ .vmem, ⟨3, _⟩ => ⟨S320x1024, .fp8e4m3⟩
  | .local _ .vmem, ⟨4, _⟩ => ⟨S1024x1536, .fp8e4m3⟩
  | .local _ .vmem, ⟨5, _⟩ => ⟨S320x1536, .bf16⟩
  | .local _ .vmem, ⟨6, _⟩ => ⟨S320x1536, .bf16⟩
  | .local _ .smem, ⟨0, _⟩ => ⟨S1, .f32⟩
  | .local _ .smem, ⟨1, _⟩ => ⟨S1, .f32⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S320x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S320x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ROutIdeal.lean ====
abbrev S3x640x1536 : Shape := ⟨3, ![3, 640, 1536]⟩
abbrev S3x640x1024 : Shape := ⟨3, ![3, 640, 1024]⟩
abbrev S1024x1536 : Shape := ⟨2, ![1024, 1536]⟩
abbrev S_ : Shape := ⟨0, ![]⟩
abbrev S1920x1536 : Shape := ⟨2, ![1920, 1536]⟩
abbrev S1920x1024 : Shape := ⟨2, ![1920, 1024]⟩
abbrev S1x1 : Shape := ⟨2, ![1, 1]⟩

abbrev nBuf : Space → Nat
  | .hbm => 10
  | .vmem => 6
  | .smem => 0
  | _ => 0

abbrev bufTy : (tb : Table) → Fin (tcTables nBuf tb) → BufTy
  | .hbm, ⟨0, _⟩ => ⟨S3x640x1536, .bf16⟩
  | .hbm, ⟨1, _⟩ => ⟨S3x640x1024, .fp8e4m3⟩
  | .hbm, ⟨2, _⟩ => ⟨S1024x1536, .fp8e4m3⟩
  | .hbm, ⟨3, _⟩ => ⟨S_, .f32⟩
  | .hbm, ⟨4, _⟩ => ⟨S_, .f32⟩
  | .hbm, ⟨5, _⟩ => ⟨S1920x1536, .bf16⟩
  | .hbm, ⟨6, _⟩ => ⟨S1920x1024, .fp8e4m3⟩
  | .hbm, ⟨7, _⟩ => ⟨S1x1, .f32⟩
  | .hbm, ⟨8, _⟩ => ⟨S1x1, .f32⟩
  | .hbm, ⟨9, _⟩ => ⟨S1920x1536, .bf16⟩
  | .local _ .vmem, ⟨0, _⟩ => ⟨S1920x1536, .bf16⟩
  | .local _ .vmem, ⟨1, _⟩ => ⟨S1920x1024, .fp8e4m3⟩
  | .local _ .vmem, ⟨2, _⟩ => ⟨S1024x1536, .fp8e4m3⟩
  | .local _ .vmem, ⟨3, _⟩ => ⟨S1x1, .f32⟩
  | .local _ .vmem, ⟨4, _⟩ => ⟨S1x1, .f32⟩
  | .local _ .vmem, ⟨5, _⟩ => ⟨S1920x1536, .bf16⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1920x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KDx.lean ====
abbrev S3x640x1536 : Shape := ⟨3, ![3, 640, 1536]⟩
abbrev S1536 : Shape := ⟨1, ![1536]⟩
abbrev S1536x1024 : Shape := ⟨2, ![1536, 1024]⟩
abbrev S_ : Shape := ⟨0, ![]⟩
abbrev S1920x1024 : Shape := ⟨2, ![1920, 1024]⟩
abbrev S1920x1536 : Shape := ⟨2, ![1920, 1536]⟩
abbrev S1x1536 : Shape := ⟨2, ![1, 1536]⟩
abbrev S1 : Shape := ⟨1, ![1]⟩
abbrev S1x1 : Shape := ⟨2, ![1, 1]⟩
abbrev S320x1024 : Shape := ⟨2, ![320, 1024]⟩
abbrev S320x1536 : Shape := ⟨2, ![320, 1536]⟩
abbrev S320 : Shape := ⟨1, ![320]⟩
abbrev S320x1 : Shape := ⟨2, ![320, 1]⟩

abbrev nBuf : Space → Nat
  | .hbm => 33
  | .vmem => 28
  | .smem => 6
  | _ => 0

abbrev bufTy : (tb : Table) → Fin (tcTables nBuf tb) → BufTy
  | .hbm, ⟨0, _⟩ => ⟨S3x640x1536, .bf16⟩
  | .hbm, ⟨1, _⟩ => ⟨S1536, .f32⟩
  | .hbm, ⟨2, _⟩ => ⟨S1536x1024, .fp8e4m3⟩
  | .hbm, ⟨3, _⟩ => ⟨S1536x1024, .fp8e4m3⟩
  | .hbm, ⟨4, _⟩ => ⟨S1536x1024, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1920x1024, .f32⟩
  | .hbm, ⟨9, _⟩ => ⟨S1920x1024, .f32⟩
  | .hbm, ⟨10, _⟩ => ⟨S1920x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S3x640x1536, .bf16⟩
  | .hbm, ⟨15, _⟩ => ⟨S1920x1536, .bf16⟩
  | .hbm, ⟨16, _⟩ => ⟨S1920x1536, .bf16⟩
  | .hbm, ⟨17, _⟩ => ⟨S1x1536, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S1920x1536, .bf16⟩
  | .hbm, ⟨25, _⟩ => ⟨S1920x1536, .bf16⟩
  | .hbm, ⟨26, _⟩ => ⟨S1920x1024, .fp8e5m2⟩
  | .hbm, ⟨27, _⟩ => ⟨S1920x1024, .fp8e5m2⟩
  | .hbm, ⟨28, _⟩ => ⟨S1920x1024, .fp8e5m2⟩
  | .hbm, ⟨29, _⟩ => ⟨S1x1536, .f32⟩
  | .hbm, ⟨30, _⟩ => ⟨S1x1, .f32⟩
  | .hbm, ⟨31, _⟩ => ⟨S1x1, .f32⟩
  | .hbm, ⟨32, _⟩ => ⟨S1x1, .f32⟩
  | .local _ .vmem, ⟨0, _⟩ => ⟨S320x1024, .f32⟩
  | .local _ .vmem, ⟨1, _⟩ => ⟨S320x1024, .f32⟩
  | .local _ .vmem, ⟨2, _⟩ => ⟨S320x1024, .f32⟩
  | .local _ .vmem, ⟨3, _⟩ => ⟨S320x1024, .f32⟩
  | .local _ .vmem, ⟨4, _⟩ => ⟨S320x1024, .f32⟩
  | .local _ .vmem, ⟨5, _⟩ => ⟨S320x1024, .f32⟩
  | .local _ .vmem, ⟨6, _⟩ => ⟨S1536x1024, .fp8e4m3⟩
  | .local _ .vmem, ⟨7, _⟩ => ⟨S1536x1024, .fp8e4m3⟩
  | .local _ .vmem, ⟨8, _⟩ => ⟨S1536x1024, .fp8e4m3⟩
  | .local _ .vmem, ⟨9, _⟩ => ⟨S320x1536, .bf16⟩
  | .local _ .vmem, ⟨10, _⟩ => ⟨S320x1536, .bf16⟩
  | .local _ .vmem, ⟨11, _⟩ => ⟨S320x1536, .bf16⟩
  | .local _ .vmem, ⟨12, _⟩ => ⟨S320x1536, .bf16⟩
  | .local _ .vmem, ⟨13, _⟩ => ⟨S1x1536, .f32⟩
  | .local _ .vmem, ⟨14, _⟩ => ⟨S320x1536, .bf16⟩
  | .local _ .vmem, ⟨15, _⟩ => ⟨S320x1536, .bf16⟩
  | .local _ .vmem, ⟨16, _⟩ => ⟨S320x1536, .bf16⟩
  | .local _ .vmem, ⟨17, _⟩ => ⟨S320x1536, .bf16⟩
  | .local _ .vmem, ⟨18, _⟩ => ⟨S320x1024, .fp8e5m2⟩
  | .local _ .vmem, ⟨19, _⟩ => ⟨S320x1024, .fp8e5m2⟩
  | .local _ .vmem, ⟨20, _⟩ => ⟨S320x1024, .fp8e5m2⟩
  | .local _ .vmem, ⟨21, _⟩ => ⟨S320x1024, .fp8e5m2⟩
  | .local _ .vmem, ⟨22, _⟩ => ⟨S320x1024, .fp8e5m2⟩
  | .local _ .vmem, ⟨23, _⟩ => ⟨S320x1024, .fp8e5m2⟩
  | .local _ .vmem, ⟨24, _⟩ => ⟨S1x1536, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev cc0_stg6_0 : Ref sig .tc := ⟨.vmem, 0, rfl⟩
abbrev cc0_stg6_1 : Ref sig .tc := ⟨.vmem, 1, rfl⟩
abbrev cc0_stg7_0 : Ref sig .tc := ⟨.vmem, 2, rfl⟩
abbrev cc0_stg7_1 : Ref sig .tc := ⟨.vmem, 3, rfl⟩
abbrev cc0_stg8_0 : Ref sig .tc := ⟨.vmem, 4, rfl⟩
abbrev cc0_stg8_1 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg12_1 : Ref sig .tc := ⟨.vmem, 10, rfl⟩
abbrev cc0_stg13_0 : Ref sig .tc := ⟨.vmem, 11, rfl⟩
abbrev cc0_stg13_1 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg15_1 : Ref sig .tc := ⟨.vmem, 15, rfl⟩
abbrev cc0_stg16_0 : Ref sig .tc := ⟨.vmem, 16, rfl⟩
abbrev cc0_stg16_1 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem21_0 : DmaSem sig := 31
abbrev cc0_sem22_0 : DmaSem sig := 32
abbrev cc0_sem23_0 : DmaSem sig := 33

abbrev nD : Nat := 1
abbrev τ : Topo := Topo.v7x

variable {F : FTy → Type} [FloatOps F]

abbrev grid0 : Pipeline.Grid := ⟨1, ![6], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1536x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S320x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S320x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S320x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S320x1024 .fp8e5m2 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S320x1024 .fp8e5m2 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S320x1024 .fp8e5m2 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1536 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== KDxIdeal.lean ====
variable {F : FTy → Type} [FloatOps F] [Named F]
def κ : String → Option EReal := fun
  | "inv_d" => some ((1 / 1536 : ℝ) : EReal)
  | _ => none
-- ==== RDxIdeal.lean ====
abbrev S3x640x1536 : Shape := ⟨3, ![3, 640, 1536]⟩
abbrev S1536 : Shape := ⟨1, ![1536]⟩
abbrev S1536x1024 : Shape := ⟨2, ![1536, 1024]⟩
abbrev S_ : Shape := ⟨0, ![]⟩
abbrev S1920x1024 : Shape := ⟨2, ![1920, 1024]⟩
abbrev S1920x1536 : Shape := ⟨2, ![1920, 1536]⟩
abbrev S1x1536 : Shape := ⟨2, ![1, 1536]⟩
abbrev S1x1 : Shape := ⟨2, ![1, 1]⟩
abbrev S1920 : Shape := ⟨1, ![1920]⟩
abbrev S1920x1 : Shape := ⟨2, ![1920, 1]⟩

abbrev nBuf : Space → Nat
  | .hbm => 33
  | .vmem => 24
  | .smem => 0
  | _ => 0

abbrev bufTy : (tb : Table) → Fin (tcTables nBuf tb) → BufTy
  | .hbm, ⟨0, _⟩ => ⟨S3x640x1536, .bf16⟩
  | .hbm, ⟨1, _⟩ => ⟨S1536, .f32⟩
  | .hbm, ⟨2, _⟩ => ⟨S1536x1024, .fp8e4m3⟩
  | .hbm, ⟨3, _⟩ => ⟨S1536x1024, .fp8e4m3⟩
  | .hbm, ⟨4, _⟩ => ⟨S1536x1024, .fp8e4m3⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1920x1024, .f32⟩
  | .hbm, ⟨9, _⟩ => ⟨S1920x1024, .f32⟩
  | .hbm, ⟨10, _⟩ => ⟨S1920x1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S3x640x1536, .bf16⟩
  | .hbm, ⟨15, _⟩ => ⟨S1920x1536, .bf16⟩
  | .hbm, ⟨16, _⟩ => ⟨S1x1536, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S1920x1536, .bf16⟩
  | .hbm, ⟨24, _⟩ => ⟨S1920x1536, .bf16⟩
  | .hbm, ⟨25, _⟩ => ⟨S1920x1536, .bf16⟩
  | .hbm, ⟨26, _⟩ => ⟨S1920x1024, .fp8e5m2⟩
  | .hbm, ⟨27, _⟩ => ⟨S1920x1024, .fp8e5m2⟩
  | .hbm, ⟨28, _⟩ => ⟨S1920x1024, .fp8e5m2⟩
  | .hbm, ⟨29, _⟩ => ⟨S1x1536, .f32⟩
  | .hbm, ⟨30, _⟩ => ⟨S1x1, .f32⟩
  | .hbm, ⟨31, _⟩ => ⟨S1x1, .f32⟩
  | .hbm, ⟨32, _⟩ => ⟨S1x1, .f32⟩
  | .local _ .vmem, ⟨0, _⟩ => ⟨S1920x1536, .bf16⟩
  | .local _ .vmem, ⟨1, _⟩ => ⟨S1x1536, .f32⟩
  | .local _ .vmem, ⟨2, _⟩ => ⟨S1536x1024, .fp8e4m3⟩
  | .local _ .vmem, ⟨3, _⟩ => ⟨S1536x1024, .fp8e4m3⟩
  | .local _ .vmem, ⟨4, _⟩ => ⟨S1536x1024, .fp8e4m3⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1920x1024, .f32⟩
  | .local _ .vmem, ⟨9, _⟩ => ⟨S1920x1024, .f32⟩
  | .local _ .vmem, ⟨10, _⟩ => ⟨S1920x1024, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1920x1536, .bf16⟩
  | .local _ .vmem, ⟨15, _⟩ => ⟨S1920x1536, .bf16⟩
  | .local _ .vmem, ⟨16, _⟩ => ⟨S1920x1536, .bf16⟩
  | .local _ .vmem, ⟨17, _⟩ => ⟨S1920x1024, .fp8e5m2⟩
  | .local _ .vmem, ⟨18, _⟩ => ⟨S1920x1024, .fp8e5m2⟩
  | .local _ .vmem, ⟨19, _⟩ => ⟨S1920x1024, .fp8e5m2⟩
  | .local _ .vmem, ⟨20, _⟩ => ⟨S1x1536, .f32⟩
  | .local _ .vmem, ⟨21, _⟩ => ⟨S1x1, .f32⟩
  | .local _ .vmem, ⟨22, _⟩ => ⟨S1x1, .f32⟩
  | .local _ .vmem, ⟨23, _⟩ => ⟨S1x1, .f32⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S1920x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1920x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1920x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1920x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1920x1536 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1920x1536 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1920x1536 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1920x1024 .fp8e5m2 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1920x1024 .fp8e5m2 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1920x1024 .fp8e5m2 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1536 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== KProj.lean ====
abbrev S3x640x1536 : Shape := ⟨3, ![3, 640, 1536]⟩
abbrev S1536 : Shape := ⟨1, ![1536]⟩
abbrev S1536x1024 : Shape := ⟨2, ![1536, 1024]⟩
abbrev S1024x1536 : Shape := ⟨2, ![1024, 1536]⟩
abbrev S_ : Shape := ⟨0, ![]⟩
abbrev S1 : Shape := ⟨1, ![1]⟩
abbrev S1920x1536 : Shape := ⟨2, ![1920, 1536]⟩
abbrev S1x1536 : Shape := ⟨2, ![1, 1536]⟩
abbrev S1920x1024 : Shape := ⟨2, ![1920, 1024]⟩
abbrev S1x1 : Shape := ⟨2, ![1, 1]⟩
abbrev S320x1536 : Shape := ⟨2, ![320, 1536]⟩
abbrev S320x1024 : Shape := ⟨2, ![320, 1024]⟩
abbrev S8x1536 : Shape := ⟨2, ![8, 1536]⟩
abbrev S320 : Shape := ⟨1, ![320]⟩
abbrev S320x1 : Shape := ⟨2, ![320, 1]⟩
abbrev S40x8x1536 : Shape := ⟨3, ![40, 8, 1536]⟩
abbrev S1x8x1536 : Shape := ⟨3, ![1, 8, 1536]⟩
abbrev S1x1x1 : Shape := ⟨3, ![1, 1, 1]⟩

abbrev nBuf : Space → Nat
  | .hbm => 30
  | .vmem => 25
  | .smem => 6
  | _ => 0

abbrev bufTy : (tb : Table) → Fin (tcTables nBuf tb) → BufTy
  | .hbm, ⟨0, _⟩ => ⟨S3x640x1536, .bf16⟩
  | .hbm, ⟨1, _⟩ => ⟨S1536, .f32⟩
  | .hbm, ⟨2, _⟩ => ⟨S1536x1024, .fp8e4m3⟩
  | .hbm, ⟨3, _⟩ => ⟨S1536x1024, .fp8e4m3⟩
  | .hbm, ⟨4, _⟩ => ⟨S1536x1024, .fp8e4m3⟩
  | .hbm, ⟨5, _⟩ => ⟨S1024x1536, .fp8e4m3⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S3x640x1536, .bf16⟩
  | .hbm, ⟨13, _⟩ => ⟨S1, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S1, .f32⟩
  | .hbm, ⟨19, _⟩ => ⟨S1920x1536, .bf16⟩
  | .hbm, ⟨20, _⟩ => ⟨S1920x1536, .bf16⟩
  | .hbm, ⟨21, _⟩ => ⟨S1x1536, .f32⟩
  | .hbm, ⟨22, _⟩ => ⟨S1920x1536, .fp8e4m3⟩
  | .hbm, ⟨23, _⟩ => ⟨S1920x1536, .fp8e5m2⟩
  | .hbm, ⟨24, _⟩ => ⟨S1920x1024, .bf16⟩
  | .hbm, ⟨25, _⟩ => ⟨S1920x1024, .bf16⟩
  | .hbm, ⟨26, _⟩ => ⟨S1920x1024, .bf16⟩
  | .hbm, ⟨27, _⟩ => ⟨S1920x1024, .f32⟩
  | .hbm, ⟨28, _⟩ => ⟨S1x1, .f32⟩
  | .hbm, ⟨29, _⟩ => ⟨S1x1, .f32⟩
  | .local _ .vmem, ⟨0, _⟩ => ⟨S320x1536, .bf16⟩
  | .local _ .vmem, ⟨1, _⟩ => ⟨S320x1536, .bf16⟩
  | .local _ .vmem, ⟨2, _⟩ => ⟨S1x1536, .f32⟩
  | .local _ .vmem, ⟨3, _⟩ => ⟨S1536x1024, .fp8e4m3⟩
  | .local _ .vmem, ⟨4, _⟩ => ⟨S1536x1024, .fp8e4m3⟩
  | .local _ .vmem, ⟨5, _⟩ => ⟨S1536x1024, .fp8e4m3⟩
  | .local _ .vmem, ⟨6, _⟩ => ⟨S1024x1536, .fp8e4m3⟩
  | .local _ .vmem, ⟨7, _⟩ => ⟨S320x1536, .bf16⟩
  | .local _ .vmem, ⟨8, _⟩ => ⟨S320x1536, .bf16⟩
  | .local _ .vmem, ⟨9, _⟩ => ⟨S320x1536, .fp8e4m3⟩
  | .local _ .vmem, ⟨10, _⟩ => ⟨S320x1536, .fp8e4m3⟩
  | .local _ .vmem, ⟨11, _⟩ => ⟨S320x1536, .fp8e5m2⟩
  | .local _ .vmem, ⟨12, _⟩ => ⟨S320x1536, .fp8e5m2⟩
  | .local _ .vmem, ⟨13, _⟩ => ⟨S320x1024, .bf16⟩
  | .local _ .vmem, ⟨14, _⟩ => ⟨S320x1024, .bf16⟩
  | .local _ .vmem, ⟨15, _⟩ => ⟨S320x1024, .bf16⟩
  | .local _ .vmem, ⟨16, _⟩ => ⟨S320x1024, .bf16⟩
  | .local _ .vmem, ⟨17, _⟩ => ⟨S320x1024, .bf16⟩
  | .local _ .vmem, ⟨18, _⟩ => ⟨S320x1024, .bf16⟩
  | .local _ .vmem, ⟨19, _⟩ => ⟨S320x1024, .f32⟩
  | .local _ .vmem, ⟨20, _⟩ => ⟨S320x1024, .f32⟩
  | .local _ .vmem, ⟨21, _⟩ => ⟨S1x1, .f32⟩
  | .local _ .vmem, ⟨22, _⟩ => ⟨S1x1, .f32⟩
  | .local _ .vmem, ⟨23, _⟩ => ⟨S8x1536, .f32⟩
  | .local _ .vmem, ⟨24, _⟩ => ⟨S8x1536, .f32⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev main_v9_7 : Ref sig .tc := ⟨.hbm, 29, rfl⟩
abbrev cc0_stg6_0 : Ref sig .tc := ⟨.vmem, 0, rfl⟩
abbrev cc0_stg6_1 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_stg12_0 : Ref sig .tc := ⟨.vmem, 7, rfl⟩
abbrev cc0_stg12_1 : Ref sig .tc := ⟨.vmem, 8, rfl⟩
abbrev cc0_stg13_0 : Ref sig .tc := ⟨.vmem, 9, rfl⟩
abbrev cc0_stg13_1 : Ref sig .tc := ⟨.vmem, 10, rfl⟩
abbrev cc0_stg14_0 : Ref sig .tc := ⟨.vmem, 11, rfl⟩
abbrev cc0_stg14_1 : Ref sig .tc := ⟨.vmem, 12, rfl⟩
abbrev cc0_stg15_0 : Ref sig .tc := ⟨.vmem, 13, rfl⟩
abbrev cc0_stg15_1 : Ref sig .tc := ⟨.vmem, 14, rfl⟩
abbrev cc0_stg16_0 : Ref sig .tc := ⟨.vmem, 15, rfl⟩
abbrev cc0_stg16_1 : Ref sig .tc := ⟨.vmem, 16, rfl⟩
abbrev cc0_stg17_0 : Ref sig .tc := ⟨.vmem, 17, rfl⟩
abbrev cc0_stg17_1 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg20_0 : Ref sig .tc := ⟨.vmem, 22, rfl⟩
abbrev cc0_scratch0 : Ref sig .tc := ⟨.vmem, 23, rfl⟩
abbrev cc0_scratch1 : Ref sig .tc := ⟨.vmem, 24, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32 : BitVec 32 := 5#32
  let v96 : BitVec 1 := Scalar.cmpi .eq arg0 c5_i32
  let v97 : BitVec 32 := Scalar.extui v96
  let c0_i32_56 : BitVec 32 := 0#32
  let v98 : BitVec 1 := Scalar.cmpi .ne v97 c0_i32_56
  v98

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S320x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536x1024 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1536 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S320x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S320x1536 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S320x1536 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S320x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S320x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S320x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S320x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KProjIdeal.lean ====
variable {F : FTy → Type} [FloatOps F] [Named F]
def κ : String → Option EReal := fun
  | "inv_d" => some ((1 / 1536 : ℝ) : EReal)
  | _ => none
-- ==== RProjIdeal.lean ====
abbrev S3x640x1536 : Shape := ⟨3, ![3, 640, 1536]⟩
abbrev S1536 : Shape := ⟨1, ![1536]⟩
abbrev S1536x1024 : Shape := ⟨2, ![1536, 1024]⟩
abbrev S1024x1536 : Shape := ⟨2, ![1024, 1536]⟩
abbrev S_ : Shape := ⟨0, ![]⟩
abbrev S1920x1536 : Shape := ⟨2, ![1920, 1536]⟩
abbrev S1x1536 : Shape := ⟨2, ![1, 1536]⟩
abbrev S1x1 : Shape := ⟨2, ![1, 1]⟩
abbrev S1920x1024 : Shape := ⟨2, ![1920, 1024]⟩
abbrev S1920 : Shape := ⟨1, ![1920]⟩
abbrev S1920x1 : Shape := ⟨2, ![1920, 1]⟩
abbrev S1x1920x1536 : Shape := ⟨3, ![1, 1920, 1536]⟩
abbrev S1 : Shape := ⟨1, ![1]⟩
abbrev S1x1x1 : Shape := ⟨3, ![1, 1, 1]⟩

abbrev nBuf : Space → Nat
  | .hbm => 30
  | .vmem => 21
  | .smem => 0
  | _ => 0

abbrev bufTy : (tb : Table) → Fin (tcTables nBuf tb) → BufTy
  | .hbm, ⟨0, _⟩ => ⟨S3x640x1536, .bf16⟩
  | .hbm, ⟨1, _⟩ => ⟨S1536, .f32⟩
  | .hbm, ⟨2, _⟩ => ⟨S1536x1024, .fp8e4m3⟩
  | .hbm, ⟨3, _⟩ => ⟨S1536x1024, .fp8e4m3⟩
  | .hbm, ⟨4, _⟩ => ⟨S1536x1024, .fp8e4m3⟩
  | .hbm, ⟨5, _⟩ => ⟨S1024x1536, .fp8e4m3⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S3x640x1536, .bf16⟩
  | .hbm, ⟨13, _⟩ => ⟨S1920x1536, .bf16⟩
  | .hbm, ⟨14, _⟩ => ⟨S1x1536, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1920x1536, .bf16⟩
  | .hbm, ⟨22, _⟩ => ⟨S1920x1536, .fp8e4m3⟩
  | .hbm, ⟨23, _⟩ => ⟨S1920x1536, .fp8e5m2⟩
  | .hbm, ⟨24, _⟩ => ⟨S1920x1024, .bf16⟩
  | .hbm, ⟨25, _⟩ => ⟨S1920x1024, .bf16⟩
  | .hbm, ⟨26, _⟩ => ⟨S1920x1024, .bf16⟩
  | .hbm, ⟨27, _⟩ => ⟨S1920x1024, .f32⟩
  | .hbm, ⟨28, _⟩ => ⟨S1x1, .f32⟩
  | .hbm, ⟨29, _⟩ => ⟨S1x1, .f32⟩
  | .local _ .vmem, ⟨0, _⟩ => ⟨S1920x1536, .bf16⟩
  | .local _ .vmem, ⟨1, _⟩ => ⟨S1x1536, .f32⟩
  | .local _ .vmem, ⟨2, _⟩ => ⟨S1536x1024, .fp8e4m3⟩
  | .local _ .vmem, ⟨3, _⟩ => ⟨S1536x1024, .fp8e4m3⟩
  | .local _ .vmem, ⟨4, _⟩ => ⟨S1536x1024, .fp8e4m3⟩
  | .local _ .vmem, ⟨5, _⟩ => ⟨S1024x1536, .fp8e4m3⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1920x1536, .bf16⟩
  | .local _ .vmem, ⟨13, _⟩ => ⟨S1920x1536, .fp8e4m3⟩
  | .local _ .vmem, ⟨14, _⟩ => ⟨S1920x1536, .fp8e5m2⟩
  | .local _ .vmem, ⟨15, _⟩ => ⟨S1920x1024, .bf16⟩
  | .local _ .vmem, ⟨16, _⟩ => ⟨S1920x1024, .bf16⟩
  | .local _ .vmem, ⟨17, _⟩ => ⟨S1920x1024, .bf16⟩
  | .local _ .vmem, ⟨18, _⟩ => ⟨S1920x1024, .f32⟩
  | .local _ .vmem, ⟨19, _⟩ => ⟨S1x1, .f32⟩
  | .local _ .vmem, ⟨20, _⟩ => ⟨S1x1, .f32⟩
  | _, _ => ⟨S3x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev main_v9_7 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1920x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1920x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1920x1536 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1920x1536 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1920x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1920x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1920x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1920x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== KAttn.lean ====
abbrev S_ : Shape := ⟨0, ![]⟩
abbrev S8 : Shape := ⟨1, ![8]⟩
abbrev S1920x1024 : Shape := ⟨2, ![1920, 1024]⟩
abbrev S3x640 : Shape := ⟨2, ![3, 640]⟩
abbrev S1 : Shape := ⟨1, ![1]⟩
abbrev S3x1x640 : Shape := ⟨3, ![3, 1, 640]⟩
abbrev S3x8x1x640 : Shape := ⟨4, ![3, 8, 1, 640]⟩
abbrev S8x1279 : Shape := ⟨2, ![8, 1279]⟩
abbrev S8x1 : Shape := ⟨2, ![8, 1]⟩
abbrev S1x1 : Shape := ⟨2, ![1, 1]⟩
abbrev S640x128 : Shape := ⟨2, ![640, 128]⟩
abbrev S1x1x640 : Shape := ⟨3, ![1, 1, 640]⟩
abbrev S1x1x1x640 : Shape := ⟨4, ![1, 1, 1, 640]⟩
abbrev S1280x256 : Shape := ⟨2, ![1280, 256]⟩
abbrev S640x640 : Shape := ⟨2, ![640, 640]⟩
abbrev S640x1280 : Shape := ⟨2, ![640, 1280]⟩
abbrev S3x640x640 : Shape := ⟨3, ![3, 640, 640]⟩
abbrev S9x128x128 : Shape := ⟨3, ![9, 128, 128]⟩
abbrev S8x128 : Shape := ⟨2, ![8, 128]⟩
abbrev S1x640 : Shape := ⟨2, ![1, 640]⟩
abbrev S128x640 : Shape := ⟨2, ![128, 640]⟩
abbrev S1x128 : Shape := ⟨2, ![1, 128]⟩
abbrev S1x640x128 : Shape := ⟨3, ![1, 640, 128]⟩
abbrev S128 : Shape := ⟨1, ![128]⟩
abbrev S1x1x128 : Shape := ⟨3, ![1, 1, 128]⟩
abbrev S128x128 : Shape := ⟨2, ![128, 128]⟩
abbrev S640x256 : Shape := ⟨2, ![640, 256]⟩
abbrev S256x256 : Shape := ⟨2, ![256, 256]⟩
abbrev S1x1x1x128 : Shape := ⟨4, ![1, 1, 1, 128]⟩
abbrev S640 : Shape := ⟨1, ![640]⟩
abbrev S80x8x128 : Shape := ⟨3, ![80, 8, 128]⟩
abbrev S1x128x128 : Shape := ⟨3, ![1, 128, 128]⟩
abbrev S128x1280 : Shape := ⟨2, ![128, 1280]⟩
abbrev S64x1280 : Shape := ⟨2, ![64, 1280]⟩
abbrev S32x1280 : Shape := ⟨2, ![32, 1280]⟩
abbrev S16x1280 : Shape := ⟨2, ![16, 1280]⟩
abbrev S8x1280 : Shape := ⟨2, ![8, 1280]⟩
abbrev S4x1280 : Shape := ⟨2, ![4, 1280]⟩
abbrev S2x1280 : Shape := ⟨2, ![2, 1280]⟩
abbrev S1x1280 : Shape := ⟨2, ![1, 1280]⟩
abbrev S1x1279 : Shape := ⟨2, ![1, 1279]⟩
abbrev S1x8x128 : Shape := ⟨3, ![1, 8, 128]⟩
abbrev S1x1x1 : Shape := ⟨3, ![1, 1, 1]⟩

abbrev nBuf : Space → Nat
  | .hbm => 21
  | .vmem => 41
  | .smem => 2
  | _ => 0

abbrev bufTy : (tb : Table) → Fin (tcTables nBuf tb) → BufTy
  | .hbm, ⟨0, _⟩ => ⟨S_, .f32⟩
  | .hbm, ⟨1, _⟩ => ⟨S8, .f32⟩
  | .hbm, ⟨2, _⟩ => ⟨S1920x1024, .bf16⟩
  | .hbm, ⟨3, _⟩ => ⟨S1920x1024, .bf16⟩
  | .hbm, ⟨4, _⟩ => ⟨S1920x1024, .bf16⟩
  | .hbm, ⟨5, _⟩ => ⟨S1920x1024, .f32⟩
  | .hbm, ⟨6, _⟩ => ⟨S3x640, .i32⟩
  | .hbm, ⟨7, _⟩ => ⟨S1, .f32⟩
  | .hbm, ⟨8, _⟩ => ⟨S3x1x640, .i32⟩
  | .hbm, ⟨9, _⟩ => ⟨S1920x1024, .bf16⟩
  | .hbm, ⟨10, _⟩ => ⟨S1920x1024, .fp8e4m3⟩
  | .hbm, ⟨11, _⟩ => ⟨S1920x1024, .f32⟩
  | .hbm, ⟨12, _⟩ => ⟨S1920x1024, .f32⟩
  | .hbm, ⟨13, _⟩ => ⟨S1920x1024, .f32⟩
  | .hbm, ⟨14, _⟩ => ⟨S3x8x1x640, .f32⟩
  | .hbm, ⟨15, _⟩ => ⟨S8x1279, .f32⟩
  | .hbm, ⟨16, _⟩ => ⟨S8x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .local _ .vmem, ⟨0, _⟩ => ⟨S640x128, .bf16⟩
  | .local _ .vmem, ⟨1, _⟩ => ⟨S640x128, .bf16⟩
  | .local _ .vmem, ⟨2, _⟩ => ⟨S640x128, .bf16⟩
  | .local _ .vmem, ⟨3, _⟩ => ⟨S640x128, .bf16⟩
  | .local _ .vmem, ⟨4, _⟩ => ⟨S640x128, .bf16⟩
  | .local _ .vmem, ⟨5, _⟩ => ⟨S640x128, .bf16⟩
  | .local _ .vmem, ⟨6, _⟩ => ⟨S640x128, .f32⟩
  | .local _ .vmem, ⟨7, _⟩ => ⟨S640x128, .f32⟩
  | .local _ .vmem, ⟨8, _⟩ => ⟨S1x1x640, .i32⟩
  | .local _ .vmem, ⟨9, _⟩ => ⟨S1x1x640, .i32⟩
  | .local _ .vmem, ⟨10, _⟩ => ⟨S640x128, .bf16⟩
  | .local _ .vmem, ⟨11, _⟩ => ⟨S640x128, .bf16⟩
  | .local _ .vmem, ⟨12, _⟩ => ⟨S640x128, .fp8e4m3⟩
  | .local _ .vmem, ⟨13, _⟩ => ⟨S640x128, .fp8e4m3⟩
  | .local _ .vmem, ⟨14, _⟩ => ⟨S640x128, .f32⟩
  | .local _ .vmem, ⟨15, _⟩ => ⟨S640x128, .f32⟩
  | .local _ .vmem, ⟨16, _⟩ => ⟨S640x128, .f32⟩
  | .local _ .vmem, ⟨17, _⟩ => ⟨S640x128, .f32⟩
  | .local _ .vmem, ⟨18, _⟩ => ⟨S640x128, .f32⟩
  | .local _ .vmem, ⟨19, _⟩ => ⟨S640x128, .f32⟩
  | .local _ .vmem, ⟨20, _⟩ => ⟨S1x1x1x640, .f32⟩
  | .local _ .vmem, ⟨21, _⟩ => ⟨S1x1x1x640, .f32⟩
  | .local _ .vmem, ⟨22, _⟩ => ⟨S8x1279, .f32⟩
  | .local _ .vmem, ⟨23, _⟩ => ⟨S8x1, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | .local _ .vmem, ⟨27, _⟩ => ⟨S1x1, .f32⟩
  | .local _ .vmem, ⟨28, _⟩ => ⟨S1280x256, .bf16⟩
  | .local _ .vmem, ⟨29, _⟩ => ⟨S640x640, .bf16⟩
  | .local _ .vmem, ⟨30, _⟩ => ⟨S640x640, .bf16⟩
  | .local _ .vmem, ⟨31, _⟩ => ⟨S640x1280, .bf16⟩
  | .local _ .vmem, ⟨32, _⟩ => ⟨S640x640, .f32⟩
  | .local _ .vmem, ⟨33, _⟩ => ⟨S640x640, .f32⟩
  | .local _ .vmem, ⟨34, _⟩ => ⟨S3x640x640, .f32⟩
  | .local _ .vmem, ⟨35, _⟩ => ⟨S3x1x640, .f32⟩
  | .local _ .vmem, ⟨36, _⟩ => ⟨S9x128x128, .f32⟩
  | .local _ .vmem, ⟨37, _⟩ => ⟨S8x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .smem, ⟨0, _⟩ => ⟨S1, .f32⟩
  | .local _ .smem, ⟨1, _⟩ => ⟨S8, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v2_7 : Ref sig .tc := ⟨.hbm, 16, rfl⟩
abbrev main_v2_8 : Ref sig .tc := ⟨.hbm, 17, rfl⟩
abbrev main_v2_9 : Ref sig .tc := ⟨.hbm, 18, rfl⟩
abbrev main_v2_10 : Ref sig .tc := ⟨.hbm, 19, rfl⟩
abbrev main_v2_11 : Ref sig .tc := ⟨.hbm, 20, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_scratch9 : Ref sig .tc := ⟨.vmem, 37, rfl⟩
abbrev cc0_scratch10 : Ref sig .tc := ⟨.vmem, 38, rfl⟩
abbrev cc0_scratch11 : Ref sig .tc := ⟨.vmem, 39, rfl⟩
abbrev cc0_scratch12 : Ref sig .tc := ⟨.vmem, 40, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v688 : Index := Scalar.indexCast arg1
  let c0_384 : Index := 0#32
  let c0_385 : Index := 0#32
  ![v688.toNat, 0, 0]
def k0_off2 (i : grid0.Coords) : Fin 3 → Nat :=
  let arg1 : BitVec 32 := BitVec.ofNat 32 (i 1).val
  let v696 : Index := Scalar.indexCast arg1
  let c0_387 : Index := 0#32
  let c0_388 : Index := 0#32
  ![v696.toNat, 0, 0]
def k0_off3 (i : grid0.Coords) : Fin 3 → Nat :=
  let arg1 : BitVec 32 := BitVec.ofNat 32 (i 1).val
  let v706 : Index := Scalar.indexCast arg1
  let c0_391 : Index := 0#32
  let c128_392 : Index := 128#32
  ![v706.toNat, 0, 128]
def k0_off4 (i : grid0.Coords) : Fin 3 → Nat :=
  let arg1 : BitVec 32 := BitVec.ofNat 32 (i 1).val
  let v714 : Index := Scalar.indexCast arg1
  let c0_394 : Index := 0#32
  let c128_395 : Index := 128#32
  ![v714.toNat, 0, 128]
def k0_off5 (i : grid0.Coords) : Fin 3 → Nat :=
  let arg1 : BitVec 32 := BitVec.ofNat 32 (i 1).val
  let v724 : Index := Scalar.indexCast arg1
  let c0_398 : Index := 0#32
  let c256_399 : Index := 256#32
  ![v724.toNat, 0, 256]
def k0_off6 (i : grid0.Coords) : Fin 3 → Nat :=
  let arg1 : BitVec 32 := BitVec.ofNat 32 (i 1).val
  let v732 : Index := Scalar.indexCast arg1
  let c0_401 : Index := 0#32
  let c256_402 : Index := 256#32
  ![v732.toNat, 0, 256]
def k0_off7 (i : grid0.Coords) : Fin 3 → Nat :=
  let arg1 : BitVec 32 := BitVec.ofNat 32 (i 1).val
  let v742 : Index := Scalar.indexCast arg1
  let c0_405 : Index := 0#32
  let c384_406 : Index := 384#32
  ![v742.toNat, 0, 384]
def k0_off8 (i : grid0.Coords) : Fin 3 → Nat :=
  let arg1 : BitVec 32 := BitVec.ofNat 32 (i 1).val
  let v750 : Index := Scalar.indexCast arg1
  let c0_408 : Index := 0#32
  let c384_409 : Index := 384#32
  ![v750.toNat, 0, 384]
def k0_off9 (i : grid0.Coords) : Fin 3 → Nat :=
  let arg1 : BitVec 32 := BitVec.ofNat 32 (i 1).val
  let v760 : Index := Scalar.indexCast arg1
  let c0_412 : Index := 0#32
  let c512_413 : Index := 512#32
  ![v760.toNat, 0, 512]
def k0_off10 (i : grid0.Coords) : Fin 3 → Nat :=
  let arg1 : BitVec 32 := BitVec.ofNat 32 (i 1).val
  let v768 : Index := Scalar.indexCast arg1
  let c0_415 : Index := 0#32
  let c512_416 : Index := 512#32
  ![v768.toNat, 0, 512]
def k0_off11 (i : grid0.Coords) : Fin 1 → Nat :=
  let arg0 : BitVec 32 := BitVec.ofNat 32 (i 0).val
  let v60 : Index := Scalar.indexCast arg0
  ![v60.toNat]
def k0_off12 (i : grid0.Coords) : Fin 3 → Nat :=
  let arg1 : BitVec 32 := BitVec.ofNat 32 (i 1).val
  let v77 : Index := Scalar.indexCast arg1
  let c0_28 : Index := 0#32
  let c0_29 : Index := 0#32
  ![v77.toNat, 0, 0]
def k0_off13 (i : grid0.Coords) : Fin 3 → Nat :=
  let arg1 : BitVec 32 := BitVec.ofNat 32 (i 1).val
  let v94 : Index := Scalar.indexCast arg1
  let c0_33 : Index := 0#32
  let c0_34 : Index := 0#32
  ![v94.toNat, 0, 0]
def k0_off14 (i : grid0.Coords) : Fin 3 → Nat :=
  let arg1 : BitVec 32 := BitVec.ofNat 32 (i 1).val
  let v137 : Index := Scalar.indexCast arg1
  let c0_53 : Index := 0#32
  let c128_54 : Index := 128#32
  ![v137.toNat, 0, 128]
def k0_off15 (i : grid0.Coords) : Fin 3 → Nat :=
  let arg1 : BitVec 32 := BitVec.ofNat 32 (i 1).val
  let v154 : Index := Scalar.indexCast arg1
  let c0_58 : Index := 0#32
  let c128_59 : Index := 128#32
  ![v154.toNat, 0, 128]
def k0_off16 (i : grid0.Coords) : Fin 3 → Nat :=
  let arg1 : BitVec 32 := BitVec.ofNat 32 (i 1).val
  let v197 : Index := Scalar.indexCast arg1
  let c0_78 : Index := 0#32
  let c256_79 : Index := 256#32
  ![v197.toNat, 0, 256]
def k0_off17 (i : grid0.Coords) : Fin 3 → Nat :=
  let arg1 : BitVec 32 := BitVec.ofNat 32 (i 1).val
  let v214 : Index := Scalar.indexCast arg1
  let c0_83 : Index := 0#32
  let c256_84 : Index := 256#32
  ![v214.toNat, 0, 256]
def k0_off18 (i : grid0.Coords) : Fin 3 → Nat :=
  let arg1 : BitVec 32 := BitVec.ofNat 32 (i 1).val
  let v257 : Index := Scalar.indexCast arg1
  let c0_103 : Index := 0#32
  let c384_104 : Index := 384#32
  ![v257.toNat, 0, 384]
def k0_off19 (i : grid0.Coords) : Fin 3 → Nat :=
  let arg1 : BitVec 32 := BitVec.ofNat 32 (i 1).val
  let v274 : Index := Scalar.indexCast arg1
  let c0_108 : Index := 0#32
  let c384_109 : Index := 384#32
  ![v274.toNat, 0, 384]
def k0_off20 (i : grid0.Coords) : Fin 3 → Nat :=
  let arg1 : BitVec 32 := BitVec.ofNat 32 (i 1).val
  let v317 : Index := Scalar.indexCast arg1
  let c0_128 : Index := 0#32
  let c512_129 : Index := 512#32
  ![v317.toNat, 0, 512]
def k0_off21 (i : grid0.Coords) : Fin 3 → Nat :=
  let arg1 : BitVec 32 := BitVec.ofNat 32 (i 1).val
  let v334 : Index := Scalar.indexCast arg1
  let c0_133 : Index := 0#32
  let c512_134 : Index := 512#32
  ![v334.toNat, 0, 512]
def k0_cond4 (i : grid0.Coords) : BitVec 1 :=
  let arg1 : BitVec 32 := BitVec.ofNat 32 (i 1).val
  let c2_i32 : BitVec 32 := 2#32
  let v669 : BitVec 1 := Scalar.cmpi .eq arg1 c2_i32
  let v670 : BitVec 32 := Scalar.extui v669
  let c0_i32_376 : BitVec 32 := 0#32
  let v671 : BitVec 1 := Scalar.cmpi .ne v670 c0_i32_376
  v671

def k0_off22 (i : grid0.Coords) : Fin 2 → Nat :=
  let arg0 : BitVec 32 := BitVec.ofNat 32 (i 0).val
  let v735 : Index := Scalar.indexCast arg0
  let c0_408 : Index := 0#32
  ![v735.toNat, 0]
def k0_off23 (i : grid0.Coords) : Fin 2 → Nat :=
  let arg0 : BitVec 32 := BitVec.ofNat 32 (i 0).val
  let v751 : Index := Scalar.indexCast arg0
  let c0_412 : Index := 0#32
  ![v751.toNat, 0]
def k0_cond5 (i : grid0.Coords) : BitVec 1 :=
  let arg0 : BitVec 32 := BitVec.ofNat 32 (i 0).val
  let c7_i32 : BitVec 32 := 7#32
  let v672 : BitVec 1 := Scalar.cmpi .eq arg0 c7_i32
  let arg1 : BitVec 32 := BitVec.ofNat 32 (i 1).val
  let c2_i32_377 : BitVec 32 := 2#32
  let v673 : BitVec 1 := Scalar.cmpi .eq arg1 c2_i32_377
  let v674 : BitVec 1 := Scalar.andi v672 v673
  let v675 : BitVec 32 := Scalar.extui v674
  let c0_i32_378 : BitVec 32 := 0#32
  let v676 : BitVec 1 := Scalar.cmpi .ne v675 c0_i32_378
  v676

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x640 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S640x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S640x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S640x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S640x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x640 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x1279 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S8x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Proof.Common.lean ====
/-
  Small facts every part uses: the origin as an offset, and arrays of one word.
-/
module

public import Idealize.ShloMosaic.Lib.Pipeline.Value
public import Idealize.ShloMosaic.Lib.Pointwise

@[expose] public section

noncomputable section

namespace Cert.Common

open Idealize.ShloMosaic

theorem hz : (![0, 0] : Fin 2 → Nat) = fun _ => 0 := funext fun a => by fin_cases a <;> rfl
theorem hz1 : (![0] : Fin 1 → Nat) = fun _ => 0 := funext fun a => by fin_cases a <;> rfl

/-- A one-word array has one index. -/
theorem one {α : Type} (x : (⟨1, ![1]⟩ : Shape).Idx → α) (y : (⟨1, ![1]⟩ : Shape).Idx) : x y = x (ix1 0) :=
  congrArg x (funext fun a => Fin.ext (by
    match a with
    | ⟨0, _⟩ => have h : (y 0).val < 1 := (y 0).isLt; show (y 0).val = 0; omega))

/-- A scalar laid out as an array of one word, whatever its shape. -/
theorem scalar {α : Type} (t : Shape) (x : (⟨0, ![]⟩ : Shape).Idx → α) (h : (⟨0, ![]⟩ : Shape).ShapeCasts t) (j : t.Idx) :
    shapeCast t x h j = x ix0 :=
  congrArg x (funext fun a => a.elim0)

end Cert.Common

end
-- ==== Proof.KDwIdealRead.lean ====
/-
  The kernel of the weight gradients: what the blocks of its windows are in the whole arrays, and when the array a window
  writes back is a given array.
-/
module

public import proofs.«01_k».proof.Proof.Common
public import proofs.«01_k».proof.Proof.Gen.KDwIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KDwIdeal.Read

open Cert.KDwIdeal Cert.KDwIdeal.Gen Cert.Common

variable (m : (ℓ : Loc nD τ sig) → Buf (Elt Ideal) ℓ) (c : Dev nD)

theorem arr_main_v0 : (V m c main_v0 : Vec Ideal S1920x1536 .fp8e4m3) = shapeCast S1920x1536 (m ((c : Thread nD τ).loc main_arg0)) shapeCasts_S3x640x1536_S1920x1536 := by
  dsimp only [V, hostOps0]; after_results; rfl

theorem arr_main_v1 : (V m c main_v1 : Vec Ideal S1920x1024 .fp8e5m2) = shapeCast S1920x1024 (m ((c : Thread nD τ).loc main_arg1)) shapeCasts_S3x640x1024_S1920x1024 := by
  dsimp only [V, hostOps0]; after_results; rfl

theorem arr_main_v2 : (V m c main_v2 : Vec Ideal S1920x1024 .fp8e5m2) = shapeCast S1920x1024 (m ((c : Thread nD τ).loc main_arg2)) shapeCasts_S3x640x1024_S1920x1024 := by
  dsimp only [V, hostOps0]; after_results; rfl

theorem arr_main_v3 : (V m c main_v3 : Vec Ideal S1920x1024 .fp8e5m2) = shapeCast S1920x1024 (m ((c : Thread nD τ).loc main_arg3)) shapeCasts_S3x640x1024_S1920x1024 := by
  dsimp only [V, hostOps0]; after_results; rfl

theorem arr_main_v4 : (V m c main_v4 : Vec Ideal S1 .f32) = shapeCast S1 (m ((c : Thread nD τ).loc main_arg4)) shapeCasts_S_S1 := by
  dsimp only [V, hostOps0]; after_results; rfl

theorem arr_main_v5 : (V m c main_v5 : Vec Ideal S1 .f32) = shapeCast S1 (m ((c : Thread nD τ).loc main_arg5)) shapeCasts_S_S1 := by
  dsimp only [V, hostOps0]; after_results; rfl

theorem arr_main_v6 : (V m c main_v6 : Vec Ideal S1 .f32) = shapeCast S1 (m ((c : Thread nD τ).loc main_arg6)) shapeCasts_S_S1 := by
  dsimp only [V, hostOps0]; after_results; rfl

theorem arr_main_v7 : (V m c main_v7 : Vec Ideal S1 .f32) = shapeCast S1 (m ((c : Thread nD τ).loc main_arg7)) shapeCasts_S_S1 := by
  dsimp only [V, hostOps0]; after_results; rfl

theorem at0 : ∀ (t : Fin cfg0.N) (a : Fin 1), win0_0.index t a = 0 :=
  (by decide +kernel : ∀ (t : Fin grid0.N) (a : Fin 1), win0_0.index t a = 0)

theorem blk0 (t : Fin cfg0.N) : (iblk m c 0 t : Vec Ideal S1 .f32) = V m c main_v4 :=
  Memref.read_access_unit_zero (Elt Ideal) main_v4 (off := fun a => win0_0.index t a * main_v4.ty.shape.size a) (funext fun a => by rw [at0 t a, Nat.zero_mul]) (fun a => by rw [at0 t a]; simp) _

theorem at1 : ∀ (t : Fin cfg0.N) (a : Fin 1), win0_1.index t a = 0 :=
  (by decide +kernel : ∀ (t : Fin grid0.N) (a : Fin 1), win0_1.index t a = 0)

theorem blk1 (t : Fin cfg0.N) : (iblk m c 1 t : Vec Ideal S1 .f32) = V m c main_v5 :=
  Memref.read_access_unit_zero (Elt Ideal) main_v5 (off := fun a => win0_1.index t a * main_v5.ty.shape.size a) (funext fun a => by rw [at1 t a, Nat.zero_mul]) (fun a => by rw [at1 t a]; simp) _

theorem at2 : ∀ (t : Fin cfg0.N) (a : Fin 1), win0_2.index t a = 0 :=
  (by decide +kernel : ∀ (t : Fin grid0.N) (a : Fin 1), win0_2.index t a = 0)

theorem blk2 (t : Fin cfg0.N) : (iblk m c 2 t : Vec Ideal S1 .f32) = V m c main_v6 :=
  Memref.read_access_unit_zero (Elt Ideal) main_v6 (off := fun a => win0_2.index t a * main_v6.ty.shape.size a) (funext fun a => by rw [at2 t a, Nat.zero_mul]) (fun a => by rw [at2 t a]; simp) _

theorem at3 : ∀ (t : Fin cfg0.N) (a : Fin 1), win0_3.index t a = 0 :=
  (by decide +kernel : ∀ (t : Fin grid0.N) (a : Fin 1), win0_3.index t a = 0)

theorem blk3 (t : Fin cfg0.N) : (iblk m c 3 t : Vec Ideal S1 .f32) = V m c main_v7 :=
  Memref.read_access_unit_zero (Elt Ideal) main_v7 (off := fun a => win0_3.index t a * main_v7.ty.shape.size a) (funext fun a => by rw [at3 t a, Nat.zero_mul]) (fun a => by rw [at3 t a]; simp) _

/-- Where position `r` of block `t` lies in the whole axis. -/
def pos256_1536 (t : Fin cfg0.N) (r : Fin 256) : Fin 1536 :=
  ⟨256 * t.val + r.val, by have hN : cfg0.N = 6 := N_0; have := t.isLt; have := r.isLt; omega⟩

theorem at4 : ∀ t : Fin cfg0.N, win0_4.index t 0 = 0 ∧ win0_4.index t 1 = t.val :=
  (by decide +kernel : ∀ t : Fin grid0.N, win0_4.index t 0 = 0 ∧ win0_4.index t 1 = t.val)

theorem blk4 (t : Fin cfg0.N) (j : S1920x256.Idx) : (iblk m c 4 t : Vec Ideal S1920x256 .fp8e4m3) j = (V m c main_v0 : Vec Ideal S1920x1536 .fp8e4m3) (ix2 (j 0) (pos256_1536 t (j 1))) := by
  unfold iblk; rw [View.read_apply]
  show V m c main_v0 _ = V m c main_v0 _
  congr 1; funext a; apply Fin.ext
  match a with
  | ⟨0, _⟩ => show win0_4.index t 0 * 1920 + 1 * (j 0).val = (j 0).val; rw [(at4 t).1]; omega
  | ⟨1, _⟩ => show win0_4.index t 1 * 256 + 1 * (j 1).val = 256 * t.val + (j 1).val; rw [(at4 t).2]; omega

theorem at5 : ∀ (t : Fin cfg0.N) (a : Fin 2), win0_5.index t a = 0 :=
  (by decide +kernel : ∀ (t : Fin grid0.N) (a : Fin 2), win0_5.index t a = 0)

theorem blk5 (t : Fin cfg0.N) : (iblk m c 5 t : Vec Ideal S1920x1024 .fp8e5m2) = V m c main_v1 :=
  Memref.read_access_unit_zero (Elt Ideal) main_v1 (off := fun a => win0_5.index t a * main_v1.ty.shape.size a) (funext fun a => by rw [at5 t a, Nat.zero_mul]) (fun a => by rw [at5 t a]; simp) _

theorem at6 : ∀ (t : Fin cfg0.N) (a : Fin 2), win0_6.index t a = 0 :=
  (by decide +kernel : ∀ (t : Fin grid0.N) (a : Fin 2), win0_6.index t a = 0)

theorem blk6 (t : Fin cfg0.N) : (iblk m c 6 t : Vec Ideal S1920x1024 .fp8e5m2) = V m c main_v2 :=
  Memref.read_access_unit_zero (Elt Ideal) main_v2 (off := fun a => win0_6.index t a * main_v2.ty.shape.size a) (funext fun a => by rw [at6 t a, Nat.zero_mul]) (fun a => by rw [at6 t a]; simp) _

theorem at7 : ∀ (t : Fin cfg0.N) (a : Fin 2), win0_7.index t a = 0 :=
  (by decide +kernel : ∀ (t : Fin grid0.N) (a : Fin 2), win0_7.index t a = 0)

theorem blk7 (t : Fin cfg0.N) : (iblk m c 7 t : Vec Ideal S1920x1024 .fp8e5m2) = V m c main_v3 :=
  Memref.read_access_unit_zero (Elt Ideal) main_v3 (off := fun a => win0_7.index t a * main_v3.ty.shape.size a) (funext fun a => by rw [at7 t a, Nat.zero_mul]) (fun a => by rw [at7 t a]; simp) _

theorem at8 : ∀ t : Fin cfg0.N, win0_8.index t 0 = t.val ∧ win0_8.index t 1 = 0 :=
  (by decide +kernel : ∀ t : Fin grid0.N, win0_8.index t 0 = t.val ∧ win0_8.index t 1 = 0)

theorem emb8 (t : Fin cfg0.N) (j : S256x1024.Idx) : (((cfg0.win 8).blk t).view.emb j : S1536x1024.Idx) = ix2 (pos256_1536 t (j 0)) (j 1) := by
  funext a; apply Fin.ext
  match a with
  | ⟨0, _⟩ => show win0_8.index t 0 * 256 + 1 * (j 0).val = 256 * t.val + (j 0).val; rw [(at8 t).1]; omega
  | ⟨1, _⟩ => show win0_8.index t 1 * 1024 + 1 * (j 1).val = (j 1).val; rw [(at8 t).2]; omega

theorem cover8 (i : S1536x1024.Idx) : ∃ t : Fin cfg0.N, (cfg0.win 8).flush t = true ∧ i ∈ ((cfg0.win 8).blk t).view.set := by
  have hN : cfg0.N = 6 := N_0
  have h0 : (i 0 : Nat) < 1536 := (i 0).isLt
  have ht : (i 0).val / 256 < cfg0.N := by omega
  refine ⟨⟨(i 0).val / 256, ht⟩, flush0_8 _, ?_⟩
  have h := ((cfg0.win 8).blk ⟨(i 0).val / 256, ht⟩).view.emb_mem_set (ix2 ⟨(i 0).val % 256, Nat.mod_lt _ (by decide)⟩ (i 1))
  have e : (((cfg0.win 8).blk ⟨(i 0).val / 256, ht⟩).view.emb (ix2 ⟨(i 0).val % 256, Nat.mod_lt _ (by decide)⟩ (i 1)) : S1536x1024.Idx) = i := by
    rw [emb8]
    funext a; apply Fin.ext
    match a with
    | ⟨0, _⟩ => show 256 * ((i 0).val / 256) + (i 0).val % 256 = (i 0).val; omega
    | ⟨1, _⟩ => rfl
  rw [e] at h
  exact h

theorem final8 (G : Vec Ideal S1536x1024 .f32) (h : ∀ (t : Fin cfg0.N) (j : S256x1024.Idx), ((dats m 0 c).after 8 t : Vec Ideal S256x1024 .f32) j = G (ix2 (pos256_1536 t (j 0)) (j 1))) :
    (dats m 0 c).arrAt 8 cfg0.N = G := by
  refine (dats m 0 c).arrAt_eq_of_cover 8 G (fun t hf => ?_) cover8
  funext j
  rw [View.read_apply]
  refine Eq.trans ?_ ((h t j).trans (congrArg G (emb8 t j).symm))
  rfl

theorem at9 : ∀ t : Fin cfg0.N, win0_9.index t 0 = t.val ∧ win0_9.index t 1 = 0 :=
  (by decide +kernel : ∀ t : Fin grid0.N, win0_9.index t 0 = t.val ∧ win0_9.index t 1 = 0)

theorem emb9 (t : Fin cfg0.N) (j : S256x1024.Idx) : (((cfg0.win 9).blk t).view.emb j : S1536x1024.Idx) = ix2 (pos256_1536 t (j 0)) (j 1) := by
  funext a; apply Fin.ext
  match a with
  | ⟨0, _⟩ => show win0_9.index t 0 * 256 + 1 * (j 0).val = 256 * t.val + (j 0).val; rw [(at9 t).1]; omega
  | ⟨1, _⟩ => show win0_9.index t 1 * 1024 + 1 * (j 1).val = (j 1).val; rw [(at9 t).2]; omega

theorem cover9 (i : S1536x1024.Idx) : ∃ t : Fin cfg0.N, (cfg0.win 9).flush t = true ∧ i ∈ ((cfg0.win 9).blk t).view.set := by
  have hN : cfg0.N = 6 := N_0
  have h0 : (i 0 : Nat) < 1536 := (i 0).isLt
  have ht : (i 0).val / 256 < cfg0.N := by omega
  refine ⟨⟨(i 0).val / 256, ht⟩, flush0_9 _, ?_⟩
  have h := ((cfg0.win 9).blk ⟨(i 0).val / 256, ht⟩).view.emb_mem_set (ix2 ⟨(i 0).val % 256, Nat.mod_lt _ (by decide)⟩ (i 1))
  have e : (((cfg0.win 9).blk ⟨(i 0).val / 256, ht⟩).view.emb (ix2 ⟨(i 0).val % 256, Nat.mod_lt _ (by decide)⟩ (i 1)) : S1536x1024.Idx) = i := by
    rw [emb9]
    funext a; apply Fin.ext
    match a with
    | ⟨0, _⟩ => show 256 * ((i 0).val / 256) + (i 0).val % 256 = (i 0).val; omega
    | ⟨1, _⟩ => rfl
  rw [e] at h
  exact h

theorem final9 (G : Vec Ideal S1536x1024 .f32) (h : ∀ (t : Fin cfg0.N) (j : S256x1024.Idx), ((dats m 0 c).after 9 t : Vec Ideal S256x1024 .f32) j = G (ix2 (pos256_1536 t (j 0)) (j 1))) :
    (dats m 0 c).arrAt 9 cfg0.N = G := by
  refine (dats m 0 c).arrAt_eq_of_cover 9 G (fun t hf => ?_) cover9
  funext j
  rw [View.read_apply]
  refine Eq.trans ?_ ((h t j).trans (congrArg G (emb9 t j).symm))
  rfl

theorem at10 : ∀ t : Fin cfg0.N, win0_10.index t 0 = t.val ∧ win0_10.index t 1 = 0 :=
  (by decide +kernel : ∀ t : Fin grid0.N, win0_10.index t 0 = t.val ∧ win0_10.index t 1 = 0)

theorem emb10 (t : Fin cfg0.N) (j : S256x1024.Idx) : (((cfg0.win 10).blk t).view.emb j : S1536x1024.Idx) = ix2 (pos256_1536 t (j 0)) (j 1) := by
  funext a; apply Fin.ext
  match a with
  | ⟨0, _⟩ => show win0_10.index t 0 * 256 + 1 * (j 0).val = 256 * t.val + (j 0).val; rw [(at10 t).1]; omega
  | ⟨1, _⟩ => show win0_10.index t 1 * 1024 + 1 * (j 1).val = (j 1).val; rw [(at10 t).2]; omega

theorem cover10 (i : S1536x1024.Idx) : ∃ t : Fin cfg0.N, (cfg0.win 10).flush t = true ∧ i ∈ ((cfg0.win 10).blk t).view.set := by
  have hN : cfg0.N = 6 := N_0
  have h0 : (i 0 : Nat) < 1536 := (i 0).isLt
  have ht : (i 0).val / 256 < cfg0.N := by omega
  refine ⟨⟨(i 0).val / 256, ht⟩, flush0_10 _, ?_⟩
  have h := ((cfg0.win 10).blk ⟨(i 0).val / 256, ht⟩).view.emb_mem_set (ix2 ⟨(i 0).val % 256, Nat.mod_lt _ (by decide)⟩ (i 1))
  have e : (((cfg0.win 10).blk ⟨(i 0).val / 256, ht⟩).view.emb (ix2 ⟨(i 0).val % 256, Nat.mod_lt _ (by decide)⟩ (i 1)) : S1536x1024.Idx) = i := by
    rw [emb10]
    funext a; apply Fin.ext
    match a with
    | ⟨0, _⟩ => show 256 * ((i 0).val / 256) + (i 0).val % 256 = (i 0).val; omega
    | ⟨1, _⟩ => rfl
  rw [e] at h
  exact h

theorem final10 (G : Vec Ideal S1536x1024 .f32) (h : ∀ (t : Fin cfg0.N) (j : S256x1024.Idx), ((dats m 0 c).after 10 t : Vec Ideal S256x1024 .f32) j = G (ix2 (pos256_1536 t (j 0)) (j 1))) :
    (dats m 0 c).arrAt 10 cfg0.N = G := by
  refine (dats m 0 c).arrAt_eq_of_cover 10 G (fun t hf => ?_) cover10
  funext j
  rw [View.read_apply]
  refine Eq.trans ?_ ((h t j).trans (congrArg G (emb10 t j).symm))
  rfl

end Cert.KDwIdeal.Read

end
-- ==== Proof.RDwIdealRead.lean ====
/-
  The reference of the weight gradients: every window is one whole array, so each result is the value stored.
-/
module

public import proofs.«01_k».proof.Proof.Common
public import proofs.«01_k».proof.Proof.Gen.RDwIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RDwIdeal.Read

open Cert.RDwIdeal Cert.RDwIdeal.Gen Cert.Common

variable (m : (ℓ : Loc nD τ sig) → Buf (Elt Ideal) ℓ) (c : Dev nD)

theorem arr_main_v0 : (V m c main_v0 : Vec Ideal S1920x1536 .fp8e4m3) = shapeCast S1920x1536 (m ((c : Thread nD τ).loc main_arg0)) shapeCasts_S3x640x1536_S1920x1536 := by
  dsimp only [V, hostOps0]; after_results; rfl

theorem arr_main_v1 : (V m c main_v1 : Vec Ideal S1920x1024 .fp8e5m2) = shapeCast S1920x1024 (m ((c : Thread nD τ).loc main_arg1)) shapeCasts_S3x640x1024_S1920x1024 := by
  dsimp only [V, hostOps0]; after_results; rfl

theorem arr_main_v2 : (V m c main_v2 : Vec Ideal S1920x1024 .fp8e5m2) = shapeCast S1920x1024 (m ((c : Thread nD τ).loc main_arg2)) shapeCasts_S3x640x1024_S1920x1024 := by
  dsimp only [V, hostOps0]; after_results; rfl

theorem arr_main_v3 : (V m c main_v3 : Vec Ideal S1920x1024 .fp8e5m2) = shapeCast S1920x1024 (m ((c : Thread nD τ).loc main_arg3)) shapeCasts_S3x640x1024_S1920x1024 := by
  dsimp only [V, hostOps0]; after_results; rfl

theorem arr_main_v4 : (V m c main_v4 : Vec Ideal S1x1 .f32) = shapeCast S1x1 (m ((c : Thread nD τ).loc main_arg4)) shapeCasts_S_S1x1 := by
  dsimp only [V, hostOps0]; after_results; rfl

theorem arr_main_v5 : (V m c main_v5 : Vec Ideal S1x1 .f32) = shapeCast S1x1 (m ((c : Thread nD τ).loc main_arg5)) shapeCasts_S_S1x1 := by
  dsimp only [V, hostOps0]; after_results; rfl

theorem arr_main_v6 : (V m c main_v6 : Vec Ideal S1x1 .f32) = shapeCast S1x1 (m ((c : Thread nD τ).loc main_arg6)) shapeCasts_S_S1x1 := by
  dsimp only [V, hostOps0]; after_results; rfl

theorem arr_main_v7 : (V m c main_v7 : Vec Ideal S1x1 .f32) = shapeCast S1x1 (m ((c : Thread nD τ).loc main_arg7)) shapeCasts_S_S1x1 := by
  dsimp only [V, hostOps0]; after_results; rfl

theorem at0 : ∀ (t : Fin cfg0.N) (a : Fin 2), win0_0.index t a = 0 :=
  (by decide +kernel : ∀ (t : Fin grid0.N) (a : Fin 2), win0_0.index t a = 0)

theorem blk0 (t : Fin cfg0.N) : (iblk m c 0 t : Vec Ideal S1920x1536 .fp8e4m3) = V m c main_v0 :=
  Memref.read_access_unit_zero (Elt Ideal) main_v0 (off := fun a => win0_0.index t a * main_v0.ty.shape.size a) (funext fun a => by rw [at0 t a, Nat.zero_mul]) (fun a => by rw [at0 t a]; simp) _

theorem at1 : ∀ (t : Fin cfg0.N) (a : Fin 2), win0_1.index t a = 0 :=
  (by decide +kernel : ∀ (t : Fin grid0.N) (a : Fin 2), win0_1.index t a = 0)

theorem blk1 (t : Fin cfg0.N) : (iblk m c 1 t : Vec Ideal S1920x1024 .fp8e5m2) = V m c main_v1 :=
  Memref.read_access_unit_zero (Elt Ideal) main_v1 (off := fun a => win0_1.index t a * main_v1.ty.shape.size a) (funext fun a => by rw [at1 t a, Nat.zero_mul]) (fun a => by rw [at1 t a]; simp) _

theorem at2 : ∀ (t : Fin cfg0.N) (a : Fin 2), win0_2.index t a = 0 :=
  (by decide +kernel : ∀ (t : Fin grid0.N) (a : Fin 2), win0_2.index t a = 0)

theorem blk2 (t : Fin cfg0.N) : (iblk m c 2 t : Vec Ideal S1920x1024 .fp8e5m2) = V m c main_v2 :=
  Memref.read_access_unit_zero (Elt Ideal) main_v2 (off := fun a => win0_2.index t a * main_v2.ty.shape.size a) (funext fun a => by rw [at2 t a, Nat.zero_mul]) (fun a => by rw [at2 t a]; simp) _

theorem at3 : ∀ (t : Fin cfg0.N) (a : Fin 2), win0_3.index t a = 0 :=
  (by decide +kernel : ∀ (t : Fin grid0.N) (a : Fin 2), win0_3.index t a = 0)

theorem blk3 (t : Fin cfg0.N) : (iblk m c 3 t : Vec Ideal S1920x1024 .fp8e5m2) = V m c main_v3 :=
  Memref.read_access_unit_zero (Elt Ideal) main_v3 (off := fun a => win0_3.index t a * main_v3.ty.shape.size a) (funext fun a => by rw [at3 t a, Nat.zero_mul]) (fun a => by rw [at3 t a]; simp) _

theorem at4 : ∀ (t : Fin cfg0.N) (a : Fin 2), win0_4.index t a = 0 :=
  (by decide +kernel : ∀ (t : Fin grid0.N) (a : Fin 2), win0_4.index t a = 0)

theorem blk4 (t : Fin cfg0.N) : (iblk m c 4 t : Vec Ideal S1x1 .f32) = V m c main_v4 :=
  Memref.read_access_unit_zero (Elt Ideal) main_v4 (off := fun a => win0_4.index t a * main_v4.ty.shape.size a) (funext fun a => by rw [at4 t a, Nat.zero_mul]) (fun a => by rw [at4 t a]; simp) _

theorem at5 : ∀ (t : Fin cfg0.N) (a : Fin 2), win0_5.index t a = 0 :=
  (by decide +kernel : ∀ (t : Fin grid0.N) (a : Fin 2), win0_5.index t a = 0)

theorem blk5 (t : Fin cfg0.N) : (iblk m c 5 t : Vec Ideal S1x1 .f32) = V m c main_v5 :=
  Memref.read_access_unit_zero (Elt Ideal) main_v5 (off := fun a => win0_5.index t a * main_v5.ty.shape.size a) (funext fun a => by rw [at5 t a, Nat.zero_mul]) (fun a => by rw [at5 t a]; simp) _

theorem at6 : ∀ (t : Fin cfg0.N) (a : Fin 2), win0_6.index t a = 0 :=
  (by decide +kernel : ∀ (t : Fin grid0.N) (a : Fin 2), win0_6.index t a = 0)

theorem blk6 (t : Fin cfg0.N) : (iblk m c 6 t : Vec Ideal S1x1 .f32) = V m c main_v6 :=
  Memref.read_access_unit_zero (Elt Ideal) main_v6 (off := fun a => win0_6.index t a * main_v6.ty.shape.size a) (funext fun a => by rw [at6 t a, Nat.zero_mul]) (fun a => by rw [at6 t a]; simp) _

theorem at7 : ∀ (t : Fin cfg0.N) (a : Fin 2), win0_7.index t a = 0 :=
  (by decide +kernel : ∀ (t : Fin grid0.N) (a : Fin 2), win0_7.index t a = 0)

theorem blk7 (t : Fin cfg0.N) : (iblk m c 7 t : Vec Ideal S1x1 .f32) = V m c main_v7 :=
  Memref.read_access_unit_zero (Elt Ideal) main_v7 (off := fun a => win0_7.index t a * main_v7.ty.shape.size a) (funext fun a => by rw [at7 t a, Nat.zero_mul]) (fun a => by rw [at7 t a]; simp) _

theorem at8 : ∀ (t : Fin cfg0.N) (a : Fin 2), win0_8.index t a = 0 :=
  (by decide +kernel : ∀ (t : Fin grid0.N) (a : Fin 2), win0_8.index t a = 0)

theorem flush8 : ∀ t : Fin cfg0.N, (cfg0.win 8).flush t = true :=
  (by decide +kernel : ∀ t : Fin grid0.N, (cfg0.win 8).flush t = true)

theorem cover8 (i : S1536x1024.Idx) : ∃ t : Fin cfg0.N, (cfg0.win 8).flush t = true ∧ i ∈ ((cfg0.win 8).blk t).view.set := by
  have ht : 0 < cfg0.N := by decide
  refine ⟨⟨0, ht⟩, flush8 _, ?_⟩
  have h := ((cfg0.win 8).blk ⟨0, ht⟩).view.emb_mem_set i
  have e : (((cfg0.win 8).blk ⟨0, ht⟩).view.emb i : S1536x1024.Idx) = i := by
    funext a; apply Fin.ext
    match a with
    | ⟨0, _⟩ => show win0_8.index _ 0 * 1536 + 1 * (i 0).val = (i 0).val; rw [at8 _ 0]; omega
    | ⟨1, _⟩ => show win0_8.index _ 1 * 1024 + 1 * (i 1).val = (i 1).val; rw [at8 _ 1]; omega
  rw [e] at h
  exact h

theorem final8 : (dats m 0 c).arrAt 8 cfg0.N = (out0_8 (V m c main_v0) (V m c main_v1) (V m c main_v2) (V m c main_v3) (V m c main_v4) (V m c main_v5) (V m c main_v6) (V m c main_v7) : Vec Ideal S1536x1024 .f32) := by
  refine (dats m 0 c).arrAt_eq_of_cover 8 _ (fun t hf => ?_) cover8
  rw [Value.flushed8, blk0, blk1, blk2, blk3, blk4, blk5, blk6, blk7]
  exact (Memref.read_access_unit_zero (Elt Ideal) main_v8_0 (off := fun a => win0_8.index t a * main_v8_0.ty.shape.size a) (funext fun a => by rw [at8 t a, Nat.zero_mul]) (fun a => by rw [at8 t a]; simp) _).symm

theorem at9 : ∀ (t : Fin cfg0.N) (a : Fin 2), win0_9.index t a = 0 :=
  (by decide +kernel : ∀ (t : Fin grid0.N) (a : Fin 2), win0_9.index t a = 0)

theorem flush9 : ∀ t : Fin cfg0.N, (cfg0.win 9).flush t = true :=
  (by decide +kernel : ∀ t : Fin grid0.N, (cfg0.win 9).flush t = true)

theorem cover9 (i : S1536x1024.Idx) : ∃ t : Fin cfg0.N, (cfg0.win 9).flush t = true ∧ i ∈ ((cfg0.win 9).blk t).view.set := by
  have ht : 0 < cfg0.N := by decide
  refine ⟨⟨0, ht⟩, flush9 _, ?_⟩
  have h := ((cfg0.win 9).blk ⟨0, ht⟩).view.emb_mem_set i
  have e : (((cfg0.win 9).blk ⟨0, ht⟩).view.emb i : S1536x1024.Idx) = i := by
    funext a; apply Fin.ext
    match a with
    | ⟨0, _⟩ => show win0_9.index _ 0 * 1536 + 1 * (i 0).val = (i 0).val; rw [at9 _ 0]; omega
    | ⟨1, _⟩ => show win0_9.index _ 1 * 1024 + 1 * (i 1).val = (i 1).val; rw [at9 _ 1]; omega
  rw [e] at h
  exact h

theorem final9 : (dats m 0 c).arrAt 9 cfg0.N = (out0_9 (V m c main_v0) (V m c main_v1) (V m c main_v2) (V m c main_v3) (V m c main_v4) (V m c main_v5) (V m c main_v6) (V m c main_v7) : Vec Ideal S1536x1024 .f32) := by
  refine (dats m 0 c).arrAt_eq_of_cover 9 _ (fun t hf => ?_) cover9
  rw [Value.flushed9, blk0, blk1, blk2, blk3, blk4, blk5, blk6, blk7]
  exact (Memref.read_access_unit_zero (Elt Ideal) main_v8_1 (off := fun a => win0_9.index t a * main_v8_1.ty.shape.size a) (funext fun a => by rw [at9 t a, Nat.zero_mul]) (fun a => by rw [at9 t a]; simp) _).symm

theorem at10 : ∀ (t : Fin cfg0.N) (a : Fin 2), win0_10.index t a = 0 :=
  (by decide +kernel : ∀ (t : Fin grid0.N) (a : Fin 2), win0_10.index t a = 0)

theorem flush10 : ∀ t : Fin cfg0.N, (cfg0.win 10).flush t = true :=
  (by decide +kernel : ∀ t : Fin grid0.N, (cfg0.win 10).flush t = true)

theorem cover10 (i : S1536x1024.Idx) : ∃ t : Fin cfg0.N, (cfg0.win 10).flush t = true ∧ i ∈ ((cfg0.win 10).blk t).view.set := by
  have ht : 0 < cfg0.N := by decide
  refine ⟨⟨0, ht⟩, flush10 _, ?_⟩
  have h := ((cfg0.win 10).blk ⟨0, ht⟩).view.emb_mem_set i
  have e : (((cfg0.win 10).blk ⟨0, ht⟩).view.emb i : S1536x1024.Idx) = i := by
    funext a; apply Fin.ext
    match a with
    | ⟨0, _⟩ => show win0_10.index _ 0 * 1536 + 1 * (i 0).val = (i 0).val; rw [at10 _ 0]; omega
    | ⟨1, _⟩ => show win0_10.index _ 1 * 1024 + 1 * (i 1).val = (i 1).val; rw [at10 _ 1]; omega
  rw [e] at h
  exact h

theorem final10 : (dats m 0 c).arrAt 10 cfg0.N = (out0_10 (V m c main_v0) (V m c main_v1) (V m c main_v2) (V m c main_v3) (V m c main_v4) (V m c main_v5) (V m c main_v6) (V m c main_v7) : Vec Ideal S1536x1024 .f32) := by
  refine (dats m 0 c).arrAt_eq_of_cover 10 _ (fun t hf => ?_) cover10
  rw [Value.flushed10, blk0, blk1, blk2, blk3, blk4, blk5, blk6, blk7]
  exact (Memref.read_access_unit_zero (Elt Ideal) main_v8_2 (off := fun a => win0_10.index t a * main_v8_2.ty.shape.size a) (funext fun a => by rw [at10 t a, Nat.zero_mul]) (fun a => by rw [at10 t a]; simp) _).symm

end Cert.RDwIdeal.Read

end
-- ==== Proof.Dw.lean ====
/-
  The gradients of the three projection weights, `dw = (xn_codesᵀ · g_codes) · s_x · s_g`: the kernel, over six blocks of 256
  rows of the results, and the reference, over the whole arrays at once, leave the same three arrays. Both sides are read down
  to one formula of the argument arrays, `G`.
-/
module

public import proofs.«01_k».proof.Defs
public import proofs.«01_k».proof.Proof.KDwIdealRead
public import proofs.«01_k».proof.Proof.RDwIdealRead
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Dw

/-- A result as one formula. -/
def G (x : Vec Ideal ⟨2, ![1920, 1536]⟩ .fp8e4m3) (g : Vec Ideal ⟨2, ![1920, 1024]⟩ .fp8e5m2) (sx sg : EReal) : Vec Ideal ⟨2, ![1536, 1024]⟩ .f32 :=
  fun j => (∑ k : Fin 1920, x (ix2 k (j 0)) * g (ix2 k (j 1))) * sx * sg

end Cert.Dw

namespace Cert.KDwIdeal.Read

open Cert.KDwIdeal Cert.KDwIdeal.Gen Cert.Common Cert.Dw

/-- What the body leaves in result 0's block. -/
theorem out_A_8 (c : Dev nD) (i : grid0.Coords) (a1 : Memref sig .tc .smem S1 .f32) (h1 : a1.IsWhole) (a2 : Memref sig .tc .smem S1 .f32) (h2 : a2.IsWhole) (a3 : Memref sig .tc .smem S1 .f32) (h3 : a3.IsWhole) (a4 : Memref sig .tc .smem S1 .f32) (h4 : a4.IsWhole) (a5 : Memref sig .tc .vmem S1920x256 .fp8e4m3) (h5 : a5.IsWhole)
    (a6 : Memref sig .tc .vmem S1920x1024 .fp8e5m2) (h6 : a6.IsWhole) (a7 : Memref sig .tc .vmem S1920x1024 .fp8e5m2) (h7 : a7.IsWhole) (a8 : Memref sig .tc .vmem S1920x1024 .fp8e5m2) (h8 : a8.IsWhole)
    (a9 : Memref sig .tc .vmem S256x1024 .f32) (h9 : a9.IsWhole) (a10 : Memref sig .tc .vmem S256x1024 .f32) (h10 : a10.IsWhole) (a11 : Memref sig .tc .vmem S256x1024 .f32) (h11 : a11.IsWhole)
    (x0 x1 x2 x3 : Vec Ideal S1 .f32) (x4 : Vec Ideal S1920x256 .fp8e4m3) (x5 x6 x7 : Vec Ideal S1920x1024 .fp8e5m2) :
    out0_A_8 c i a1 h1 a2 h2 a3 h3 a4 h4 a5 h5 a6 h6 a7 h7 a8 h8 a9 h9 a10 h10 a11 h11 x0 x1 x2 x3 x4 x5 x6 x7 = k0_pay2 x4 x5 (x0 (ix1 0)) (x1 (ix1 0)) := by
  unfold out0_A_8
  rw [View.read_writes_eq_canon _ _ _ (cover0_A_8 c i a1 h1 a2 h2 a3 h3 a4 h4 a5 h5 a6 h6 a7 h7 a8 h8 a9 h9 a10 h10 a11 h11 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S1920x1024) hz, View.ld_unit_zero (S := S1920x256) hz]
  exact congrArg₂ (fun u v => k0_pay2 x4 x5 u v) (one x0 _) (one x1 _)

/-- The block the body stores, at one index. -/
theorem pay2 (x : Vec Ideal S1920x256 .fp8e4m3) (g : Vec Ideal S1920x1024 .fp8e5m2) (sx sg : EReal) (j : S256x1024.Idx) :
    k0_pay2 (F := Ideal) x g sx sg j = (∑ k : Fin 1920, x (ix2 k (j 0)) * g (ix2 k (j 1))) * sx * sg := by
  idx_vars j
  pointwise [k0_pay2, k0_pay1]

/-- The kernel's result 0. -/
theorem result8 (m : (ℓ : Loc nD τ sig) → Buf (Elt Ideal) ℓ) (c : Dev nD) : (dats m 0 c).arrAt 8 cfg0.N
    = G (V m c main_v0) (V m c main_v1) ((V m c main_v4 : Vec Ideal S1 .f32) (ix1 0)) ((V m c main_v5 : Vec Ideal S1 .f32) (ix1 0)) := by
  refine final8 m c _ fun t j => ?_
  rw [after0_8]
  unfold outsAt0
  dsimp only
  rw [out_A_8, pay2, blk0, blk1, blk5]
  simp only [blk4]
  rfl

/-- What the body leaves in result 1's block. -/
theorem out_A_9 (c : Dev nD) (i : grid0.Coords) (a1 : Memref sig .tc .smem S1 .f32) (h1 : a1.IsWhole) (a2 : Memref sig .tc .smem S1 .f32) (h2 : a2.IsWhole) (a3 : Memref sig .tc .smem S1 .f32) (h3 : a3.IsWhole) (a4 : Memref sig .tc .smem S1 .f32) (h4 : a4.IsWhole) (a5 : Memref sig .tc .vmem S1920x256 .fp8e4m3) (h5 : a5.IsWhole)
    (a6 : Memref sig .tc .vmem S1920x1024 .fp8e5m2) (h6 : a6.IsWhole) (a7 : Memref sig .tc .vmem S1920x1024 .fp8e5m2) (h7 : a7.IsWhole) (a8 : Memref sig .tc .vmem S1920x1024 .fp8e5m2) (h8 : a8.IsWhole)
    (a9 : Memref sig .tc .vmem S256x1024 .f32) (h9 : a9.IsWhole) (a10 : Memref sig .tc .vmem S256x1024 .f32) (h10 : a10.IsWhole) (a11 : Memref sig .tc .vmem S256x1024 .f32) (h11 : a11.IsWhole)
    (x0 x1 x2 x3 : Vec Ideal S1 .f32) (x4 : Vec Ideal S1920x256 .fp8e4m3) (x5 x6 x7 : Vec Ideal S1920x1024 .fp8e5m2) :
    out0_A_9 c i a1 h1 a2 h2 a3 h3 a4 h4 a5 h5 a6 h6 a7 h7 a8 h8 a9 h9 a10 h10 a11 h11 x0 x1 x2 x3 x4 x5 x6 x7 = k0_pay3 x4 x6 (x0 (ix1 0)) (x2 (ix1 0)) := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S1920x1024) hz, View.ld_unit_zero (S := S1920x256) hz]
  exact congrArg₂ (fun u v => k0_pay3 x4 x6 u v) (one x0 _) (one x2 _)

/-- The block the body stores, at one index. -/
theorem pay3 (x : Vec Ideal S1920x256 .fp8e4m3) (g : Vec Ideal S1920x1024 .fp8e5m2) (sx sg : EReal) (j : S256x1024.Idx) :
    k0_pay3 (F := Ideal) x g sx sg j = (∑ k : Fin 1920, x (ix2 k (j 0)) * g (ix2 k (j 1))) * sx * sg := by
  idx_vars j
  pointwise [k0_pay3, k0_pay1]

/-- The kernel's result 1. -/
theorem result9 (m : (ℓ : Loc nD τ sig) → Buf (Elt Ideal) ℓ) (c : Dev nD) : (dats m 0 c).arrAt 9 cfg0.N
    = G (V m c main_v0) (V m c main_v2) ((V m c main_v4 : Vec Ideal S1 .f32) (ix1 0)) ((V m c main_v6 : Vec Ideal S1 .f32) (ix1 0)) := by
  refine final9 m c _ fun t j => ?_
  rw [after0_9]
  unfold outsAt0
  dsimp only
  rw [out_A_9, pay3, blk0, blk2, blk6]
  simp only [blk4]
  rfl

/-- What the body leaves in result 2's block. -/
theorem out_A_10 (c : Dev nD) (i : grid0.Coords) (a1 : Memref sig .tc .smem S1 .f32) (h1 : a1.IsWhole) (a2 : Memref sig .tc .smem S1 .f32) (h2 : a2.IsWhole) (a3 : Memref sig .tc .smem S1 .f32) (h3 : a3.IsWhole) (a4 : Memref sig .tc .smem S1 .f32) (h4 : a4.IsWhole) (a5 : Memref sig .tc .vmem S1920x256 .fp8e4m3) (h5 : a5.IsWhole)
    (a6 : Memref sig .tc .vmem S1920x1024 .fp8e5m2) (h6 : a6.IsWhole) (a7 : Memref sig .tc .vmem S1920x1024 .fp8e5m2) (h7 : a7.IsWhole) (a8 : Memref sig .tc .vmem S1920x1024 .fp8e5m2) (h8 : a8.IsWhole)
    (a9 : Memref sig .tc .vmem S256x1024 .f32) (h9 : a9.IsWhole) (a10 : Memref sig .tc .vmem S256x1024 .f32) (h10 : a10.IsWhole) (a11 : Memref sig .tc .vmem S256x1024 .f32) (h11 : a11.IsWhole)
    (x0 x1 x2 x3 : Vec Ideal S1 .f32) (x4 : Vec Ideal S1920x256 .fp8e4m3) (x5 x6 x7 : Vec Ideal S1920x1024 .fp8e5m2) :
    out0_A_10 c i a1 h1 a2 h2 a3 h3 a4 h4 a5 h5 a6 h6 a7 h7 a8 h8 a9 h9 a10 h10 a11 h11 x0 x1 x2 x3 x4 x5 x6 x7 = k0_pay4 x4 x7 (x0 (ix1 0)) (x3 (ix1 0)) := by
  unfold out0_A_10
  rw [View.read_writes_eq_canon _ _ _ (cover0_A_10 c i a1 h1 a2 h2 a3 h3 a4 h4 a5 h5 a6 h6 a7 h7 a8 h8 a9 h9 a10 h10 a11 h11 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S1920x1024) hz, View.ld_unit_zero (S := S1920x256) hz]
  exact congrArg₂ (fun u v => k0_pay4 x4 x7 u v) (one x0 _) (one x3 _)

/-- The block the body stores, at one index. -/
theorem pay4 (x : Vec Ideal S1920x256 .fp8e4m3) (g : Vec Ideal S1920x1024 .fp8e5m2) (sx sg : EReal) (j : S256x1024.Idx) :
    k0_pay4 (F := Ideal) x g sx sg j = (∑ k : Fin 1920, x (ix2 k (j 0)) * g (ix2 k (j 1))) * sx * sg := by
  idx_vars j
  pointwise [k0_pay4, k0_pay1]

/-- The kernel's result 2. -/
theorem result10 (m : (ℓ : Loc nD τ sig) → Buf (Elt Ideal) ℓ) (c : Dev nD) : (dats m 0 c).arrAt 10 cfg0.N
    = G (V m c main_v0) (V m c main_v3) ((V m c main_v4 : Vec Ideal S1 .f32) (ix1 0)) ((V m c main_v7 : Vec Ideal S1 .f32) (ix1 0)) := by
  refine final10 m c _ fun t j => ?_
  rw [after0_10]
  unfold outsAt0
  dsimp only
  rw [out_A_10, pay4, blk0, blk3, blk7]
  simp only [blk4]
  rfl

end Cert.KDwIdeal.Read

namespace Cert.RDwIdeal.Read

open Cert.RDwIdeal Cert.RDwIdeal.Gen Cert.Common Cert.Dw

/-- The reference's result 0. -/
theorem result8 (m : (ℓ : Loc nD τ sig) → Buf (Elt Ideal) ℓ) (c : Dev nD) : (dats m 0 c).arrAt 8 cfg0.N
    = G (V m c main_v0) (V m c main_v1) ((V m c main_v4 : Vec Ideal S1x1 .f32) (ix2 0 0)) ((V m c main_v5 : Vec Ideal S1x1 .f32) (ix2 0 0)) := by
  rw [final8]
  unfold out0_8
  rw [View.canon_unit_zero hz]
  simp only [r0_0, r0_1, r0_2, View.ld_unit_zero (S := S1920x1536) hz, View.ld_unit_zero (S := S1920x1024) hz, View.ld_unit_zero (S := S1x1) hz]
  funext j
  idx_vars j
  pointwise [k0_pay1, k0_pay2, k0_pay3, k0_pay4, k0_pay5, G]

/-- The reference's result 1. -/
theorem result9 (m : (ℓ : Loc nD τ sig) → Buf (Elt Ideal) ℓ) (c : Dev nD) : (dats m 0 c).arrAt 9 cfg0.N
    = G (V m c main_v0) (V m c main_v2) ((V m c main_v4 : Vec Ideal S1x1 .f32) (ix2 0 0)) ((V m c main_v6 : Vec Ideal S1x1 .f32) (ix2 0 0)) := by
  rw [final9]
  unfold out0_9
  rw [View.canon_unit_zero hz]
  simp only [r0_0, r0_1, r0_2, View.ld_unit_zero (S := S1920x1536) hz, View.ld_unit_zero (S := S1920x1024) hz, View.ld_unit_zero (S := S1x1) hz]
  funext j
  idx_vars j
  pointwise [k0_pay1, k0_pay2, k0_pay3, k0_pay4, k0_pay5, G]

/-- The reference's result 2. -/
theorem result10 (m : (ℓ : Loc nD τ sig) → Buf (Elt Ideal) ℓ) (c : Dev nD) : (dats m 0 c).arrAt 10 cfg0.N
    = G (V m c main_v0) (V m c main_v3) ((V m c main_v4 : Vec Ideal S1x1 .f32) (ix2 0 0)) ((V m c main_v7 : Vec Ideal S1x1 .f32) (ix2 0 0)) := by
  rw [final10]
  unfold out0_10
  rw [View.canon_unit_zero hz]
  simp only [r0_0, r0_1, r0_2, View.ld_unit_zero (S := S1920x1536) hz, View.ld_unit_zero (S := S1920x1024) hz, View.ld_unit_zero (S := S1x1) hz]
  funext j
  idx_vars j
  pointwise [k0_pay1, k0_pay2, k0_pay3, k0_pay4, k0_pay5, G]

end Cert.RDwIdeal.Read

namespace Cert.Dw

open Cert.Common

/-- Both sides' arrays are the same reshapes of the same arguments, so the results agree. -/
theorem algebraic : Cert.algebraic_KDwIdeal_RDwIdeal := by
  intro m g m' g' _ hargs
  refine ⟨fun c => (Cert.KDwIdeal.Gen.dats m 0 c).arrAt 8 Cert.KDwIdeal.cfg0.N, fun c => (Cert.KDwIdeal.Gen.dats m 0 c).arrAt 9 Cert.KDwIdeal.cfg0.N,
    fun c => (Cert.KDwIdeal.Gen.dats m 0 c).arrAt 10 Cert.KDwIdeal.cfg0.N, Cert.KDwIdeal.Value.run_blocks m g, ?_⟩
  refine (θ_run _ _ _).mono (fun r h c => ?_) (Cert.RDwIdeal.Value.run_blocks m' g')
  obtain ⟨h0, h1, h2, h⟩ := h c
  obtain ⟨e0, e1, e2, e3, e4, e5, e6, e7⟩ := hargs c
  refine ⟨h0.trans ?_, h1.trans ?_, h2.trans ?_, h⟩
  · rw [Cert.RDwIdeal.Read.result8]
    refine Eq.trans ?_ (Cert.KDwIdeal.Read.result8 m c).symm
    rw [Cert.RDwIdeal.Read.arr_main_v0, Cert.RDwIdeal.Read.arr_main_v1, Cert.RDwIdeal.Read.arr_main_v4, Cert.RDwIdeal.Read.arr_main_v5,
      Cert.KDwIdeal.Read.arr_main_v0, Cert.KDwIdeal.Read.arr_main_v1, Cert.KDwIdeal.Read.arr_main_v4, Cert.KDwIdeal.Read.arr_main_v5, e0, e1, e4, e5]
    rfl
  · rw [Cert.RDwIdeal.Read.result9]
    refine Eq.trans ?_ (Cert.KDwIdeal.Read.result9 m c).symm
    rw [Cert.RDwIdeal.Read.arr_main_v0, Cert.RDwIdeal.Read.arr_main_v2, Cert.RDwIdeal.Read.arr_main_v4, Cert.RDwIdeal.Read.arr_main_v6,
      Cert.KDwIdeal.Read.arr_main_v0, Cert.KDwIdeal.Read.arr_main_v2, Cert.KDwIdeal.Read.arr_main_v4, Cert.KDwIdeal.Read.arr_main_v6, e0, e2, e4, e6]
    rfl
  · rw [Cert.RDwIdeal.Read.result10]
    refine Eq.trans ?_ (Cert.KDwIdeal.Read.result10 m c).symm
    rw [Cert.RDwIdeal.Read.arr_main_v0, Cert.RDwIdeal.Read.arr_main_v3, Cert.RDwIdeal.Read.arr_main_v4, Cert.RDwIdeal.Read.arr_main_v7,
      Cert.KDwIdeal.Read.arr_main_v0, Cert.KDwIdeal.Read.arr_main_v3, Cert.KDwIdeal.Read.arr_main_v4, Cert.KDwIdeal.Read.arr_main_v7, e0, e3, e4, e7]
    rfl

end Cert.Dw

end
-- ==== Proof.KDwoIdealRead.lean ====
/-
  The kernel of the output weights' gradient: what the blocks of its windows are in the whole arrays, and when the array a window
  writes back is a given array.
-/
module

public import proofs.«01_k».proof.Proof.Common
public import proofs.«01_k».proof.Proof.Gen.KDwoIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KDwoIdeal.Read

open Cert.KDwoIdeal Cert.KDwoIdeal.Gen Cert.Common

variable (m : (ℓ : Loc nD τ sig) → Buf (Elt Ideal) ℓ) (c : Dev nD)

theorem arr_main_v0 : (V m c main_v0 : Vec Ideal S1920x1024 .fp8e4m3) = shapeCast S1920x1024 (m ((c : Thread nD τ).loc main_arg0)) shapeCasts_S3x640x1024_S1920x1024 := by
  dsimp only [V, hostOps0]; after_results; rfl

theorem arr_main_v1 : (V m c main_v1 : Vec Ideal S1920x1536 .fp8e5m2) = shapeCast S1920x1536 (m ((c : Thread nD τ).loc main_arg1)) shapeCasts_S3x640x1536_S1920x1536 := by
  dsimp only [V, hostOps0]; after_results; rfl

theorem arr_main_v2 : (V m c main_v2 : Vec Ideal S1 .f32) = shapeCast S1 (m ((c : Thread nD τ).loc main_arg2)) shapeCasts_S_S1 := by
  dsimp only [V, hostOps0]; after_results; rfl

theorem arr_main_v3 : (V m c main_v3 : Vec Ideal S1 .f32) = shapeCast S1 (m ((c : Thread nD τ).loc main_arg3)) shapeCasts_S_S1 := by
  dsimp only [V, hostOps0]; after_results; rfl

theorem at0 : ∀ (t : Fin cfg0.N) (a : Fin 1), win0_0.index t a = 0 :=
  (by decide +kernel : ∀ (t : Fin grid0.N) (a : Fin 1), win0_0.index t a = 0)

theorem blk0 (t : Fin cfg0.N) : (iblk m c 0 t : Vec Ideal S1 .f32) = V m c main_v2 :=
  Memref.read_access_unit_zero (Elt Ideal) main_v2 (off := fun a => win0_0.index t a * main_v2.ty.shape.size a) (funext fun a => by rw [at0 t a, Nat.zero_mul]) (fun a => by rw [at0 t a]; simp) _

theorem at1 : ∀ (t : Fin cfg0.N) (a : Fin 1), win0_1.index t a = 0 :=
  (by decide +kernel : ∀ (t : Fin grid0.N) (a : Fin 1), win0_1.index t a = 0)

theorem blk1 (t : Fin cfg0.N) : (iblk m c 1 t : Vec Ideal S1 .f32) = V m c main_v3 :=
  Memref.read_access_unit_zero (Elt Ideal) main_v3 (off := fun a => win0_1.index t a * main_v3.ty.shape.size a) (funext fun a => by rw [at1 t a, Nat.zero_mul]) (fun a => by rw [at1 t a]; simp) _

/-- Where position `r` of block `t` lies in the whole axis. -/
def pos256_1024 (t : Fin cfg0.N) (r : Fin 256) : Fin 1024 :=
  ⟨256 * t.val + r.val, by have hN : cfg0.N = 4 := N_0; have := t.isLt; have := r.isLt; omega⟩

theorem at2 : ∀ t : Fin cfg0.N, win0_2.index t 0 = 0 ∧ win0_2.index t 1 = t.val :=
  (by decide +kernel : ∀ t : Fin grid0.N, win0_2.index t 0 = 0 ∧ win0_2.index t 1 = t.val)

theorem blk2 (t : Fin cfg0.N) (j : S1920x256.Idx) : (iblk m c 2 t : Vec Ideal S1920x256 .fp8e4m3) j = (V m c main_v0 : Vec Ideal S1920x1024 .fp8e4m3) (ix2 (j 0) (pos256_1024 t (j 1))) := by
  unfold iblk; rw [View.read_apply]
  show V m c main_v0 _ = V m c main_v0 _
  congr 1; funext a; apply Fin.ext
  match a with
  | ⟨0, _⟩ => show win0_2.index t 0 * 1920 + 1 * (j 0).val = (j 0).val; rw [(at2 t).1]; omega
  | ⟨1, _⟩ => show win0_2.index t 1 * 256 + 1 * (j 1).val = 256 * t.val + (j 1).val; rw [(at2 t).2]; omega

theorem at3 : ∀ (t : Fin cfg0.N) (a : Fin 2), win0_3.index t a = 0 :=
  (by decide +kernel : ∀ (t : Fin grid0.N) (a : Fin 2), win0_3.index t a = 0)

theorem blk3 (t : Fin cfg0.N) : (iblk m c 3 t : Vec Ideal S1920x1536 .fp8e5m2) = V m c main_v1 :=
  Memref.read_access_unit_zero (Elt Ideal) main_v1 (off := fun a => win0_3.index t a * main_v1.ty.shape.size a) (funext fun a => by rw [at3 t a, Nat.zero_mul]) (fun a => by rw [at3 t a]; simp) _

theorem at4 : ∀ t : Fin cfg0.N, win0_4.index t 0 = t.val ∧ win0_4.index t 1 = 0 :=
  (by decide +kernel : ∀ t : Fin grid0.N, win0_4.index t 0 = t.val ∧ win0_4.index t 1 = 0)

theorem emb4 (t : Fin cfg0.N) (j : S256x1536.Idx) : (((cfg0.win 4).blk t).view.emb j : S1024x1536.Idx) = ix2 (pos256_1024 t (j 0)) (j 1) := by
  funext a; apply Fin.ext
  match a with
  | ⟨0, _⟩ => show win0_4.index t 0 * 256 + 1 * (j 0).val = 256 * t.val + (j 0).val; rw [(at4 t).1]; omega
  | ⟨1, _⟩ => show win0_4.index t 1 * 1536 + 1 * (j 1).val = (j 1).val; rw [(at4 t).2]; omega

theorem cover4 (i : S1024x1536.Idx) : ∃ t : Fin cfg0.N, (cfg0.win 4).flush t = true ∧ i ∈ ((cfg0.win 4).blk t).view.set := by
  have hN : cfg0.N = 4 := N_0
  have h0 : (i 0 : Nat) < 1024 := (i 0).isLt
  have ht : (i 0).val / 256 < cfg0.N := by omega
  refine ⟨⟨(i 0).val / 256, ht⟩, flush0_4 _, ?_⟩
  have h := ((cfg0.win 4).blk ⟨(i 0).val / 256, ht⟩).view.emb_mem_set (ix2 ⟨(i 0).val % 256, Nat.mod_lt _ (by decide)⟩ (i 1))
  have e : (((cfg0.win 4).blk ⟨(i 0).val / 256, ht⟩).view.emb (ix2 ⟨(i 0).val % 256, Nat.mod_lt _ (by decide)⟩ (i 1)) : S1024x1536.Idx) = i := by
    rw [emb4]
    funext a; apply Fin.ext
    match a with
    | ⟨0, _⟩ => show 256 * ((i 0).val / 256) + (i 0).val % 256 = (i 0).val; omega
    | ⟨1, _⟩ => rfl
  rw [e] at h
  exact h

theorem final4 (G : Vec Ideal S1024x1536 .f32) (h : ∀ (t : Fin cfg0.N) (j : S256x1536.Idx), ((dats m 0 c).after 4 t : Vec Ideal S256x1536 .f32) j = G (ix2 (pos256_1024 t (j 0)) (j 1))) :
    (dats m 0 c).arrAt 4 cfg0.N = G := by
  refine (dats m 0 c).arrAt_eq_of_cover 4 G (fun t hf => ?_) cover4
  funext j
  rw [View.read_apply]
  refine Eq.trans ?_ ((h t j).trans (congrArg G (emb4 t j).symm))
  rfl

end Cert.KDwoIdeal.Read

end
-- ==== Proof.RDwoIdealRead.lean ====
/-
  The reference of the output weights' gradient: every window is one whole array, so each result is the value stored.
-/
module

public import proofs.«01_k».proof.Proof.Common
public import proofs.«01_k».proof.Proof.Gen.RDwoIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RDwoIdeal.Read

open Cert.RDwoIdeal Cert.RDwoIdeal.Gen Cert.Common

variable (m : (ℓ : Loc nD τ sig) → Buf (Elt Ideal) ℓ) (c : Dev nD)

theorem arr_main_v0 : (V m c main_v0 : Vec Ideal S1920x1024 .fp8e4m3) = shapeCast S1920x1024 (m ((c : Thread nD τ).loc main_arg0)) shapeCasts_S3x640x1024_S1920x1024 := by
  dsimp only [V, hostOps0]; after_results; rfl

theorem arr_main_v1 : (V m c main_v1 : Vec Ideal S1920x1536 .fp8e5m2) = shapeCast S1920x1536 (m ((c : Thread nD τ).loc main_arg1)) shapeCasts_S3x640x1536_S1920x1536 := by
  dsimp only [V, hostOps0]; after_results; rfl

theorem arr_main_v2 : (V m c main_v2 : Vec Ideal S1x1 .f32) = shapeCast S1x1 (m ((c : Thread nD τ).loc main_arg2)) shapeCasts_S_S1x1 := by
  dsimp only [V, hostOps0]; after_results; rfl

theorem arr_main_v3 : (V m c main_v3 : Vec Ideal S1x1 .f32) = shapeCast S1x1 (m ((c : Thread nD τ).loc main_arg3)) shapeCasts_S_S1x1 := by
  dsimp only [V, hostOps0]; after_results; rfl

theorem at0 : ∀ (t : Fin cfg0.N) (a : Fin 2), win0_0.index t a = 0 :=
  (by decide +kernel : ∀ (t : Fin grid0.N) (a : Fin 2), win0_0.index t a = 0)

theorem blk0 (t : Fin cfg0.N) : (iblk m c 0 t : Vec Ideal S1920x1024 .fp8e4m3) = V m c main_v0 :=
  Memref.read_access_unit_zero (Elt Ideal) main_v0 (off := fun a => win0_0.index t a * main_v0.ty.shape.size a) (funext fun a => by rw [at0 t a, Nat.zero_mul]) (fun a => by rw [at0 t a]; simp) _

theorem at1 : ∀ (t : Fin cfg0.N) (a : Fin 2), win0_1.index t a = 0 :=
  (by decide +kernel : ∀ (t : Fin grid0.N) (a : Fin 2), win0_1.index t a = 0)

theorem blk1 (t : Fin cfg0.N) : (iblk m c 1 t : Vec Ideal S1920x1536 .fp8e5m2) = V m c main_v1 :=
  Memref.read_access_unit_zero (Elt Ideal) main_v1 (off := fun a => win0_1.index t a * main_v1.ty.shape.size a) (funext fun a => by rw [at1 t a, Nat.zero_mul]) (fun a => by rw [at1 t a]; simp) _

theorem at2 : ∀ (t : Fin cfg0.N) (a : Fin 2), win0_2.index t a = 0 :=
  (by decide +kernel : ∀ (t : Fin grid0.N) (a : Fin 2), win0_2.index t a = 0)

theorem blk2 (t : Fin cfg0.N) : (iblk m c 2 t : Vec Ideal S1x1 .f32) = V m c main_v2 :=
  Memref.read_access_unit_zero (Elt Ideal) main_v2 (off := fun a => win0_2.index t a * main_v2.ty.shape.size a) (funext fun a => by rw [at2 t a, Nat.zero_mul]) (fun a => by rw [at2 t a]; simp) _

theorem at3 : ∀ (t : Fin cfg0.N) (a : Fin 2), win0_3.index t a = 0 :=
  (by decide +kernel : ∀ (t : Fin grid0.N) (a : Fin 2), win0_3.index t a = 0)

theorem blk3 (t : Fin cfg0.N) : (iblk m c 3 t : Vec Ideal S1x1 .f32) = V m c main_v3 :=
  Memref.read_access_unit_zero (Elt Ideal) main_v3 (off := fun a => win0_3.index t a * main_v3.ty.shape.size a) (funext fun a => by rw [at3 t a, Nat.zero_mul]) (fun a => by rw [at3 t a]; simp) _

theorem at4 : ∀ (t : Fin cfg0.N) (a : Fin 2), win0_4.index t a = 0 :=
  (by decide +kernel : ∀ (t : Fin grid0.N) (a : Fin 2), win0_4.index t a = 0)

theorem flush4 : ∀ t : Fin cfg0.N, (cfg0.win 4).flush t = true :=
  (by decide +kernel : ∀ t : Fin grid0.N, (cfg0.win 4).flush t = true)

theorem cover4 (i : S1024x1536.Idx) : ∃ t : Fin cfg0.N, (cfg0.win 4).flush t = true ∧ i ∈ ((cfg0.win 4).blk t).view.set := by
  have ht : 0 < cfg0.N := by decide
  refine ⟨⟨0, ht⟩, flush4 _, ?_⟩
  have h := ((cfg0.win 4).blk ⟨0, ht⟩).view.emb_mem_set i
  have e : (((cfg0.win 4).blk ⟨0, ht⟩).view.emb i : S1024x1536.Idx) = i := by
    funext a; apply Fin.ext
    match a with
    | ⟨0, _⟩ => show win0_4.index _ 0 * 1024 + 1 * (i 0).val = (i 0).val; rw [at4 _ 0]; omega
    | ⟨1, _⟩ => show win0_4.index _ 1 * 1536 + 1 * (i 1).val = (i 1).val; rw [at4 _ 1]; omega
  rw [e] at h
  exact h

theorem final4 : (dats m 0 c).arrAt 4 cfg0.N = (out0_4 (V m c main_v0) (V m c main_v1) (V m c main_v2) (V m c main_v3) : Vec Ideal S1024x1536 .f32) := by
  refine (dats m 0 c).arrAt_eq_of_cover 4 _ (fun t hf => ?_) cover4
  rw [Value.flushed4, blk0, blk1, blk2, blk3]
  exact (Memref.read_access_unit_zero (Elt Ideal) main_v4 (off := fun a => win0_4.index t a * main_v4.ty.shape.size a) (funext fun a => by rw [at4 t a, Nat.zero_mul]) (fun a => by rw [at4 t a]; simp) _).symm

end Cert.RDwoIdeal.Read

end
-- ==== Proof.Dwo.lean ====
/-
  The gradient of the output weights, `dwo = (ctx_codesᵀ · dy_codes) · s_ctx · s_dy`: the kernel, over four blocks of 256
  rows of the result, and the reference, over the whole arrays at once, leave the same array. Both sides are read down to one
  formula of the argument arrays, `G`.
-/
module

public import proofs.«01_k».proof.Defs
public import proofs.«01_k».proof.Proof.KDwoIdealRead
public import proofs.«01_k».proof.Proof.RDwoIdealRead
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Dwo

/-- The result as one formula. -/
def G (cc : Vec Ideal ⟨2, ![1920, 1024]⟩ .fp8e4m3) (dy : Vec Ideal ⟨2, ![1920, 1536]⟩ .fp8e5m2) (sc sd : EReal) : Vec Ideal ⟨2, ![1024, 1536]⟩ .f32 :=
  fun j => (∑ k : Fin 1920, cc (ix2 k (j 0)) * dy (ix2 k (j 1))) * sc * sd

end Cert.Dwo

namespace Cert.KDwoIdeal.Read

open Cert.KDwoIdeal Cert.KDwoIdeal.Gen Cert.Common Cert.Dwo

/-- What the body leaves in the output's block. -/
theorem out_A (c : Dev nD) (i : grid0.Coords) (a1 : Memref sig .tc .smem S1 .f32) (h1 : a1.IsWhole) (a2 : Memref sig .tc .smem S1 .f32) (h2 : a2.IsWhole)
    (a3 : Memref sig .tc .vmem S1920x256 .fp8e4m3) (h3 : a3.IsWhole) (a4 : Memref sig .tc .vmem S1920x1536 .fp8e5m2) (h4 : a4.IsWhole)
    (a5 : Memref sig .tc .vmem S256x1536 .f32) (h5 : a5.IsWhole)
    (x0 x1 : Vec Ideal S1 .f32) (x2 : Vec Ideal S1920x256 .fp8e4m3) (x3 : Vec Ideal S1920x1536 .fp8e5m2) :
    out0_A_4 c i a1 h1 a2 h2 a3 h3 a4 h4 a5 h5 x0 x1 x2 x3 = k0_pay1 x2 x3 (x0 (ix1 0)) (x1 (ix1 0)) := by
  unfold out0_A_4
  rw [View.read_writes_eq_canon _ _ _ (cover0_A_4 c i a1 h1 a2 h2 a3 h3 a4 h4 a5 h5 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S1920x1536) hz, View.ld_unit_zero (S := S1920x256) hz]
  exact congrArg₂ (fun u v => k0_pay1 x2 x3 u v) (one x0 _) (one x1 _)

/-- The block the body stores, at one index. -/
theorem pay (cc : Vec Ideal S1920x256 .fp8e4m3) (dy : Vec Ideal S1920x1536 .fp8e5m2) (sc sd : EReal) (j : S256x1536.Idx) :
    k0_pay1 (F := Ideal) cc dy sc sd j = (∑ k : Fin 1920, cc (ix2 k (j 0)) * dy (ix2 k (j 1))) * sc * sd := by
  idx_vars j
  pointwise [k0_pay1]

/-- The kernel's result. -/
theorem result (m : (ℓ : Loc nD τ sig) → Buf (Elt Ideal) ℓ) (c : Dev nD) : (dats m 0 c).arrAt 4 cfg0.N
    = G (V m c main_v0) (V m c main_v1) ((V m c main_v2 : Vec Ideal S1 .f32) (ix1 0)) ((V m c main_v3 : Vec Ideal S1 .f32) (ix1 0)) := by
  refine final4 m c _ fun t j => ?_
  rw [after0_4]
  unfold outsAt0
  rw [out_A, pay, blk0, blk1, blk3]
  simp only [blk2]
  rfl

end Cert.KDwoIdeal.Read

namespace Cert.RDwoIdeal.Read

open Cert.RDwoIdeal Cert.RDwoIdeal.Gen Cert.Common Cert.Dwo

/-- The reference's result. -/
theorem result (m : (ℓ : Loc nD τ sig) → Buf (Elt Ideal) ℓ) (c : Dev nD) : (dats m 0 c).arrAt 4 cfg0.N
    = G (V m c main_v0) (V m c main_v1) ((V m c main_v2 : Vec Ideal S1x1 .f32) (ix2 0 0)) ((V m c main_v3 : Vec Ideal S1x1 .f32) (ix2 0 0)) := by
  rw [final4]
  unfold out0_4
  rw [View.canon_unit_zero hz]
  simp only [r0_0, r0_1, r0_2, View.ld_unit_zero (S := S1920x1536) hz, View.ld_unit_zero (S := S1920x1024) hz, View.ld_unit_zero (S := S1x1) hz]
  funext j
  idx_vars j
  pointwise [k0_pay1, G]

end Cert.RDwoIdeal.Read

namespace Cert.Dwo

open Cert.Common

/-- Both sides' arrays are the same reshapes of the same arguments, so the two results agree. -/
theorem algebraic : Cert.algebraic_KDwoIdeal_RDwoIdeal := by
  intro m g m' g' _ hargs
  refine ⟨fun c => (Cert.KDwoIdeal.Gen.dats m 0 c).arrAt 4 Cert.KDwoIdeal.cfg0.N, Cert.KDwoIdeal.Value.run_blocks m g, ?_⟩
  refine (θ_run _ _ _).mono (fun r h c => ?_) (Cert.RDwoIdeal.Value.run_blocks m' g')
  obtain ⟨h4, h⟩ := h c
  refine ⟨h4.trans ?_, h⟩
  obtain ⟨e0, e1, e2, e3⟩ := hargs c
  rw [Cert.RDwoIdeal.Read.result]
  refine Eq.trans ?_ (Cert.KDwoIdeal.Read.result m c).symm
  rw [Cert.RDwoIdeal.Read.arr_main_v0, Cert.RDwoIdeal.Read.arr_main_v1, Cert.RDwoIdeal.Read.arr_main_v2, Cert.RDwoIdeal.Read.arr_main_v3,
    Cert.KDwoIdeal.Read.arr_main_v0, Cert.KDwoIdeal.Read.arr_main_v1, Cert.KDwoIdeal.Read.arr_main_v2, Cert.KDwoIdeal.Read.arr_main_v3,
    e0, e1, e2, e3]
  rfl

end Cert.Dwo

end
-- ==== Proof.KOutIdealRead.lean ====
/-
  The kernel of the output projection: what the blocks of its windows are in the whole arrays, and when the array a window
  writes back is a given array.
-/
module

public import proofs.«01_k».proof.Proof.Common
public import proofs.«01_k».proof.Proof.Gen.KOutIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KOutIdeal.Read

open Cert.KOutIdeal Cert.KOutIdeal.Gen Cert.Common

variable (m : (ℓ : Loc nD τ sig) → Buf (Elt Ideal) ℓ) (c : Dev nD)

theorem arr_main_v0 : (V m c main_v0 : Vec Ideal S1920x1536 .bf16) = shapeCast S1920x1536 (m ((c : Thread nD τ).loc main_arg0)) shapeCasts_S3x640x1536_S1920x1536 := by
  dsimp only [V, hostOps0]; after_results; rfl

theorem arr_main_v1 : (V m c main_v1 : Vec Ideal S1920x1024 .fp8e4m3) = shapeCast S1920x1024 (m ((c : Thread nD τ).loc main_arg1)) shapeCasts_S3x640x1024_S1920x1024 := by
  dsimp only [V, hostOps0]; after_results; rfl

theorem arr_main_v2 : (V m c main_v2 : Vec Ideal S1 .f32) = shapeCast S1 (m ((c : Thread nD τ).loc main_arg3)) shapeCasts_S_S1 := by
  dsimp only [V, hostOps0]; after_results; rfl

theorem arr_main_v3 : (V m c main_v3 : Vec Ideal S1 .f32) = shapeCast S1 (m ((c : Thread nD τ).loc main_arg4)) shapeCasts_S_S1 := by
  dsimp only [V, hostOps0]; after_results; rfl

theorem at0 : ∀ (t : Fin cfg0.N) (a : Fin 1), win0_0.index t a = 0 :=
  (by decide +kernel : ∀ (t : Fin grid0.N) (a : Fin 1), win0_0.index t a = 0)

theorem blk0 (t : Fin cfg0.N) : (iblk m c 0 t : Vec Ideal S1 .f32) = V m c main_v2 :=
  Memref.read_access_unit_zero (Elt Ideal) main_v2 (off := fun a => win0_0.index t a * main_v2.ty.shape.size a) (funext fun a => by rw [at0 t a, Nat.zero_mul]) (fun a => by rw [at0 t a]; simp) _

theorem at1 : ∀ (t : Fin cfg0.N) (a : Fin 1), win0_1.index t a = 0 :=
  (by decide +kernel : ∀ (t : Fin grid0.N) (a : Fin 1), win0_1.index t a = 0)

theorem blk1 (t : Fin cfg0.N) : (iblk m c 1 t : Vec Ideal S1 .f32) = V m c main_v3 :=
  Memref.read_access_unit_zero (Elt Ideal) main_v3 (off := fun a => win0_1.index t a * main_v3.ty.shape.size a) (funext fun a => by rw [at1 t a, Nat.zero_mul]) (fun a => by rw [at1 t a]; simp) _

/-- Where position `r` of block `t` lies in the whole axis. -/
def pos320_1920 (t : Fin cfg0.N) (r : Fin 320) : Fin 1920 :=
  ⟨320 * t.val + r.val, by have hN : cfg0.N = 6 := N_0; have := t.isLt; have := r.isLt; omega⟩

theorem at2 : ∀ t : Fin cfg0.N, win0_2.index t 0 = t.val ∧ win0_2.index t 1 = 0 :=
  (by decide +kernel : ∀ t : Fin grid0.N, win0_2.index t 0 = t.val ∧ win0_2.index t 1 = 0)

theorem blk2 (t : Fin cfg0.N) (j : S320x1536.Idx) : (iblk m c 2 t : Vec Ideal S320x1536 .bf16) j = (V m c main_v0 : Vec Ideal S1920x1536 .bf16) (ix2 (pos320_1920 t (j 0)) (j 1)) := by
  unfold iblk; rw [View.read_apply]
  show V m c main_v0 _ = V m c main_v0 _
  congr 1; funext a; apply Fin.ext
  match a with
  | ⟨0, _⟩ => show win0_2.index t 0 * 320 + 1 * (j 0).val = 320 * t.val + (j 0).val; rw [(at2 t).1]; omega
  | ⟨1, _⟩ => show win0_2.index t 1 * 1536 + 1 * (j 1).val = (j 1).val; rw [(at2 t).2]; omega

theorem at3 : ∀ t : Fin cfg0.N, win0_3.index t 0 = t.val ∧ win0_3.index t 1 = 0 :=
  (by decide +kernel : ∀ t : Fin grid0.N, win0_3.index t 0 = t.val ∧ win0_3.index t 1 = 0)

theorem blk3 (t : Fin cfg0.N) (j : S320x1024.Idx) : (iblk m c 3 t : Vec Ideal S320x1024 .fp8e4m3) j = (V m c main_v1 : Vec Ideal S1920x1024 .fp8e4m3) (ix2 (pos320_1920 t (j 0)) (j 1)) := by
  unfold iblk; rw [View.read_apply]
  show V m c main_v1 _ = V m c main_v1 _
  congr 1; funext a; apply Fin.ext
  match a with
  | ⟨0, _⟩ => show win0_3.index t 0 * 320 + 1 * (j 0).val = 320 * t.val + (j 0).val; rw [(at3 t).1]; omega
  | ⟨1, _⟩ => show win0_3.index t 1 * 1024 + 1 * (j 1).val = (j 1).val; rw [(at3 t).2]; omega

theorem at4 : ∀ (t : Fin cfg0.N) (a : Fin 2), win0_4.index t a = 0 :=
  (by decide +kernel : ∀ (t : Fin grid0.N) (a : Fin 2), win0_4.index t a = 0)

theorem blk4 (t : Fin cfg0.N) : (iblk m c 4 t : Vec Ideal S1024x1536 .fp8e4m3) = V m c main_arg2 :=
  Memref.read_access_unit_zero (Elt Ideal) main_arg2 (off := fun a => win0_4.index t a * main_arg2.ty.shape.size a) (funext fun a => by rw [at4 t a, Nat.zero_mul]) (fun a => by rw [at4 t a]; simp) _

theorem at5 : ∀ t : Fin cfg0.N, win0_5.index t 0 = t.val ∧ win0_5.index t 1 = 0 :=
  (by decide +kernel : ∀ t : Fin grid0.N, win0_5.index t 0 = t.val ∧ win0_5.index t 1 = 0)

theorem emb5 (t : Fin cfg0.N) (j : S320x1536.Idx) : (((cfg0.win 5).blk t).view.emb j : S1920x1536.Idx) = ix2 (pos320_1920 t (j 0)) (j 1) := by
  funext a; apply Fin.ext
  match a with
  | ⟨0, _⟩ => show win0_5.index t 0 * 320 + 1 * (j 0).val = 320 * t.val + (j 0).val; rw [(at5 t).1]; omega
  | ⟨1, _⟩ => show win0_5.index t 1 * 1536 + 1 * (j 1).val = (j 1).val; rw [(at5 t).2]; omega

theorem cover5 (i : S1920x1536.Idx) : ∃ t : Fin cfg0.N, (cfg0.win 5).flush t = true ∧ i ∈ ((cfg0.win 5).blk t).view.set := by
  have hN : cfg0.N = 6 := N_0
  have h0 : (i 0 : Nat) < 1920 := (i 0).isLt
  have ht : (i 0).val / 320 < cfg0.N := by omega
  refine ⟨⟨(i 0).val / 320, ht⟩, flush0_5 _, ?_⟩
  have h := ((cfg0.win 5).blk ⟨(i 0).val / 320, ht⟩).view.emb_mem_set (ix2 ⟨(i 0).val % 320, Nat.mod_lt _ (by decide)⟩ (i 1))
  have e : (((cfg0.win 5).blk ⟨(i 0).val / 320, ht⟩).view.emb (ix2 ⟨(i 0).val % 320, Nat.mod_lt _ (by decide)⟩ (i 1)) : S1920x1536.Idx) = i := by
    rw [emb5]
    funext a; apply Fin.ext
    match a with
    | ⟨0, _⟩ => show 320 * ((i 0).val / 320) + (i 0).val % 320 = (i 0).val; omega
    | ⟨1, _⟩ => rfl
  rw [e] at h
  exact h

theorem final5 (G : Vec Ideal S1920x1536 .bf16) (h : ∀ (t : Fin cfg0.N) (j : S320x1536.Idx), ((dats m 0 c).after 5 t : Vec Ideal S320x1536 .bf16) j = G (ix2 (pos320_1920 t (j 0)) (j 1))) :
    (dats m 0 c).arrAt 5 cfg0.N = G := by
  refine (dats m 0 c).arrAt_eq_of_cover 5 G (fun t hf => ?_) cover5
  funext j
  rw [View.read_apply]
  refine Eq.trans ?_ ((h t j).trans (congrArg G (emb5 t j).symm))
  rfl

end Cert.KOutIdeal.Read

end
-- ==== Proof.ROutIdealRead.lean ====
/-
  The reference of the output projection: every window is one whole array, so each result is the value stored.
-/
module

public import proofs.«01_k».proof.Proof.Common
public import proofs.«01_k».proof.Proof.Gen.ROutIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ROutIdeal.Read

open Cert.ROutIdeal Cert.ROutIdeal.Gen Cert.Common

variable (m : (ℓ : Loc nD τ sig) → Buf (Elt Ideal) ℓ) (c : Dev nD)

theorem arr_main_v0 : (V m c main_v0 : Vec Ideal S1920x1536 .bf16) = shapeCast S1920x1536 (m ((c : Thread nD τ).loc main_arg0)) shapeCasts_S3x640x1536_S1920x1536 := by
  dsimp only [V, hostOps0]; after_results; rfl

theorem arr_main_v1 : (V m c main_v1 : Vec Ideal S1920x1024 .fp8e4m3) = shapeCast S1920x1024 (m ((c : Thread nD τ).loc main_arg1)) shapeCasts_S3x640x1024_S1920x1024 := by
  dsimp only [V, hostOps0]; after_results; rfl

theorem arr_main_v2 : (V m c main_v2 : Vec Ideal S1x1 .f32) = shapeCast S1x1 (m ((c : Thread nD τ).loc main_arg3)) shapeCasts_S_S1x1 := by
  dsimp only [V, hostOps0]; after_results; rfl

theorem arr_main_v3 : (V m c main_v3 : Vec Ideal S1x1 .f32) = shapeCast S1x1 (m ((c : Thread nD τ).loc main_arg4)) shapeCasts_S_S1x1 := by
  dsimp only [V, hostOps0]; after_results; rfl

theorem at0 : ∀ (t : Fin cfg0.N) (a : Fin 2), win0_0.index t a = 0 :=
  (by decide +kernel : ∀ (t : Fin grid0.N) (a : Fin 2), win0_0.index t a = 0)

theorem blk0 (t : Fin cfg0.N) : (iblk m c 0 t : Vec Ideal S1920x1536 .bf16) = V m c main_v0 :=
  Memref.read_access_unit_zero (Elt Ideal) main_v0 (off := fun a => win0_0.index t a * main_v0.ty.shape.size a) (funext fun a => by rw [at0 t a, Nat.zero_mul]) (fun a => by rw [at0 t a]; simp) _

theorem at1 : ∀ (t : Fin cfg0.N) (a : Fin 2), win0_1.index t a = 0 :=
  (by decide +kernel : ∀ (t : Fin grid0.N) (a : Fin 2), win0_1.index t a = 0)

theorem blk1 (t : Fin cfg0.N) : (iblk m c 1 t : Vec Ideal S1920x1024 .fp8e4m3) = V m c main_v1 :=
  Memref.read_access_unit_zero (Elt Ideal) main_v1 (off := fun a => win0_1.index t a * main_v1.ty.shape.size a) (funext fun a => by rw [at1 t a, Nat.zero_mul]) (fun a => by rw [at1 t a]; simp) _

theorem at2 : ∀ (t : Fin cfg0.N) (a : Fin 2), win0_2.index t a = 0 :=
  (by decide +kernel : ∀ (t : Fin grid0.N) (a : Fin 2), win0_2.index t a = 0)

theorem blk2 (t : Fin cfg0.N) : (iblk m c 2 t : Vec Ideal S1024x1536 .fp8e4m3) = V m c main_arg2 :=
  Memref.read_access_unit_zero (Elt Ideal) main_arg2 (off := fun a => win0_2.index t a * main_arg2.ty.shape.size a) (funext fun a => by rw [at2 t a, Nat.zero_mul]) (fun a => by rw [at2 t a]; simp) _

theorem at3 : ∀ (t : Fin cfg0.N) (a : Fin 2), win0_3.index t a = 0 :=
  (by decide +kernel : ∀ (t : Fin grid0.N) (a : Fin 2), win0_3.index t a = 0)

theorem blk3 (t : Fin cfg0.N) : (iblk m c 3 t : Vec Ideal S1x1 .f32) = V m c main_v2 :=
  Memref.read_access_unit_zero (Elt Ideal) main_v2 (off := fun a => win0_3.index t a * main_v2.ty.shape.size a) (funext fun a => by rw [at3 t a, Nat.zero_mul]) (fun a => by rw [at3 t a]; simp) _

theorem at4 : ∀ (t : Fin cfg0.N) (a : Fin 2), win0_4.index t a = 0 :=
  (by decide +kernel : ∀ (t : Fin grid0.N) (a : Fin 2), win0_4.index t a = 0)

theorem blk4 (t : Fin cfg0.N) : (iblk m c 4 t : Vec Ideal S1x1 .f32) = V m c main_v3 :=
  Memref.read_access_unit_zero (Elt Ideal) main_v3 (off := fun a => win0_4.index t a * main_v3.ty.shape.size a) (funext fun a => by rw [at4 t a, Nat.zero_mul]) (fun a => by rw [at4 t a]; simp) _

theorem at5 : ∀ (t : Fin cfg0.N) (a : Fin 2), win0_5.index t a = 0 :=
  (by decide +kernel : ∀ (t : Fin grid0.N) (a : Fin 2), win0_5.index t a = 0)

theorem flush5 : ∀ t : Fin cfg0.N, (cfg0.win 5).flush t = true :=
  (by decide +kernel : ∀ t : Fin grid0.N, (cfg0.win 5).flush t = true)

theorem cover5 (i : S1920x1536.Idx) : ∃ t : Fin cfg0.N, (cfg0.win 5).flush t = true ∧ i ∈ ((cfg0.win 5).blk t).view.set := by
  have ht : 0 < cfg0.N := by decide
  refine ⟨⟨0, ht⟩, flush5 _, ?_⟩
  have h := ((cfg0.win 5).blk ⟨0, ht⟩).view.emb_mem_set i
  have e : (((cfg0.win 5).blk ⟨0, ht⟩).view.emb i : S1920x1536.Idx) = i := by
    funext a; apply Fin.ext
    match a with
    | ⟨0, _⟩ => show win0_5.index _ 0 * 1920 + 1 * (i 0).val = (i 0).val; rw [at5 _ 0]; omega
    | ⟨1, _⟩ => show win0_5.index _ 1 * 1536 + 1 * (i 1).val = (i 1).val; rw [at5 _ 1]; omega
  rw [e] at h
  exact h

theorem final5 : (dats m 0 c).arrAt 5 cfg0.N = (out0_5 (V m c main_v0) (V m c main_v1) (V m c main_arg2) (V m c main_v2) (V m c main_v3) : Vec Ideal S1920x1536 .bf16) := by
  refine (dats m 0 c).arrAt_eq_of_cover 5 _ (fun t hf => ?_) cover5
  rw [Value.flushed5, blk0, blk1, blk2, blk3, blk4]
  exact (Memref.read_access_unit_zero (Elt Ideal) main_v4 (off := fun a => win0_5.index t a * main_v4.ty.shape.size a) (funext fun a => by rw [at5 t a, Nat.zero_mul]) (fun a => by rw [at5 t a]; simp) _).symm

end Cert.ROutIdeal.Read

end
-- ==== Proof.Out.lean ====
/-
  The output projection, `y = x + (ctx_codes · wo) · s_ctx · s_wo`: the kernel, over six blocks of 320 rows, and the
  reference, over the whole arrays at once, leave the same array. Both sides are read down to one formula of the argument
  arrays, `G`.
-/
module

public import proofs.«01_k».proof.Defs
public import proofs.«01_k».proof.Proof.KOutIdealRead
public import proofs.«01_k».proof.Proof.ROutIdealRead
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Out

/-- The result as one formula. -/
def G (x : Vec Ideal ⟨2, ![1920, 1536]⟩ .bf16) (cc : Vec Ideal ⟨2, ![1920, 1024]⟩ .fp8e4m3)
    (wo : Vec Ideal ⟨2, ![1024, 1536]⟩ .fp8e4m3) (sc sw : EReal) : Vec Ideal ⟨2, ![1920, 1536]⟩ .bf16 :=
  fun j => x j + (∑ k : Fin 1024, cc (ix2 (j 0) k) * wo (ix2 k (j 1))) * sc * sw

end Cert.Out

namespace Cert.KOutIdeal.Read

open Cert.KOutIdeal Cert.KOutIdeal.Gen Cert.Common Cert.Out

/-- What the body leaves in the output's block. -/
theorem out_A (c : Dev nD) (i : grid0.Coords) (a1 : Memref sig .tc .smem S1 .f32) (h1 : a1.IsWhole) (a2 : Memref sig .tc .smem S1 .f32) (h2 : a2.IsWhole)
    (a3 : Memref sig .tc .vmem S320x1536 .bf16) (h3 : a3.IsWhole) (a4 : Memref sig .tc .vmem S320x1024 .fp8e4m3) (h4 : a4.IsWhole)
    (a5 : Memref sig .tc .vmem S1024x1536 .fp8e4m3) (h5 : a5.IsWhole) (a6 : Memref sig .tc .vmem S320x1536 .bf16) (h6 : a6.IsWhole)
    (x0 x1 : Vec Ideal S1 .f32) (x2 : Vec Ideal S320x1536 .bf16) (x3 : Vec Ideal S320x1024 .fp8e4m3) (x4 : Vec Ideal S1024x1536 .fp8e4m3) :
    out0_A_5 c i a1 h1 a2 h2 a3 h3 a4 h4 a5 h5 a6 h6 x0 x1 x2 x3 x4 = k0_pay1 x3 x4 (x0 (ix1 0)) (x1 (ix1 0)) x2 := by
  unfold out0_A_5
  rw [View.read_writes_eq_canon _ _ _ (cover0_A_5 c i a1 h1 a2 h2 a3 h3 a4 h4 a5 h5 a6 h6 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S320x1536) hz, View.ld_unit_zero (S := S320x1024) hz, View.ld_unit_zero (S := S1024x1536) hz]
  exact congrArg₂ (fun u v => k0_pay1 x3 x4 u v x2) (one x0 _) (one x1 _)

/-- The block the body stores, at one index. -/
theorem pay (x : Vec Ideal S320x1536 .bf16) (cc : Vec Ideal S320x1024 .fp8e4m3) (wo : Vec Ideal S1024x1536 .fp8e4m3) (sc sw : EReal) (j : S320x1536.Idx) :
    k0_pay1 (F := Ideal) cc wo sc sw x j = x j + (∑ k : Fin 1024, cc (ix2 (j 0) k) * wo (ix2 k (j 1))) * sc * sw := by
  idx_vars j
  pointwise [k0_pay1]

/-- The kernel's result. -/
theorem result (m : (ℓ : Loc nD τ sig) → Buf (Elt Ideal) ℓ) (c : Dev nD) : (dats m 0 c).arrAt 5 cfg0.N
    = G (V m c main_v0) (V m c main_v1) (V m c main_arg2) ((V m c main_v2 : Vec Ideal S1 .f32) (ix1 0)) ((V m c main_v3 : Vec Ideal S1 .f32) (ix1 0)) := by
  refine final5 m c _ fun t j => ?_
  rw [after0_5]
  unfold outsAt0
  rw [out_A, pay, blk0, blk1, blk4]
  simp only [blk2, blk3]
  rfl

end Cert.KOutIdeal.Read

namespace Cert.ROutIdeal.Read

open Cert.ROutIdeal Cert.ROutIdeal.Gen Cert.Common Cert.Out

/-- The reference's result. -/
theorem result (m : (ℓ : Loc nD τ sig) → Buf (Elt Ideal) ℓ) (c : Dev nD) : (dats m 0 c).arrAt 5 cfg0.N
    = G (V m c main_v0) (V m c main_v1) (V m c main_arg2) ((V m c main_v2 : Vec Ideal S1x1 .f32) (ix2 0 0)) ((V m c main_v3 : Vec Ideal S1x1 .f32) (ix2 0 0)) := by
  rw [final5]
  unfold out0_5
  rw [View.canon_unit_zero hz]
  simp only [r0_0, r0_1, r0_2, r0_3, View.ld_unit_zero (S := S1920x1536) hz, View.ld_unit_zero (S := S1920x1024) hz, View.ld_unit_zero (S := S1024x1536) hz, View.ld_unit_zero (S := S1x1) hz]
  funext j
  idx_vars j
  pointwise [k0_pay1, G]

end Cert.ROutIdeal.Read

namespace Cert.Out

open Cert.Common

/-- Both sides' arrays are the same reshapes of the same arguments, so the two results agree. -/
theorem algebraic : Cert.algebraic_KOutIdeal_ROutIdeal := by
  intro m g m' g' _ hargs
  refine ⟨fun c => (Cert.KOutIdeal.Gen.dats m 0 c).arrAt 5 Cert.KOutIdeal.cfg0.N, Cert.KOutIdeal.Value.run_blocks m g, ?_⟩
  refine (θ_run _ _ _).mono (fun r h c => ?_) (Cert.ROutIdeal.Value.run_blocks m' g')
  obtain ⟨h4, h⟩ := h c
  refine ⟨h4.trans ?_, h⟩
  obtain ⟨e0, e1, e2, e3, e4⟩ := hargs c
  rw [Cert.ROutIdeal.Read.result]
  refine Eq.trans ?_ (Cert.KOutIdeal.Read.result m c).symm
  rw [Cert.ROutIdeal.Read.arr_main_v0, Cert.ROutIdeal.Read.arr_main_v1, Cert.ROutIdeal.Read.arr_main_v2, Cert.ROutIdeal.Read.arr_main_v3, Cert.ROutIdeal.Gen.V_main_arg2,
    Cert.KOutIdeal.Read.arr_main_v0, Cert.KOutIdeal.Read.arr_main_v1, Cert.KOutIdeal.Read.arr_main_v2, Cert.KOutIdeal.Read.arr_main_v3, Cert.KOutIdeal.Gen.V_main_arg2,
    e0, e1, e2, e3, e4]
  rfl

end Cert.Out

end
-- ==== Proof.KDxIdealRead.lean ====
/-
  The kernel of the input gradient: what the blocks of its windows are in the whole arrays, and when the array a window
  writes back is a given array.
-/
module

public import proofs.«01_k».proof.Proof.Common
public import proofs.«01_k».proof.Proof.Gen.KDxIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KDxIdeal.Read

open Cert.KDxIdeal Cert.KDxIdeal.Gen Cert.Common

variable (m : (ℓ : Loc nD τ sig) → Buf (Elt Ideal) ℓ) (c : Dev nD)

theorem arr_main_v0 : (V m c main_v0 : Vec Ideal S1920x1536 .bf16) = shapeCast S1920x1536 (m ((c : Thread nD τ).loc main_arg0)) shapeCasts_S3x640x1536_S1920x1536 := by
  dsimp only [V, hostOps0]; after_results; rfl

theorem arr_main_v1 : (V m c main_v1 : Vec Ideal S1920x1536 .bf16) = shapeCast S1920x1536 (m ((c : Thread nD τ).loc main_arg14)) shapeCasts_S3x640x1536_S1920x1536 := by
  dsimp only [V, hostOps0]; after_results; rfl

theorem arr_main_v2 : (V m c main_v2 : Vec Ideal S1x1536 .f32) = shapeCast S1x1536 (m ((c : Thread nD τ).loc main_arg1)) shapeCasts_S1536_S1x1536 := by
  dsimp only [V, hostOps0]; after_results; rfl

theorem arr_main_v3 : (V m c main_v3 : Vec Ideal S1 .f32) = shapeCast S1 (m ((c : Thread nD τ).loc main_arg5)) shapeCasts_S_S1 := by
  dsimp only [V, hostOps0]; after_results; rfl

theorem arr_main_v4 : (V m c main_v4 : Vec Ideal S1 .f32) = shapeCast S1 (m ((c : Thread nD τ).loc main_arg6)) shapeCasts_S_S1 := by
  dsimp only [V, hostOps0]; after_results; rfl

theorem arr_main_v5 : (V m c main_v5 : Vec Ideal S1 .f32) = shapeCast S1 (m ((c : Thread nD τ).loc main_arg7)) shapeCasts_S_S1 := by
  dsimp only [V, hostOps0]; after_results; rfl

theorem arr_main_v6 : (V m c main_v6 : Vec Ideal S1 .f32) = shapeCast S1 (m ((c : Thread nD τ).loc main_arg11)) shapeCasts_S_S1 := by
  dsimp only [V, hostOps0]; after_results; rfl

theorem arr_main_v7 : (V m c main_v7 : Vec Ideal S1 .f32) = shapeCast S1 (m ((c : Thread nD τ).loc main_arg12)) shapeCasts_S_S1 := by
  dsimp only [V, hostOps0]; after_results; rfl

theorem arr_main_v8 : (V m c main_v8 : Vec Ideal S1 .f32) = shapeCast S1 (m ((c : Thread nD τ).loc main_arg13)) shapeCasts_S_S1 := by
  dsimp only [V, hostOps0]; after_results; rfl

theorem at0 : ∀ (t : Fin cfg0.N) (a : Fin 1), win0_0.index t a = 0 :=
  (by decide +kernel : ∀ (t : Fin grid0.N) (a : Fin 1), win0_0.index t a = 0)

theorem blk0 (t : Fin cfg0.N) : (iblk m c 0 t : Vec Ideal S1 .f32) = V m c main_v3 :=
  Memref.read_access_unit_zero (Elt Ideal) main_v3 (off := fun a => win0_0.index t a * main_v3.ty.shape.size a) (funext fun a => by rw [at0 t a, Nat.zero_mul]) (fun a => by rw [at0 t a]; simp) _

theorem at1 : ∀ (t : Fin cfg0.N) (a : Fin 1), win0_1.index t a = 0 :=
  (by decide +kernel : ∀ (t : Fin grid0.N) (a : Fin 1), win0_1.index t a = 0)

theorem blk1 (t : Fin cfg0.N) : (iblk m c 1 t : Vec Ideal S1 .f32) = V m c main_v4 :=
  Memref.read_access_unit_zero (Elt Ideal) main_v4 (off := fun a => win0_1.index t a * main_v4.ty.shape.size a) (funext fun a => by rw [at1 t a, Nat.zero_mul]) (fun a => by rw [at1 t a]; simp) _

theorem at2 : ∀ (t : Fin cfg0.N) (a : Fin 1), win0_2.index t a = 0 :=
  (by decide +kernel : ∀ (t : Fin grid0.N) (a : Fin 1), win0_2.index t a = 0)

theorem blk2 (t : Fin cfg0.N) : (iblk m c 2 t : Vec Ideal S1 .f32) = V m c main_v5 :=
  Memref.read_access_unit_zero (Elt Ideal) main_v5 (off := fun a => win0_2.index t a * main_v5.ty.shape.size a) (funext fun a => by rw [at2 t a, Nat.zero_mul]) (fun a => by rw [at2 t a]; simp) _

theorem at3 : ∀ (t : Fin cfg0.N) (a : Fin 1), win0_3.index t a = 0 :=
  (by decide +kernel : ∀ (t : Fin grid0.N) (a : Fin 1), win0_3.index t a = 0)

theorem blk3 (t : Fin cfg0.N) : (iblk m c 3 t : Vec Ideal S1 .f32) = V m c main_v6 :=
  Memref.read_access_unit_zero (Elt Ideal) main_v6 (off := fun a => win0_3.index t a * main_v6.ty.shape.size a) (funext fun a => by rw [at3 t a, Nat.zero_mul]) (fun a => by rw [at3 t a]; simp) _

theorem at4 : ∀ (t : Fin cfg0.N) (a : Fin 1), win0_4.index t a = 0 :=
  (by decide +kernel : ∀ (t : Fin grid0.N) (a : Fin 1), win0_4.index t a = 0)

theorem blk4 (t : Fin cfg0.N) : (iblk m c 4 t : Vec Ideal S1 .f32) = V m c main_v7 :=
  Memref.read_access_unit_zero (Elt Ideal) main_v7 (off := fun a => win0_4.index t a * main_v7.ty.shape.size a) (funext fun a => by rw [at4 t a, Nat.zero_mul]) (fun a => by rw [at4 t a]; simp) _

theorem at5 : ∀ (t : Fin cfg0.N) (a : Fin 1), win0_5.index t a = 0 :=
  (by decide +kernel : ∀ (t : Fin grid0.N) (a : Fin 1), win0_5.index t a = 0)

theorem blk5 (t : Fin cfg0.N) : (iblk m c 5 t : Vec Ideal S1 .f32) = V m c main_v8 :=
  Memref.read_access_unit_zero (Elt Ideal) main_v8 (off := fun a => win0_5.index t a * main_v8.ty.shape.size a) (funext fun a => by rw [at5 t a, Nat.zero_mul]) (fun a => by rw [at5 t a]; simp) _

/-- Where position `r` of block `t` lies in the whole axis. -/
def pos320_1920 (t : Fin cfg0.N) (r : Fin 320) : Fin 1920 :=
  ⟨320 * t.val + r.val, by have hN : cfg0.N = 6 := N_0; have := t.isLt; have := r.isLt; omega⟩

theorem at6 : ∀ t : Fin cfg0.N, win0_6.index t 0 = t.val ∧ win0_6.index t 1 = 0 :=
  (by decide +kernel : ∀ t : Fin grid0.N, win0_6.index t 0 = t.val ∧ win0_6.index t 1 = 0)

theorem blk6 (t : Fin cfg0.N) (j : S320x1024.Idx) : (iblk m c 6 t : Vec Ideal S320x1024 .f32) j = (V m c main_arg8 : Vec Ideal S1920x1024 .f32) (ix2 (pos320_1920 t (j 0)) (j 1)) := by
  unfold iblk; rw [View.read_apply]
  show V m c main_arg8 _ = V m c main_arg8 _
  congr 1; funext a; apply Fin.ext
  match a with
  | ⟨0, _⟩ => show win0_6.index t 0 * 320 + 1 * (j 0).val = 320 * t.val + (j 0).val; rw [(at6 t).1]; omega
  | ⟨1, _⟩ => show win0_6.index t 1 * 1024 + 1 * (j 1).val = (j 1).val; rw [(at6 t).2]; omega

theorem at7 : ∀ t : Fin cfg0.N, win0_7.index t 0 = t.val ∧ win0_7.index t 1 = 0 :=
  (by decide +kernel : ∀ t : Fin grid0.N, win0_7.index t 0 = t.val ∧ win0_7.index t 1 = 0)

theorem blk7 (t : Fin cfg0.N) (j : S320x1024.Idx) : (iblk m c 7 t : Vec Ideal S320x1024 .f32) j = (V m c main_arg9 : Vec Ideal S1920x1024 .f32) (ix2 (pos320_1920 t (j 0)) (j 1)) := by
  unfold iblk; rw [View.read_apply]
  show V m c main_arg9 _ = V m c main_arg9 _
  congr 1; funext a; apply Fin.ext
  match a with
  | ⟨0, _⟩ => show win0_7.index t 0 * 320 + 1 * (j 0).val = 320 * t.val + (j 0).val; rw [(at7 t).1]; omega
  | ⟨1, _⟩ => show win0_7.index t 1 * 1024 + 1 * (j 1).val = (j 1).val; rw [(at7 t).2]; omega

theorem at8 : ∀ t : Fin cfg0.N, win0_8.index t 0 = t.val ∧ win0_8.index t 1 = 0 :=
  (by decide +kernel : ∀ t : Fin grid0.N, win0_8.index t 0 = t.val ∧ win0_8.index t 1 = 0)

theorem blk8 (t : Fin cfg0.N) (j : S320x1024.Idx) : (iblk m c 8 t : Vec Ideal S320x1024 .f32) j = (V m c main_arg10 : Vec Ideal S1920x1024 .f32) (ix2 (pos320_1920 t (j 0)) (j 1)) := by
  unfold iblk; rw [View.read_apply]
  show V m c main_arg10 _ = V m c main_arg10 _
  congr 1; funext a; apply Fin.ext
  match a with
  | ⟨0, _⟩ => show win0_8.index t 0 * 320 + 1 * (j 0).val = 320 * t.val + (j 0).val; rw [(at8 t).1]; omega
  | ⟨1, _⟩ => show win0_8.index t 1 * 1024 + 1 * (j 1).val = (j 1).val; rw [(at8 t).2]; omega

theorem at9 : ∀ (t : Fin cfg0.N) (a : Fin 2), win0_9.index t a = 0 :=
  (by decide +kernel : ∀ (t : Fin grid0.N) (a : Fin 2), win0_9.index t a = 0)

theorem blk9 (t : Fin cfg0.N) : (iblk m c 9 t : Vec Ideal S1536x1024 .fp8e4m3) = V m c main_arg2 :=
  Memref.read_access_unit_zero (Elt Ideal) main_arg2 (off := fun a => win0_9.index t a * main_arg2.ty.shape.size a) (funext fun a => by rw [at9 t a, Nat.zero_mul]) (fun a => by rw [at9 t a]; simp) _

theorem at10 : ∀ (t : Fin cfg0.N) (a : Fin 2), win0_10.index t a = 0 :=
  (by decide +kernel : ∀ (t : Fin grid0.N) (a : Fin 2), win0_10.index t a = 0)

theorem blk10 (t : Fin cfg0.N) : (iblk m c 10 t : Vec Ideal S1536x1024 .fp8e4m3) = V m c main_arg3 :=
  Memref.read_access_unit_zero (Elt Ideal) main_arg3 (off := fun a => win0_10.index t a * main_arg3.ty.shape.size a) (funext fun a => by rw [at10 t a, Nat.zero_mul]) (fun a => by rw [at10 t a]; simp) _

theorem at11 : ∀ (t : Fin cfg0.N) (a : Fin 2), win0_11.index t a = 0 :=
  (by decide +kernel : ∀ (t : Fin grid0.N) (a : Fin 2), win0_11.index t a = 0)

theorem blk11 (t : Fin cfg0.N) : (iblk m c 11 t : Vec Ideal S1536x1024 .fp8e4m3) = V m c main_arg4 :=
  Memref.read_access_unit_zero (Elt Ideal) main_arg4 (off := fun a => win0_11.index t a * main_arg4.ty.shape.size a) (funext fun a => by rw [at11 t a, Nat.zero_mul]) (fun a => by rw [at11 t a]; simp) _

theorem at12 : ∀ t : Fin cfg0.N, win0_12.index t 0 = t.val ∧ win0_12.index t 1 = 0 :=
  (by decide +kernel : ∀ t : Fin grid0.N, win0_12.index t 0 = t.val ∧ win0_12.index t 1 = 0)

theorem blk12 (t : Fin cfg0.N) (j : S320x1536.Idx) : (iblk m c 12 t : Vec Ideal S320x1536 .bf16) j = (V m c main_v0 : Vec Ideal S1920x1536 .bf16) (ix2 (pos320_1920 t (j 0)) (j 1)) := by
  unfold iblk; rw [View.read_apply]
  show V m c main_v0 _ = V m c main_v0 _
  congr 1; funext a; apply Fin.ext
  match a with
  | ⟨0, _⟩ => show win0_12.index t 0 * 320 + 1 * (j 0).val = 320 * t.val + (j 0).val; rw [(at12 t).1]; omega
  | ⟨1, _⟩ => show win0_12.index t 1 * 1536 + 1 * (j 1).val = (j 1).val; rw [(at12 t).2]; omega

theorem at13 : ∀ t : Fin cfg0.N, win0_13.index t 0 = t.val ∧ win0_13.index t 1 = 0 :=
  (by decide +kernel : ∀ t : Fin grid0.N, win0_13.index t 0 = t.val ∧ win0_13.index t 1 = 0)

theorem blk13 (t : Fin cfg0.N) (j : S320x1536.Idx) : (iblk m c 13 t : Vec Ideal S320x1536 .bf16) j = (V m c main_v1 : Vec Ideal S1920x1536 .bf16) (ix2 (pos320_1920 t (j 0)) (j 1)) := by
  unfold iblk; rw [View.read_apply]
  show V m c main_v1 _ = V m c main_v1 _
  congr 1; funext a; apply Fin.ext
  match a with
  | ⟨0, _⟩ => show win0_13.index t 0 * 320 + 1 * (j 0).val = 320 * t.val + (j 0).val; rw [(at13 t).1]; omega
  | ⟨1, _⟩ => show win0_13.index t 1 * 1536 + 1 * (j 1).val = (j 1).val; rw [(at13 t).2]; omega

theorem at14 : ∀ (t : Fin cfg0.N) (a : Fin 2), win0_14.index t a = 0 :=
  (by decide +kernel : ∀ (t : Fin grid0.N) (a : Fin 2), win0_14.index t a = 0)

theorem blk14 (t : Fin cfg0.N) : (iblk m c 14 t : Vec Ideal S1x1536 .f32) = V m c main_v2 :=
  Memref.read_access_unit_zero (Elt Ideal) main_v2 (off := fun a => win0_14.index t a * main_v2.ty.shape.size a) (funext fun a => by rw [at14 t a, Nat.zero_mul]) (fun a => by rw [at14 t a]; simp) _

theorem at15 : ∀ t : Fin cfg0.N, win0_15.index t 0 = t.val ∧ win0_15.index t 1 = 0 :=
  (by decide +kernel : ∀ t : Fin grid0.N, win0_15.index t 0 = t.val ∧ win0_15.index t 1 = 0)

theorem emb15 (t : Fin cfg0.N) (j : S320x1536.Idx) : (((cfg0.win 15).blk t).view.emb j : S1920x1536.Idx) = ix2 (pos320_1920 t (j 0)) (j 1) := by
  funext a; apply Fin.ext
  match a with
  | ⟨0, _⟩ => show win0_15.index t 0 * 320 + 1 * (j 0).val = 320 * t.val + (j 0).val; rw [(at15 t).1]; omega
  | ⟨1, _⟩ => show win0_15.index t 1 * 1536 + 1 * (j 1).val = (j 1).val; rw [(at15 t).2]; omega

theorem cover15 (i : S1920x1536.Idx) : ∃ t : Fin cfg0.N, (cfg0.win 15).flush t = true ∧ i ∈ ((cfg0.win 15).blk t).view.set := by
  have hN : cfg0.N = 6 := N_0
  have h0 : (i 0 : Nat) < 1920 := (i 0).isLt
  have ht : (i 0).val / 320 < cfg0.N := by omega
  refine ⟨⟨(i 0).val / 320, ht⟩, flush0_15 _, ?_⟩
  have h := ((cfg0.win 15).blk ⟨(i 0).val / 320, ht⟩).view.emb_mem_set (ix2 ⟨(i 0).val % 320, Nat.mod_lt _ (by decide)⟩ (i 1))
  have e : (((cfg0.win 15).blk ⟨(i 0).val / 320, ht⟩).view.emb (ix2 ⟨(i 0).val % 320, Nat.mod_lt _ (by decide)⟩ (i 1)) : S1920x1536.Idx) = i := by
    rw [emb15]
    funext a; apply Fin.ext
    match a with
    | ⟨0, _⟩ => show 320 * ((i 0).val / 320) + (i 0).val % 320 = (i 0).val; omega
    | ⟨1, _⟩ => rfl
  rw [e] at h
  exact h

theorem final15 (G : Vec Ideal S1920x1536 .bf16) (h : ∀ (t : Fin cfg0.N) (j : S320x1536.Idx), ((dats m 0 c).after 15 t : Vec Ideal S320x1536 .bf16) j = G (ix2 (pos320_1920 t (j 0)) (j 1))) :
    (dats m 0 c).arrAt 15 cfg0.N = G := by
  refine (dats m 0 c).arrAt_eq_of_cover 15 G (fun t hf => ?_) cover15
  funext j
  rw [View.read_apply]
  refine Eq.trans ?_ ((h t j).trans (congrArg G (emb15 t j).symm))
  rfl

theorem at16 : ∀ t : Fin cfg0.N, win0_16.index t 0 = t.val ∧ win0_16.index t 1 = 0 :=
  (by decide +kernel : ∀ t : Fin grid0.N, win0_16.index t 0 = t.val ∧ win0_16.index t 1 = 0)

theorem emb16 (t : Fin cfg0.N) (j : S320x1536.Idx) : (((cfg0.win 16).blk t).view.emb j : S1920x1536.Idx) = ix2 (pos320_1920 t (j 0)) (j 1) := by
  funext a; apply Fin.ext
  match a with
  | ⟨0, _⟩ => show win0_16.index t 0 * 320 + 1 * (j 0).val = 320 * t.val + (j 0).val; rw [(at16 t).1]; omega
  | ⟨1, _⟩ => show win0_16.index t 1 * 1536 + 1 * (j 1).val = (j 1).val; rw [(at16 t).2]; omega

theorem cover16 (i : S1920x1536.Idx) : ∃ t : Fin cfg0.N, (cfg0.win 16).flush t = true ∧ i ∈ ((cfg0.win 16).blk t).view.set := by
  have hN : cfg0.N = 6 := N_0
  have h0 : (i 0 : Nat) < 1920 := (i 0).isLt
  have ht : (i 0).val / 320 < cfg0.N := by omega
  refine ⟨⟨(i 0).val / 320, ht⟩, flush0_16 _, ?_⟩
  have h := ((cfg0.win 16).blk ⟨(i 0).val / 320, ht⟩).view.emb_mem_set (ix2 ⟨(i 0).val % 320, Nat.mod_lt _ (by decide)⟩ (i 1))
  have e : (((cfg0.win 16).blk ⟨(i 0).val / 320, ht⟩).view.emb (ix2 ⟨(i 0).val % 320, Nat.mod_lt _ (by decide)⟩ (i 1)) : S1920x1536.Idx) = i := by
    rw [emb16]
    funext a; apply Fin.ext
    match a with
    | ⟨0, _⟩ => show 320 * ((i 0).val / 320) + (i 0).val % 320 = (i 0).val; omega
    | ⟨1, _⟩ => rfl
  rw [e] at h
  exact h

theorem final16 (G : Vec Ideal S1920x1536 .bf16) (h : ∀ (t : Fin cfg0.N) (j : S320x1536.Idx), ((dats m 0 c).after 16 t : Vec Ideal S320x1536 .bf16) j = G (ix2 (pos320_1920 t (j 0)) (j 1))) :
    (dats m 0 c).arrAt 16 cfg0.N = G := by
  refine (dats m 0 c).arrAt_eq_of_cover 16 G (fun t hf => ?_) cover16
  funext j
  rw [View.read_apply]
  refine Eq.trans ?_ ((h t j).trans (congrArg G (emb16 t j).symm))
  rfl

theorem at17 : ∀ t : Fin cfg0.N, win0_17.index t 0 = t.val ∧ win0_17.index t 1 = 0 :=
  (by decide +kernel : ∀ t : Fin grid0.N, win0_17.index t 0 = t.val ∧ win0_17.index t 1 = 0)

theorem emb17 (t : Fin cfg0.N) (j : S320x1024.Idx) : (((cfg0.win 17).blk t).view.emb j : S1920x1024.Idx) = ix2 (pos320_1920 t (j 0)) (j 1) := by
  funext a; apply Fin.ext
  match a with
  | ⟨0, _⟩ => show win0_17.index t 0 * 320 + 1 * (j 0).val = 320 * t.val + (j 0).val; rw [(at17 t).1]; omega
  | ⟨1, _⟩ => show win0_17.index t 1 * 1024 + 1 * (j 1).val = (j 1).val; rw [(at17 t).2]; omega

theorem cover17 (i : S1920x1024.Idx) : ∃ t : Fin cfg0.N, (cfg0.win 17).flush t = true ∧ i ∈ ((cfg0.win 17).blk t).view.set := by
  have hN : cfg0.N = 6 := N_0
  have h0 : (i 0 : Nat) < 1920 := (i 0).isLt
  have ht : (i 0).val / 320 < cfg0.N := by omega
  refine ⟨⟨(i 0).val / 320, ht⟩, flush0_17 _, ?_⟩
  have h := ((cfg0.win 17).blk ⟨(i 0).val / 320, ht⟩).view.emb_mem_set (ix2 ⟨(i 0).val % 320, Nat.mod_lt _ (by decide)⟩ (i 1))
  have e : (((cfg0.win 17).blk ⟨(i 0).val / 320, ht⟩).view.emb (ix2 ⟨(i 0).val % 320, Nat.mod_lt _ (by decide)⟩ (i 1)) : S1920x1024.Idx) = i := by
    rw [emb17]
    funext a; apply Fin.ext
    match a with
    | ⟨0, _⟩ => show 320 * ((i 0).val / 320) + (i 0).val % 320 = (i 0).val; omega
    | ⟨1, _⟩ => rfl
  rw [e] at h
  exact h

theorem final17 (G : Vec Ideal S1920x1024 .fp8e5m2) (h : ∀ (t : Fin cfg0.N) (j : S320x1024.Idx), ((dats m 0 c).after 17 t : Vec Ideal S320x1024 .fp8e5m2) j = G (ix2 (pos320_1920 t (j 0)) (j 1))) :
    (dats m 0 c).arrAt 17 cfg0.N = G := by
  refine (dats m 0 c).arrAt_eq_of_cover 17 G (fun t hf => ?_) cover17
  funext j
  rw [View.read_apply]
  refine Eq.trans ?_ ((h t j).trans (congrArg G (emb17 t j).symm))
  rfl

theorem at18 : ∀ t : Fin cfg0.N, win0_18.index t 0 = t.val ∧ win0_18.index t 1 = 0 :=
  (by decide +kernel : ∀ t : Fin grid0.N, win0_18.index t 0 = t.val ∧ win0_18.index t 1 = 0)

theorem emb18 (t : Fin cfg0.N) (j : S320x1024.Idx) : (((cfg0.win 18).blk t).view.emb j : S1920x1024.Idx) = ix2 (pos320_1920 t (j 0)) (j 1) := by
  funext a; apply Fin.ext
  match a with
  | ⟨0, _⟩ => show win0_18.index t 0 * 320 + 1 * (j 0).val = 320 * t.val + (j 0).val; rw [(at18 t).1]; omega
  | ⟨1, _⟩ => show win0_18.index t 1 * 1024 + 1 * (j 1).val = (j 1).val; rw [(at18 t).2]; omega

theorem cover18 (i : S1920x1024.Idx) : ∃ t : Fin cfg0.N, (cfg0.win 18).flush t = true ∧ i ∈ ((cfg0.win 18).blk t).view.set := by
  have hN : cfg0.N = 6 := N_0
  have h0 : (i 0 : Nat) < 1920 := (i 0).isLt
  have ht : (i 0).val / 320 < cfg0.N := by omega
  refine ⟨⟨(i 0).val / 320, ht⟩, flush0_18 _, ?_⟩
  have h := ((cfg0.win 18).blk ⟨(i 0).val / 320, ht⟩).view.emb_mem_set (ix2 ⟨(i 0).val % 320, Nat.mod_lt _ (by decide)⟩ (i 1))
  have e : (((cfg0.win 18).blk ⟨(i 0).val / 320, ht⟩).view.emb (ix2 ⟨(i 0).val % 320, Nat.mod_lt _ (by decide)⟩ (i 1)) : S1920x1024.Idx) = i := by
    rw [emb18]
    funext a; apply Fin.ext
    match a with
    | ⟨0, _⟩ => show 320 * ((i 0).val / 320) + (i 0).val % 320 = (i 0).val; omega
    | ⟨1, _⟩ => rfl
  rw [e] at h
  exact h

theorem final18 (G : Vec Ideal S1920x1024 .fp8e5m2) (h : ∀ (t : Fin cfg0.N) (j : S320x1024.Idx), ((dats m 0 c).after 18 t : Vec Ideal S320x1024 .fp8e5m2) j = G (ix2 (pos320_1920 t (j 0)) (j 1))) :
    (dats m 0 c).arrAt 18 cfg0.N = G := by
  refine (dats m 0 c).arrAt_eq_of_cover 18 G (fun t hf => ?_) cover18
  funext j
  rw [View.read_apply]
  refine Eq.trans ?_ ((h t j).trans (congrArg G (emb18 t j).symm))
  rfl

theorem at19 : ∀ t : Fin cfg0.N, win0_19.index t 0 = t.val ∧ win0_19.index t 1 = 0 :=
  (by decide +kernel : ∀ t : Fin grid0.N, win0_19.index t 0 = t.val ∧ win0_19.index t 1 = 0)

theorem emb19 (t : Fin cfg0.N) (j : S320x1024.Idx) : (((cfg0.win 19).blk t).view.emb j : S1920x1024.Idx) = ix2 (pos320_1920 t (j 0)) (j 1) := by
  funext a; apply Fin.ext
  match a with
  | ⟨0, _⟩ => show win0_19.index t 0 * 320 + 1 * (j 0).val = 320 * t.val + (j 0).val; rw [(at19 t).1]; omega
  | ⟨1, _⟩ => show win0_19.index t 1 * 1024 + 1 * (j 1).val = (j 1).val; rw [(at19 t).2]; omega

theorem cover19 (i : S1920x1024.Idx) : ∃ t : Fin cfg0.N, (cfg0.win 19).flush t = true ∧ i ∈ ((cfg0.win 19).blk t).view.set := by
  have hN : cfg0.N = 6 := N_0
  have h0 : (i 0 : Nat) < 1920 := (i 0).isLt
  have ht : (i 0).val / 320 < cfg0.N := by omega
  refine ⟨⟨(i 0).val / 320, ht⟩, flush0_19 _, ?_⟩
  have h := ((cfg0.win 19).blk ⟨(i 0).val / 320, ht⟩).view.emb_mem_set (ix2 ⟨(i 0).val % 320, Nat.mod_lt _ (by decide)⟩ (i 1))
  have e : (((cfg0.win 19).blk ⟨(i 0).val / 320, ht⟩).view.emb (ix2 ⟨(i 0).val % 320, Nat.mod_lt _ (by decide)⟩ (i 1)) : S1920x1024.Idx) = i := by
    rw [emb19]
    funext a; apply Fin.ext
    match a with
    | ⟨0, _⟩ => show 320 * ((i 0).val / 320) + (i 0).val % 320 = (i 0).val; omega
    | ⟨1, _⟩ => rfl
  rw [e] at h
  exact h

theorem final19 (G : Vec Ideal S1920x1024 .fp8e5m2) (h : ∀ (t : Fin cfg0.N) (j : S320x1024.Idx), ((dats m 0 c).after 19 t : Vec Ideal S320x1024 .fp8e5m2) j = G (ix2 (pos320_1920 t (j 0)) (j 1))) :
    (dats m 0 c).arrAt 19 cfg0.N = G := by
  refine (dats m 0 c).arrAt_eq_of_cover 19 G (fun t hf => ?_) cover19
  funext j
  rw [View.read_apply]
  refine Eq.trans ?_ ((h t j).trans (congrArg G (emb19 t j).symm))
  rfl

theorem at20 : ∀ (t : Fin cfg0.N) (a : Fin 2), win0_20.index t a = 0 :=
  (by decide +kernel : ∀ (t : Fin grid0.N) (a : Fin 2), win0_20.index t a = 0)

theorem cover20 (i : S1x1536.Idx) : ∃ t : Fin cfg0.N, (cfg0.win 20).flush t = true ∧ i ∈ ((cfg0.win 20).blk t).view.set := by
  have ht : 5 < cfg0.N := by decide
  refine ⟨⟨5, ht⟩, (flush0_20 _).mpr (show 5 % 6 = 5 from rfl), ?_⟩
  have h := ((cfg0.win 20).blk ⟨5, ht⟩).view.emb_mem_set i
  have e : (((cfg0.win 20).blk ⟨5, ht⟩).view.emb i : S1x1536.Idx) = i := by
    funext a; apply Fin.ext
    match a with
    | ⟨0, _⟩ => show win0_20.index _ 0 * 1 + 1 * (i 0).val = (i 0).val; rw [at20 _ 0]; omega
    | ⟨1, _⟩ => show win0_20.index _ 1 * 1536 + 1 * (i 1).val = (i 1).val; rw [at20 _ 1]; omega
  rw [e] at h
  exact h

theorem final20 (G : Vec Ideal S1x1536 .f32) (h : ∀ t : Fin cfg0.N, t.val = 5 → (dats m 0 c).after 20 t = G) : (dats m 0 c).arrAt 20 cfg0.N = G := by
  refine (dats m 0 c).arrAt_eq_of_cover 20 G (fun t hf => ?_) cover20
  have hN : cfg0.N = 6 := N_0
  have ht : t.val = 5 := by have := (flush0_20 t).mp hf; have := t.isLt; omega
  show (cfg0.win 20).cut (grid0.coords t) ((dats m 0 c).after 20 t) = _
  rw [h t ht]
  exact (Memref.read_access_unit_zero (Elt Ideal) main_v9_5 (off := fun a => win0_20.index t a * main_v9_5.ty.shape.size a) (funext fun a => by rw [at20 t a, Nat.zero_mul]) (fun a => by rw [at20 t a]; simp) _).symm

theorem at21 : ∀ (t : Fin cfg0.N) (a : Fin 2), win0_21.index t a = 0 :=
  (by decide +kernel : ∀ (t : Fin grid0.N) (a : Fin 2), win0_21.index t a = 0)

theorem cover21 (i : S1x1.Idx) : ∃ t : Fin cfg0.N, (cfg0.win 21).flush t = true ∧ i ∈ ((cfg0.win 21).blk t).view.set := by
  have ht : 5 < cfg0.N := by decide
  refine ⟨⟨5, ht⟩, (flush0_21 _).mpr (show 5 % 6 = 5 from rfl), ?_⟩
  have h := ((cfg0.win 21).blk ⟨5, ht⟩).view.emb_mem_set i
  have e : (((cfg0.win 21).blk ⟨5, ht⟩).view.emb i : S1x1.Idx) = i := by
    funext a; apply Fin.ext
    match a with
    | ⟨0, _⟩ => show win0_21.index _ 0 * 1 + 1 * (i 0).val = (i 0).val; rw [at21 _ 0]; omega
    | ⟨1, _⟩ => show win0_21.index _ 1 * 1 + 1 * (i 1).val = (i 1).val; rw [at21 _ 1]; omega
  rw [e] at h
  exact h

theorem final21 (G : Vec Ideal S1x1 .f32) (h : ∀ t : Fin cfg0.N, t.val = 5 → (dats m 0 c).after 21 t = G) : (dats m 0 c).arrAt 21 cfg0.N = G := by
  refine (dats m 0 c).arrAt_eq_of_cover 21 G (fun t hf => ?_) cover21
  have hN : cfg0.N = 6 := N_0
  have ht : t.val = 5 := by have := (flush0_21 t).mp hf; have := t.isLt; omega
  show (cfg0.win 21).cut (grid0.coords t) ((dats m 0 c).after 21 t) = _
  rw [h t ht]
  exact (Memref.read_access_unit_zero (Elt Ideal) main_v9_6 (off := fun a => win0_21.index t a * main_v9_6.ty.shape.size a) (funext fun a => by rw [at21 t a, Nat.zero_mul]) (fun a => by rw [at21 t a]; simp) _).symm

theorem at22 : ∀ (t : Fin cfg0.N) (a : Fin 2), win0_22.index t a = 0 :=
  (by decide +kernel : ∀ (t : Fin grid0.N) (a : Fin 2), win0_22.index t a = 0)

theorem cover22 (i : S1x1.Idx) : ∃ t : Fin cfg0.N, (cfg0.win 22).flush t = true ∧ i ∈ ((cfg0.win 22).blk t).view.set := by
  have ht : 5 < cfg0.N := by decide
  refine ⟨⟨5, ht⟩, (flush0_22 _).mpr (show 5 % 6 = 5 from rfl), ?_⟩
  have h := ((cfg0.win 22).blk ⟨5, ht⟩).view.emb_mem_set i
  have e : (((cfg0.win 22).blk ⟨5, ht⟩).view.emb i : S1x1.Idx) = i := by
    funext a; apply Fin.ext
    match a with
    | ⟨0, _⟩ => show win0_22.index _ 0 * 1 + 1 * (i 0).val = (i 0).val; rw [at22 _ 0]; omega
    | ⟨1, _⟩ => show win0_22.index _ 1 * 1 + 1 * (i 1).val = (i 1).val; rw [at22 _ 1]; omega
  rw [e] at h
  exact h

theorem final22 (G : Vec Ideal S1x1 .f32) (h : ∀ t : Fin cfg0.N, t.val = 5 → (dats m 0 c).after 22 t = G) : (dats m 0 c).arrAt 22 cfg0.N = G := by
  refine (dats m 0 c).arrAt_eq_of_cover 22 G (fun t hf => ?_) cover22
  have hN : cfg0.N = 6 := N_0
  have ht : t.val = 5 := by have := (flush0_22 t).mp hf; have := t.isLt; omega
  show (cfg0.win 22).cut (grid0.coords t) ((dats m 0 c).after 22 t) = _
  rw [h t ht]
  exact (Memref.read_access_unit_zero (Elt Ideal) main_v9_7 (off := fun a => win0_22.index t a * main_v9_7.ty.shape.size a) (funext fun a => by rw [at22 t a, Nat.zero_mul]) (fun a => by rw [at22 t a]; simp) _).symm

theorem at23 : ∀ (t : Fin cfg0.N) (a : Fin 2), win0_23.index t a = 0 :=
  (by decide +kernel : ∀ (t : Fin grid0.N) (a : Fin 2), win0_23.index t a = 0)

theorem cover23 (i : S1x1.Idx) : ∃ t : Fin cfg0.N, (cfg0.win 23).flush t = true ∧ i ∈ ((cfg0.win 23).blk t).view.set := by
  have ht : 5 < cfg0.N := by decide
  refine ⟨⟨5, ht⟩, (flush0_23 _).mpr (show 5 % 6 = 5 from rfl), ?_⟩
  have h := ((cfg0.win 23).blk ⟨5, ht⟩).view.emb_mem_set i
  have e : (((cfg0.win 23).blk ⟨5, ht⟩).view.emb i : S1x1.Idx) = i := by
    funext a; apply Fin.ext
    match a with
    | ⟨0, _⟩ => show win0_23.index _ 0 * 1 + 1 * (i 0).val = (i 0).val; rw [at23 _ 0]; omega
    | ⟨1, _⟩ => show win0_23.index _ 1 * 1 + 1 * (i 1).val = (i 1).val; rw [at23 _ 1]; omega
  rw [e] at h
  exact h

theorem final23 (G : Vec Ideal S1x1 .f32) (h : ∀ t : Fin cfg0.N, t.val = 5 → (dats m 0 c).after 23 t = G) : (dats m 0 c).arrAt 23 cfg0.N = G := by
  refine (dats m 0 c).arrAt_eq_of_cover 23 G (fun t hf => ?_) cover23
  have hN : cfg0.N = 6 := N_0
  have ht : t.val = 5 := by have := (flush0_23 t).mp hf; have := t.isLt; omega
  show (cfg0.win 23).cut (grid0.coords t) ((dats m 0 c).after 23 t) = _
  rw [h t ht]
  exact (Memref.read_access_unit_zero (Elt Ideal) main_v9_8 (off := fun a => win0_23.index t a * main_v9_8.ty.shape.size a) (funext fun a => by rw [at23 t a, Nat.zero_mul]) (fun a => by rw [at23 t a]; simp) _).symm

end Cert.KDxIdeal.Read

end
-- ==== Proof.KDxIdealBody.lean ====
/-
  What one run of the input gradient kernel's body leaves in each output block and in the running sum, as the named values of
  what it read: at the first point (A) and at the later ones (B).
-/
module

public import proofs.«01_k».proof.Defs
public import proofs.«01_k».proof.Proof.KDxIdealRead
public import Idealize.ShloMosaic.Lib.Tactic

@[expose] public section

set_option maxRecDepth 16384

noncomputable section

open Idealize.ShloMosaic Idealize.ShloMosaic.TcCoe Idealize.SL.Sem

namespace Cert.KDxIdeal.Read

open Cert.KDxIdeal Cert.KDxIdeal.Gen Cert.Common

/-- The word a load of a one-word array reads. -/
def sc (x : Vec Ideal S1 .f32) : Elt Ideal .f32 := View.ld x (Rect.unit (s := S1) ![0] S1.size inb_S1_S1_0) (Shape.Idx.first (by decide))

theorem sc_eq (x : Vec Ideal S1 .f32) : sc x = x (ix1 0) := one x _

variable (c : Dev nD) (i : grid0.Coords)
  (a1 : Memref sig .tc .smem S1 .f32) (h1 : a1.IsWhole) (a2 : Memref sig .tc .smem S1 .f32) (h2 : a2.IsWhole) (a3 : Memref sig .tc .smem S1 .f32) (h3 : a3.IsWhole) (a4 : Memref sig .tc .smem S1 .f32) (h4 : a4.IsWhole)
  (a5 : Memref sig .tc .smem S1 .f32) (h5 : a5.IsWhole) (a6 : Memref sig .tc .smem S1 .f32) (h6 : a6.IsWhole) (a7 : Memref sig .tc .vmem S320x1024 .f32) (h7 : a7.IsWhole) (a8 : Memref sig .tc .vmem S320x1024 .f32) (h8 : a8.IsWhole)
  (a9 : Memref sig .tc .vmem S320x1024 .f32) (h9 : a9.IsWhole) (a10 : Memref sig .tc .vmem S1536x1024 .fp8e4m3) (h10 : a10.IsWhole) (a11 : Memref sig .tc .vmem S1536x1024 .fp8e4m3) (h11 : a11.IsWhole) (a12 : Memref sig .tc .vmem S1536x1024 .fp8e4m3) (h12 : a12.IsWhole)
  (a13 : Memref sig .tc .vmem S320x1536 .bf16) (h13 : a13.IsWhole) (a14 : Memref sig .tc .vmem S320x1536 .bf16) (h14 : a14.IsWhole) (a15 : Memref sig .tc .vmem S1x1536 .f32) (h15 : a15.IsWhole) (a16 : Memref sig .tc .vmem S320x1536 .bf16) (h16 : a16.IsWhole)
  (a17 : Memref sig .tc .vmem S320x1536 .bf16) (h17 : a17.IsWhole) (a18 : Memref sig .tc .vmem S320x1024 .fp8e5m2) (h18 : a18.IsWhole) (a19 : Memref sig .tc .vmem S320x1024 .fp8e5m2) (h19 : a19.IsWhole) (a20 : Memref sig .tc .vmem S320x1024 .fp8e5m2) (h20 : a20.IsWhole)
  (a21 : Memref sig .tc .vmem S1x1536 .f32) (h21 : a21.IsWhole) (a22 : Memref sig .tc .vmem S1x1 .f32) (h22 : a22.IsWhole) (a23 : Memref sig .tc .vmem S1x1 .f32) (h23 : a23.IsWhole) (a24 : Memref sig .tc .vmem S1x1 .f32) (h24 : a24.IsWhole)
  (x0 : Vec Ideal S1 .f32) (x1 : Vec Ideal S1 .f32) (x2 : Vec Ideal S1 .f32) (x3 : Vec Ideal S1 .f32) (x4 : Vec Ideal S1 .f32) (x5 : Vec Ideal S1 .f32) (x6 : Vec Ideal S320x1024 .f32) (x7 : Vec Ideal S320x1024 .f32) (x8 : Vec Ideal S320x1024 .f32) (x9 : Vec Ideal S1536x1024 .fp8e4m3) (x10 : Vec Ideal S1536x1024 .fp8e4m3) (x11 : Vec Ideal S1536x1024 .fp8e4m3) (x12 : Vec Ideal S320x1536 .bf16) (x13 : Vec Ideal S320x1536 .bf16) (x14 : Vec Ideal S1x1536 .f32)

theorem left_A_15 (hc0 : cond0_0 i)  :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay1 (k0_pay16 x12) (k0_pay17 x12) (k0_pay19 (k0_pay10 (k0_pay5 x6 (sc x3) x9 (sc x0)) x7 (k0_pay6 (sc x4)) (k0_pay7 (sc x4)) (Scalar.ofBits .f32 0x47600000#32) x10 (sc x1)) (k0_pay11 (sc x5)) (k0_pay12 x8 (sc x5)) x11 (sc x2) x14) x13 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_16 (hc0 : cond0_0 i)  :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay14 (k0_pay10 (k0_pay5 x6 (sc x3) x9 (sc x0)) x7 (k0_pay6 (sc x4)) (k0_pay7 (sc x4)) (Scalar.ofBits .f32 0x47600000#32) x10 (sc x1)) (k0_pay11 (sc x5)) (k0_pay12 x8 (sc x5)) x11 (sc x2) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_17 (hc0 : cond0_0 i)  :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay4 x6 (sc x3) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_18 (hc0 : cond0_0 i)  :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay9 x7 (k0_pay6 (sc x4)) (k0_pay7 (sc x4)) (Scalar.ofBits .f32 0x47600000#32) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_19 (hc0 : cond0_0 i)  :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay12 x8 (sc x5) := by
  unfold out0_A_19
  rw [View.read_writes_eq_canon _ _ _ (cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_20 (hc0 : cond0_0 i)  :
    out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay18 (k0_pay10 (k0_pay5 x6 (sc x3) x9 (sc x0)) x7 (k0_pay6 (sc x4)) (k0_pay7 (sc x4)) (Scalar.ofBits .f32 0x47600000#32) x10 (sc x1)) (k0_pay11 (sc x5)) (k0_pay12 x8 (sc x5)) x11 (sc x2) x12 (k0_pay2 (F := Ideal)) := by
  unfold out0_A_20
  rw [View.read_writes_eq_canon _ _ _ (cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_21 (hc0 : cond0_0 i)  :
    out0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay3 (sc x3) := by
  unfold out0_A_21
  rw [View.read_writes_eq_canon _ _ _ (cover0_A_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_22 (hc0 : cond0_0 i)  :
    out0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay8 (k0_pay6 (sc x4)) (k0_pay7 (sc x4)) (Scalar.ofBits .f32 0x47600000#32) := by
  unfold out0_A_22
  rw [View.read_writes_eq_canon _ _ _ (cover0_A_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_A_23 (hc0 : cond0_0 i)  :
    out0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14  = k0_pay11 (sc x5) := by
  unfold out0_A_23
  rw [View.read_writes_eq_canon _ _ _ (cover0_A_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_15 (hc0 : ¬cond0_0 i) (s0 : Vec Ideal S1x1536 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay1 (k0_pay16 x12) (k0_pay17 x12) (k0_pay19 (k0_pay10 (k0_pay5 x6 (sc x3) x9 (sc x0)) x7 (k0_pay6 (sc x4)) (k0_pay7 (sc x4)) (Scalar.ofBits .f32 0x47600000#32) x10 (sc x1)) (k0_pay11 (sc x5)) (k0_pay12 x8 (sc x5)) x11 (sc x2) x14) x13 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_16 (hc0 : ¬cond0_0 i) (s0 : Vec Ideal S1x1536 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay14 (k0_pay10 (k0_pay5 x6 (sc x3) x9 (sc x0)) x7 (k0_pay6 (sc x4)) (k0_pay7 (sc x4)) (Scalar.ofBits .f32 0x47600000#32) x10 (sc x1)) (k0_pay11 (sc x5)) (k0_pay12 x8 (sc x5)) x11 (sc x2) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_17 (hc0 : ¬cond0_0 i) (s0 : Vec Ideal S1x1536 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay4 x6 (sc x3) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_18 (hc0 : ¬cond0_0 i) (s0 : Vec Ideal S1x1536 .f32) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay9 x7 (k0_pay6 (sc x4)) (k0_pay7 (sc x4)) (Scalar.ofBits .f32 0x47600000#32) := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_19 (hc0 : ¬cond0_0 i) (s0 : Vec Ideal S1x1536 .f32) :
    out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay12 x8 (sc x5) := by
  unfold out0_B_19
  rw [View.read_writes_eq_canon _ _ _ (cover0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_20 (hc0 : ¬cond0_0 i) (s0 : Vec Ideal S1x1536 .f32) :
    out0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay18 (k0_pay10 (k0_pay5 x6 (sc x3) x9 (sc x0)) x7 (k0_pay6 (sc x4)) (k0_pay7 (sc x4)) (Scalar.ofBits .f32 0x47600000#32) x10 (sc x1)) (k0_pay11 (sc x5)) (k0_pay12 x8 (sc x5)) x11 (sc x2) x12 s0 := by
  unfold out0_B_20
  rw [View.read_writes_eq_canon _ _ _ (cover0_B_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_21 (hc0 : ¬cond0_0 i) (s0 : Vec Ideal S1x1536 .f32) :
    out0_B_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay3 (sc x3) := by
  unfold out0_B_21
  rw [View.read_writes_eq_canon _ _ _ (cover0_B_21 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_22 (hc0 : ¬cond0_0 i) (s0 : Vec Ideal S1x1536 .f32) :
    out0_B_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay8 (k0_pay6 (sc x4)) (k0_pay7 (sc x4)) (Scalar.ofBits .f32 0x47600000#32) := by
  unfold out0_B_22
  rw [View.read_writes_eq_canon _ _ _ (cover0_B_22 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

theorem left_B_23 (hc0 : ¬cond0_0 i) (s0 : Vec Ideal S1x1536 .f32) :
    out0_B_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0 = k0_pay11 (sc x5) := by
  unfold out0_B_23
  rw [View.read_writes_eq_canon _ _ _ (cover0_B_23 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 hc0 x0 x1 x2 x3 x4 x5 x6 x7 x8 x9 x10 x11 x12 x13 x14 s0)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, h24.read_unread, View.ld_unit_zero (S := S320x1024) hz, View.ld_unit_zero (S := S1536x1024) hz, View.ld_unit_zero (S := S320x1536) hz, View.ld_unit_zero (S := S1x1536) hz, View.ld_unit_zero (S := S1x1) hz, View.readCov_unit_zero (S := S1x1536) _ hz] <;> rfl

end Cert.KDxIdeal.Read

end
-- ==== Proof.Norm.lean ====
/-
  The root mean square normalisation over the extended reals: the two constants the programs spell, and that the kernel's
  `rsqrt (s · (1/1536) + ε)` is the reference's `1 / sqrt (s / 1536 + ε)` for a sum of squares `s`.
-/
module

public import Idealize.ShloMosaic.PureOps.IdealRules
public import Idealize.ShloMosaic.PureOps.Ideal

@[expose] public section

noncomputable section

namespace Cert.Norm

open Idealize.ShloMosaic
open scoped BigOperators

/-- `1.0` denotes `1`. -/
theorem bits_one : Ideal.ofBits .f32 0x3F800000#32 = 1 := by
  simp [Ideal.ofBits, Ideal.ieee, -EReal.coe_mul] <;> norm_num

/-- `+0.0` denotes `0`. -/
theorem bits_zero : Ideal.ofBits .f32 0x00000000#32 = 0 := by
  simp [Ideal.ofBits, Ideal.ieee]

/-- `-∞` denotes the bottom element. -/
theorem bits_bot : Ideal.ofBits .f32 0xFF800000#32 = ⊥ := by
  simp [Ideal.ofBits, Ideal.ieee]

/-- `1536.0` denotes the real `1536`. -/
theorem bits_1536 : Ideal.ofBits .f32 0x44C00000#32 = ((1536 : ℝ) : EReal) := by
  simp [Ideal.ofBits, Ideal.ieee, -EReal.coe_mul]; norm_num

/-- The `ε` under the root. -/
def eps : EReal := Ideal.ofBits .f32 0x358637BD#32

/-- `ε` is not negative. -/
theorem eps_nonneg : 0 ≤ eps := by
  unfold eps
  simp [Ideal.ofBits, Ideal.ieee, -EReal.coe_mul]

/-- A square is not negative. -/
theorem sq_nonneg (x : EReal) : 0 ≤ x * x := by
  rcases le_total 0 x with h | h
  · exact mul_nonneg h h
  · exact EReal.mul_nonneg_iff.mpr (Or.inr ⟨h, h⟩)

/-- An absolute value is not negative. -/
theorem abs_nonneg (x : EReal) : 0 ≤ max x (-x) := by
  rcases le_total 0 x with h | h
  · exact le_max_of_le_left h
  · exact le_max_of_le_right (by simpa using EReal.neg_le_neg_iff.mpr h)

/-- `1 / sqrt y` is `rsqrt y` where `y` is not negative. -/
theorem inv_sqrt (y : EReal) (h : 0 ≤ y) : Ideal.div 1 (Ideal.sqrt y) = Ideal.rsqrt y := by
  induction y using EReal.rec with
  | bot => simp at h
  | top => rw [Ideal.sqrt_top, Ideal.rsqrt_top, Ideal.div, if_neg EReal.top_ne_zero, EReal.inv_top, mul_zero]
  | coe r =>
    have hr : 0 ≤ r := EReal.coe_nonneg.mp h
    rw [Ideal.sqrt_coe, Ideal.rsqrt_coe, if_neg (not_lt.mpr hr), if_neg (not_lt.mpr hr)]
    by_cases h0 : r = 0
    · subst h0
      rw [if_pos rfl, Real.sqrt_zero, EReal.coe_zero, Ideal.div, if_pos rfl, if_pos zero_lt_one]
    · rw [if_neg h0]
      have hs : Real.sqrt r ≠ 0 := fun e => h0 ((Real.sqrt_eq_zero hr).mp e)
      rw [Ideal.div, if_neg (by exact_mod_cast hs), one_mul, ← EReal.coe_inv]

/-- The scale of a row: the reciprocal of the root of the mean of its squares, plus `ε`. -/
def scale {n : ℕ} (r : Fin n → EReal) : EReal := Ideal.rsqrt ((∑ k, r k * r k) * ((1 / 1536 : ℝ) : EReal) + eps)

/-- The reference's quotient by 1536 is the product with `1/1536`. -/
theorem mean (s : EReal) : Ideal.div s (Ideal.ofBits .f32 0x44C00000#32) = s * ((1 / 1536 : ℝ) : EReal) := by
  rw [bits_1536]; exact Ideal.div_coe (by norm_num : (1536 : ℝ) ≠ 0) s

/-- The reference's spelling of the scale of a row. -/
theorem scale_ref {n : ℕ} (r : Fin n → EReal) :
    Ideal.div 1 (Ideal.sqrt (Ideal.div (∑ k, r k * r k) (Ideal.ofBits .f32 0x44C00000#32) + Ideal.ofBits .f32 0x358637BD#32)) = scale r := by
  rw [mean]
  refine inv_sqrt _ (add_nonneg (mul_nonneg (Finset.sum_nonneg fun k _ => sq_nonneg _) ?_) eps_nonneg)
  exact EReal.coe_nonneg.mpr (by norm_num)

/-- Two maxima of absolute values, taken from `⊥` and in any order, agree if they range over the same values. -/
theorem max_ext {a b : EReal} (h : ∀ u, a ≤ u ↔ b ≤ u) : a = b :=
  le_antisymm ((h b).mpr le_rfl) ((h a).mp le_rfl)

end Cert.Norm

end
-- ==== Proof.DxForm.lean ====
/-
  The input gradient as formulas of one row, and the results of the call as formulas of the argument arrays.
-/
module

public import proofs.«01_k».proof.Defs

public import proofs.«01_k».proof.Proof.Norm
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Dx

open Cert.Norm

/-- The scale of a gradient whose largest magnitude is `a`. -/
def qs (a : EReal) : EReal := if 0 < a then Ideal.div a (Ideal.ofBits .f32 0x47600000#32) else 1

/-- The code of an element `x` under that scale. -/
def code (x a : EReal) : EReal := min (Ideal.ofBits .f32 0x47600000#32) (max (Ideal.ofBits .f32 0xC7600000#32) (Ideal.div x (qs a)))

/-- One projection's part of a row of the gradient, from the row of codes and the weight. -/
def back (g : Fin 1024 → EReal) (a s : EReal) (w : Vec Ideal ⟨2, ![1536, 1024]⟩ .fp8e4m3) (d : Fin 1536) : EReal :=
  (∑ k : Fin 1024, code (g k) a * w (ix2 d k)) * qs a * s

/-- The gradient of a row of the normalised input. -/
def dxn (gq gk gv : Fin 1024 → EReal) (aq ak av sq sk sv : EReal) (wq wk wv : Vec Ideal ⟨2, ![1536, 1024]⟩ .fp8e4m3) (d : Fin 1536) : EReal :=
  back gq aq sq wq d + back gk ak sk wk d + back gv av sv wv d

/-- A row over its root mean square. -/
def xhat (x : Fin 1536 → EReal) (d : Fin 1536) : EReal := x d * scale x

/-- The gradient of a row of the input. -/
def dxr (x y n g : Fin 1536 → EReal) (d : Fin 1536) : EReal :=
  y d + scale x * (g d * n d - xhat x d * Ideal.div (∑ k, g k * n k * xhat x k) (Ideal.ofBits .f32 0x44C00000#32))

/-- The argument arrays, laid out as matrices of 1920 rows. -/
@[ext] structure Args where
  gq : Vec Ideal ⟨2, ![1920, 1024]⟩ .f32
  gk : Vec Ideal ⟨2, ![1920, 1024]⟩ .f32
  gv : Vec Ideal ⟨2, ![1920, 1024]⟩ .f32
  aq : EReal
  ak : EReal
  av : EReal
  sq : EReal
  sk : EReal
  sv : EReal
  wq : Vec Ideal ⟨2, ![1536, 1024]⟩ .fp8e4m3
  wk : Vec Ideal ⟨2, ![1536, 1024]⟩ .fp8e4m3
  wv : Vec Ideal ⟨2, ![1536, 1024]⟩ .fp8e4m3
  x : Vec Ideal ⟨2, ![1920, 1536]⟩ .bf16
  y : Vec Ideal ⟨2, ![1920, 1536]⟩ .bf16
  n : Vec Ideal ⟨2, ![1, 1536]⟩ .f32

/-- Row `i` of the gradient of the normalised input. -/
def Args.g (A : Args) (i : Fin 1920) : Fin 1536 → EReal :=
  dxn (fun k => A.gq (ix2 i k)) (fun k => A.gk (ix2 i k)) (fun k => A.gv (ix2 i k)) A.aq A.ak A.av A.sq A.sk A.sv A.wq A.wk A.wv

/-- The gradient of the normalised input. -/
def Args.dxn (A : Args) : Vec Ideal ⟨2, ![1920, 1536]⟩ .bf16 := fun j => A.g (j 0) (j 1)

/-- The gradient of the input. -/
def Args.dx (A : Args) : Vec Ideal ⟨2, ![1920, 1536]⟩ .bf16 := fun j =>
  dxr (fun k => A.x (ix2 (j 0) k)) (fun k => A.y (ix2 (j 0) k)) (fun k => A.n (ix2 0 k)) (A.g (j 0)) (j 1)

/-- Row `i`'s term of the gradient of the norm's weight. -/
def Args.dn (A : Args) (i : Fin 1920) (d : Fin 1536) : EReal := A.g i d * xhat (fun k => A.x (ix2 i k)) d

/-- The gradient of the norm's weight. -/
def Args.dnorm (A : Args) : Vec Ideal ⟨2, ![1, 1536]⟩ .f32 := fun j => ∑ i : Fin 1920, A.dn i (j 1)

/-- The codes of a gradient. -/
def codes (g : Vec Ideal ⟨2, ![1920, 1024]⟩ .f32) (a : EReal) : Vec Ideal ⟨2, ![1920, 1024]⟩ .fp8e5m2 := fun j => code (g j) a

/-- The scale of a gradient, as an array of one word. -/
def qscale (a : EReal) : Vec Ideal ⟨2, ![1, 1]⟩ .f32 := fun _ => qs a

end Cert.Dx

end
-- ==== Proof.DxKernel.lean ====
/-
  The kernel of the input gradient: its results as the formulas of the argument arrays.
-/
module

public import proofs.«01_k».proof.Defs
public import proofs.«01_k».proof.Proof.KDxIdealBody
public import proofs.«01_k».proof.Proof.DxForm
public import proofs.«01_k».proof.Proof.Norm
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KDxIdeal.Read

open Cert.KDxIdeal Cert.KDxIdeal.Gen Cert.Common Cert.Norm Cert.Dx

theorem qs3 (a : Elt Ideal .f32) (j : S1x1.Idx) : k0_pay3 (F := Ideal) a j = qs a := by
  idx_vars j
  pointwise [k0_pay3, qs]

theorem qs8 (a : Elt Ideal .f32) (j : S1x1.Idx) : k0_pay8 (F := Ideal) (k0_pay6 a) (k0_pay7 a) (Scalar.ofBits .f32 0x47600000#32) j = qs a := by
  idx_vars j
  pointwise [k0_pay8, k0_pay6, k0_pay7, qs]

theorem qs11 (a : Elt Ideal .f32) (j : S1x1.Idx) : k0_pay11 (F := Ideal) a j = qs a := by
  idx_vars j
  pointwise [k0_pay11, qs]

theorem code4 (x : Vec Ideal S320x1024 .f32) (a : Elt Ideal .f32) (j : S320x1024.Idx) : k0_pay4 (F := Ideal) x a j = code (x j) a := by
  idx_vars j
  pointwise [k0_pay4]
  rw [qs3]; rfl

theorem code9 (x : Vec Ideal S320x1024 .f32) (a : Elt Ideal .f32) (j : S320x1024.Idx) :
    k0_pay9 (F := Ideal) x (k0_pay6 a) (k0_pay7 a) (Scalar.ofBits .f32 0x47600000#32) j = code (x j) a := by
  unfold k0_pay9
  generalize hq : k0_pay8 (F := Ideal) (k0_pay6 a) (k0_pay7 a) (Scalar.ofBits .f32 0x47600000#32) = q
  idx_vars j
  pointwise []
  rw [← hq, qs8]; rfl

theorem code12 (x : Vec Ideal S320x1024 .f32) (a : Elt Ideal .f32) (j : S320x1024.Idx) : k0_pay12 (F := Ideal) x a j = code (x j) a := by
  idx_vars j
  pointwise [k0_pay12]
  rw [qs11]; rfl

/-- The first projection's part. -/
theorem pay5 (x : Vec Ideal S320x1024 .f32) (a s : Elt Ideal .f32) (w : Vec Ideal S1536x1024 .fp8e4m3) (i : Fin 320) (d : Fin 1536) :
    k0_pay5 (F := Ideal) x a w s (ix2 i d) = back (fun k => x (ix2 i k)) a s w d := by
  pointwise [k0_pay5]
  simp only [qs3, code4]; rfl

/-- With the second projection's part. -/
theorem pay10 (v : Vec Ideal S320x1536 .f32) (x : Vec Ideal S320x1024 .f32) (a s : Elt Ideal .f32) (w : Vec Ideal S1536x1024 .fp8e4m3) (i : Fin 320) (d : Fin 1536) :
    k0_pay10 (F := Ideal) v x (k0_pay6 a) (k0_pay7 a) (Scalar.ofBits .f32 0x47600000#32) w s (ix2 i d) = v (ix2 i d) + back (fun k => x (ix2 i k)) a s w d := by
  unfold k0_pay10
  generalize hq : k0_pay8 (F := Ideal) (k0_pay6 a) (k0_pay7 a) (Scalar.ofBits .f32 0x47600000#32) = q
  generalize hp : k0_pay9 (F := Ideal) x (k0_pay6 a) (k0_pay7 a) (Scalar.ofBits .f32 0x47600000#32) = p
  pointwise []
  rw [← hq, qs8, ← hp]; simp only [code9]; rfl

/-- The gradient of the normalised input, before its rounding. -/
theorem pay13 (x6 x7 x8 : Vec Ideal S320x1024 .f32) (a3 a4 a5 s0 s1 s2 : Elt Ideal .f32) (w9 w10 w11 : Vec Ideal S1536x1024 .fp8e4m3) (i : Fin 320) (d : Fin 1536) :
    k0_pay13 (F := Ideal) (k0_pay10 (k0_pay5 x6 a3 w9 s0) x7 (k0_pay6 a4) (k0_pay7 a4) (Scalar.ofBits .f32 0x47600000#32) w10 s1) (k0_pay11 a5) (k0_pay12 x8 a5) w11 s2 (ix2 i d) = dxn (fun k => x6 (ix2 i k)) (fun k => x7 (ix2 i k)) (fun k => x8 (ix2 i k)) a3 a4 a5 s0 s1 s2 w9 w10 w11 d := by
  unfold k0_pay13
  generalize hv : k0_pay10 (F := Ideal) (k0_pay5 x6 a3 w9 s0) x7 (k0_pay6 a4) (k0_pay7 a4) (Scalar.ofBits .f32 0x47600000#32) w10 s1 = v
  pointwise []
  rw [← hv, pay10, pay5]; simp only [qs11, code12]; rfl

theorem pay14 (x6 x7 x8 : Vec Ideal S320x1024 .f32) (a3 a4 a5 s0 s1 s2 : Elt Ideal .f32) (w9 w10 w11 : Vec Ideal S1536x1024 .fp8e4m3) (i : Fin 320) (d : Fin 1536) :
    k0_pay14 (F := Ideal) (k0_pay10 (k0_pay5 x6 a3 w9 s0) x7 (k0_pay6 a4) (k0_pay7 a4) (Scalar.ofBits .f32 0x47600000#32) w10 s1) (k0_pay11 a5) (k0_pay12 x8 a5) w11 s2 (ix2 i d) = dxn (fun k => x6 (ix2 i k)) (fun k => x7 (ix2 i k)) (fun k => x8 (ix2 i k)) a3 a4 a5 s0 s1 s2 w9 w10 w11 d := by
  unfold k0_pay14
  exact pay13 x6 x7 x8 a3 a4 a5 s0 s1 s2 w9 w10 w11 i d

/-- The scale of a row. -/
theorem pay16 (x12 : Vec Ideal S320x1536 .bf16) (i : Fin 320) (d : Fin 1) : k0_pay16 (F := Ideal) x12 (ix2 i d) = scale (fun k => x12 (ix2 i k)) := by
  pointwise [k0_pay16, k0_pay15]
  rw [show Named.named (F := Ideal) Cert.KDxIdeal.κ "inv_d" (φ := .f32) 0x3A2AAAAB#32 = ((1/1536 : ℝ) : EReal) from IdealRules.named_const.ideal_named_scalar _ _ _ _ rfl]
  rfl

theorem pay17 (x12 : Vec Ideal S320x1536 .bf16) (i : Fin 320) (d : Fin 1536) : k0_pay17 (F := Ideal) x12 (ix2 i d) = xhat (fun k => x12 (ix2 i k)) d := by
  pointwise [k0_pay17, k0_pay15]
  rw [pay16]; rfl

/-- The gradient of the normed row. -/
theorem pay19 (x6 x7 x8 : Vec Ideal S320x1024 .f32) (a3 a4 a5 s0 s1 s2 : Elt Ideal .f32) (w9 w10 w11 : Vec Ideal S1536x1024 .fp8e4m3) (n : Vec Ideal S1x1536 .f32) (i : Fin 320) (d : Fin 1536) :
    k0_pay19 (F := Ideal) (k0_pay10 (k0_pay5 x6 a3 w9 s0) x7 (k0_pay6 a4) (k0_pay7 a4) (Scalar.ofBits .f32 0x47600000#32) w10 s1) (k0_pay11 a5) (k0_pay12 x8 a5) w11 s2 n (ix2 i d) = dxn (fun k => x6 (ix2 i k)) (fun k => x7 (ix2 i k)) (fun k => x8 (ix2 i k)) a3 a4 a5 s0 s1 s2 w9 w10 w11 d * n (ix2 0 d) := by
  unfold k0_pay19
  generalize hv : k0_pay13 (F := Ideal) (k0_pay10 (k0_pay5 x6 a3 w9 s0) x7 (k0_pay6 a4) (k0_pay7 a4) (Scalar.ofBits .f32 0x47600000#32) w10 s1) (k0_pay11 a5) (k0_pay12 x8 a5) w11 s2 = v
  pointwise []
  rw [← hv, pay13]

/-- The gradient of the input. -/
theorem pay1 (x6 x7 x8 : Vec Ideal S320x1024 .f32) (a3 a4 a5 s0 s1 s2 : Elt Ideal .f32) (w9 w10 w11 : Vec Ideal S1536x1024 .fp8e4m3) (x12 : Vec Ideal S320x1536 .bf16) (x13 : Vec Ideal S320x1536 .bf16) (n : Vec Ideal S1x1536 .f32) (i : Fin 320) (d : Fin 1536) :
    k0_pay1 (F := Ideal) (k0_pay16 x12) (k0_pay17 x12) (k0_pay19 (k0_pay10 (k0_pay5 x6 a3 w9 s0) x7 (k0_pay6 a4) (k0_pay7 a4) (Scalar.ofBits .f32 0x47600000#32) w10 s1) (k0_pay11 a5) (k0_pay12 x8 a5) w11 s2 n) x13 (ix2 i d)
      = dxr (fun k => x12 (ix2 i k)) (fun k => x13 (ix2 i k)) (fun k => n (ix2 0 k)) (dxn (fun k => x6 (ix2 i k)) (fun k => x7 (ix2 i k)) (fun k => x8 (ix2 i k)) a3 a4 a5 s0 s1 s2 w9 w10 w11) d := by
  generalize hv : k0_pay19 (F := Ideal) (k0_pay10 (k0_pay5 x6 a3 w9 s0) x7 (k0_pay6 a4) (k0_pay7 a4) (Scalar.ofBits .f32 0x47600000#32) w10 s1) (k0_pay11 a5) (k0_pay12 x8 a5) w11 s2 n = v
  pointwise [k0_pay1]
  rw [← hv]; simp only [pay16, pay17, pay19]; rfl

/-- The terms of the norm's weight's gradient a block of rows adds. -/
theorem pay18 (x6 x7 x8 : Vec Ideal S320x1024 .f32) (a3 a4 a5 s0 s1 s2 : Elt Ideal .f32) (w9 w10 w11 : Vec Ideal S1536x1024 .fp8e4m3) (x12 : Vec Ideal S320x1536 .bf16) (v : Vec Ideal S1x1536 .f32) (o : Fin 1) (d : Fin 1536) :
    k0_pay18 (F := Ideal) (k0_pay10 (k0_pay5 x6 a3 w9 s0) x7 (k0_pay6 a4) (k0_pay7 a4) (Scalar.ofBits .f32 0x47600000#32) w10 s1) (k0_pay11 a5) (k0_pay12 x8 a5) w11 s2 x12 v (ix2 o d) = v (ix2 o d) + ∑ i : Fin 320, dxn (fun k => x6 (ix2 i k)) (fun k => x7 (ix2 i k)) (fun k => x8 (ix2 i k)) a3 a4 a5 s0 s1 s2 w9 w10 w11 d * xhat (fun k => x12 (ix2 i k)) d := by
  unfold k0_pay18
  generalize hv : k0_pay13 (F := Ideal) (k0_pay10 (k0_pay5 x6 a3 w9 s0) x7 (k0_pay6 a4) (k0_pay7 a4) (Scalar.ofBits .f32 0x47600000#32) w10 s1) (k0_pay11 a5) (k0_pay12 x8 a5) w11 s2 = w
  pointwise []
  rw [← hv]; simp only [pay13, pay17]

theorem pay2 (o : Fin 1) (d : Fin 1536) : k0_pay2 (F := Ideal) (ix2 o d) = 0 := by
  pointwise [k0_pay2]

variable (m : (ℓ : Loc nD τ sig) → Buf (Elt Ideal) ℓ) (c : Dev nD)

/-- The argument arrays as the region finds them. -/
def args : Args where
  gq := V m c main_arg8
  gk := V m c main_arg9
  gv := V m c main_arg10
  aq := (V m c main_v6 : Vec Ideal S1 .f32) (ix1 0)
  ak := (V m c main_v7 : Vec Ideal S1 .f32) (ix1 0)
  av := (V m c main_v8 : Vec Ideal S1 .f32) (ix1 0)
  sq := (V m c main_v3 : Vec Ideal S1 .f32) (ix1 0)
  sk := (V m c main_v4 : Vec Ideal S1 .f32) (ix1 0)
  sv := (V m c main_v5 : Vec Ideal S1 .f32) (ix1 0)
  wq := V m c main_arg2
  wk := V m c main_arg3
  wv := V m c main_arg4
  x := V m c main_v0
  y := V m c main_v1
  n := V m c main_v2

theorem left15 (t : Fin cfg0.N) : (dats m 0 c).after 15 t = k0_pay1 (k0_pay16 (iblk m c 12 t)) (k0_pay17 (iblk m c 12 t)) (k0_pay19 (k0_pay10 (k0_pay5 (iblk m c 6 t) (sc (iblk m c 3 t)) (iblk m c 9 t) (sc (iblk m c 0 t))) (iblk m c 7 t) (k0_pay6 (sc (iblk m c 4 t))) (k0_pay7 (sc (iblk m c 4 t))) (Scalar.ofBits .f32 0x47600000#32) (iblk m c 10 t) (sc (iblk m c 1 t))) (k0_pay11 (sc (iblk m c 5 t))) (k0_pay12 (iblk m c 8 t) (sc (iblk m c 5 t))) (iblk m c 11 t) (sc (iblk m c 2 t)) (iblk m c 14 t)) (iblk m c 13 t) := by
  rw [after0_15]
  by_cases h0 : t.val % 6 = 0
  · rw [outsAt0_A m c t h0]; dsimp only; rw [left_A_15]
  · rw [outsAt0_B m c t h0]; dsimp only; rw [left_B_15]

theorem left16 (t : Fin cfg0.N) : (dats m 0 c).after 16 t = k0_pay14 (k0_pay10 (k0_pay5 (iblk m c 6 t) (sc (iblk m c 3 t)) (iblk m c 9 t) (sc (iblk m c 0 t))) (iblk m c 7 t) (k0_pay6 (sc (iblk m c 4 t))) (k0_pay7 (sc (iblk m c 4 t))) (Scalar.ofBits .f32 0x47600000#32) (iblk m c 10 t) (sc (iblk m c 1 t))) (k0_pay11 (sc (iblk m c 5 t))) (k0_pay12 (iblk m c 8 t) (sc (iblk m c 5 t))) (iblk m c 11 t) (sc (iblk m c 2 t)) := by
  rw [after0_16]
  by_cases h0 : t.val % 6 = 0
  · rw [outsAt0_A m c t h0]; dsimp only; rw [left_A_16]
  · rw [outsAt0_B m c t h0]; dsimp only; rw [left_B_16]

theorem left17 (t : Fin cfg0.N) : (dats m 0 c).after 17 t = k0_pay4 (iblk m c 6 t) (sc (iblk m c 3 t)) := by
  rw [after0_17]
  by_cases h0 : t.val % 6 = 0
  · rw [outsAt0_A m c t h0]; dsimp only; rw [left_A_17]
  · rw [outsAt0_B m c t h0]; dsimp only; rw [left_B_17]

theorem left18 (t : Fin cfg0.N) : (dats m 0 c).after 18 t = k0_pay9 (iblk m c 7 t) (k0_pay6 (sc (iblk m c 4 t))) (k0_pay7 (sc (iblk m c 4 t))) (Scalar.ofBits .f32 0x47600000#32) := by
  rw [after0_18]
  by_cases h0 : t.val % 6 = 0
  · rw [outsAt0_A m c t h0]; dsimp only; rw [left_A_18]
  · rw [outsAt0_B m c t h0]; dsimp only; rw [left_B_18]

theorem left19 (t : Fin cfg0.N) : (dats m 0 c).after 19 t = k0_pay12 (iblk m c 8 t) (sc (iblk m c 5 t)) := by
  rw [after0_19]
  by_cases h0 : t.val % 6 = 0
  · rw [outsAt0_A m c t h0]; dsimp only; rw [left_A_19]
  · rw [outsAt0_B m c t h0]; dsimp only; rw [left_B_19]

theorem left21 (t : Fin cfg0.N) : (dats m 0 c).after 21 t = k0_pay3 (sc (iblk m c 3 t)) := by
  rw [after0_21]
  by_cases h0 : t.val % 6 = 0
  · rw [outsAt0_A m c t h0]; dsimp only; rw [left_A_21]
  · rw [outsAt0_B m c t h0]; dsimp only; rw [left_B_21]

theorem left22 (t : Fin cfg0.N) : (dats m 0 c).after 22 t = k0_pay8 (k0_pay6 (sc (iblk m c 4 t))) (k0_pay7 (sc (iblk m c 4 t))) (Scalar.ofBits .f32 0x47600000#32) := by
  rw [after0_22]
  by_cases h0 : t.val % 6 = 0
  · rw [outsAt0_A m c t h0]; dsimp only; rw [left_A_22]
  · rw [outsAt0_B m c t h0]; dsimp only; rw [left_B_22]

theorem left23 (t : Fin cfg0.N) : (dats m 0 c).after 23 t = k0_pay11 (sc (iblk m c 5 t)) := by
  rw [after0_23]
  by_cases h0 : t.val % 6 = 0
  · rw [outsAt0_A m c t h0]; dsimp only; rw [left_A_23]
  · rw [outsAt0_B m c t h0]; dsimp only; rw [left_B_23]

theorem result15 : (dats m 0 c).arrAt 15 cfg0.N = (args m c).dx := by
  refine final15 m c _ fun t j => ?_
  idx_vars j
  rw [left15, pay1]
  simp only [sc_eq, blk6, blk7, blk8, blk12, blk13]
  rw [blk0, blk1, blk2, blk3, blk4, blk5, blk9, blk10, blk11, blk14]
  rfl

theorem result16 : (dats m 0 c).arrAt 16 cfg0.N = (args m c).dxn := by
  refine final16 m c _ fun t j => ?_
  idx_vars j
  rw [left16, pay14]
  simp only [sc_eq, blk6, blk7, blk8, blk12, blk13]
  rw [blk0, blk1, blk2, blk3, blk4, blk5, blk9, blk10, blk11]
  rfl

theorem result17 : (dats m 0 c).arrAt 17 cfg0.N = codes (args m c).gq (args m c).aq := by
  refine final17 m c _ fun t j => ?_
  idx_vars j
  rw [left17, code4]
  simp only [sc_eq, blk6, blk7, blk8, blk12, blk13]
  rw [blk3]
  rfl

theorem result18 : (dats m 0 c).arrAt 18 cfg0.N = codes (args m c).gk (args m c).ak := by
  refine final18 m c _ fun t j => ?_
  idx_vars j
  rw [left18, code9]
  simp only [sc_eq, blk6, blk7, blk8, blk12, blk13]
  rw [blk4]
  rfl

theorem result19 : (dats m 0 c).arrAt 19 cfg0.N = codes (args m c).gv (args m c).av := by
  refine final19 m c _ fun t j => ?_
  idx_vars j
  rw [left19, code12]
  simp only [sc_eq, blk6, blk7, blk8, blk12, blk13]
  rw [blk5]
  rfl

theorem result21 : (dats m 0 c).arrAt 21 cfg0.N = qscale (args m c).aq := by
  refine final21 m c _ fun t h => ?_
  rw [left21]
  funext j
  rw [qs3, sc_eq, blk3]
  rfl

theorem result22 : (dats m 0 c).arrAt 22 cfg0.N = qscale (args m c).ak := by
  refine final22 m c _ fun t h => ?_
  rw [left22]
  funext j
  rw [qs8, sc_eq, blk4]
  rfl

theorem result23 : (dats m 0 c).arrAt 23 cfg0.N = qscale (args m c).av := by
  refine final23 m c _ fun t h => ?_
  rw [left23]
  funext j
  rw [qs11, sc_eq, blk5]
  rfl

/-- Row `i`'s term of the norm's weight's gradient, by the number of the row. -/
def term (d : Fin 1536) (i : ℕ) : EReal := if h : i < 1920 then (args m c).dn ⟨i, h⟩ d else 0

/-- What a point adds is the sum of its rows' terms. -/
theorem add20 (t : Fin cfg0.N) (v : Vec Ideal S1x1536 .f32) (j : S1x1536.Idx) :
    k0_pay18 (F := Ideal) (k0_pay10 (k0_pay5 (iblk m c 6 t) (sc (iblk m c 3 t)) (iblk m c 9 t) (sc (iblk m c 0 t))) (iblk m c 7 t) (k0_pay6 (sc (iblk m c 4 t))) (k0_pay7 (sc (iblk m c 4 t))) (Scalar.ofBits .f32 0x47600000#32) (iblk m c 10 t) (sc (iblk m c 1 t))) (k0_pay11 (sc (iblk m c 5 t))) (k0_pay12 (iblk m c 8 t) (sc (iblk m c 5 t))) (iblk m c 11 t) (sc (iblk m c 2 t)) (iblk m c 12 t) v j = v j + ∑ i ∈ Finset.range 320, term m c (j 1) (320 * t.val + i) := by
  idx_vars j
  rw [pay18, Finset.sum_range]
  simp only [sc_eq, blk6, blk7, blk8, blk12]
  rw [blk0, blk1, blk2, blk3, blk4, blk5, blk9, blk10, blk11]
  refine congrArg (v (ix2 j0 j1) + ·) (Finset.sum_congr rfl fun i _ => ?_)
  rw [term, dif_pos (show 320 * t.val + i.val < 1920 from (pos320_1920 t i).isLt)]
  rfl

/-- After point `n` the accumulator holds the terms of the rows up to it. -/
theorem acc20 : ∀ (n : ℕ) (hn : n < cfg0.N) (j : S1x1536.Idx),
    ((outsAt0 m c n hn).2.2.2.2.2.1 : Vec Ideal S1x1536 .f32) j = ∑ i ∈ Finset.range (320 * (n + 1)), term m c (j 1) i := by
  intro n
  induction n with
  | zero =>
    intro hn j
    rw [outsAt0_A m c ⟨0, hn⟩ rfl]
    dsimp only
    rw [left_A_20, add20]
    idx_vars j
    rw [pay2, zero_add]
    simp only [Nat.mul_zero, Nat.zero_add, Nat.mul_one]
  | succ n ih =>
    intro hn j
    have hN : cfg0.N = 6 := N_0
    have h0 : ¬ (n + 1) % 6 = 0 := by omega
    rw [outsAt0_B m c ⟨n + 1, hn⟩ h0]
    dsimp only
    rw [left_B_20, add20]
    have e := ih (Nat.lt_of_succ_lt hn) j
    rw [show 320 * (n + 1 + 1) = 320 * (n + 1) + 320 from rfl, Finset.sum_range_add, ← e]
    rfl

theorem result20 : (dats m 0 c).arrAt 20 cfg0.N = (args m c).dnorm := by
  refine final20 m c _ fun t h => ?_
  rw [after0_20]
  funext j
  refine (acc20 m c t.val t.isLt j).trans ?_
  rw [h, show 320 * (5 + 1) = 1920 from rfl, Finset.sum_range]
  exact Finset.sum_congr rfl fun i _ => dif_pos i.isLt

end Cert.KDxIdeal.Read

end
-- ==== Proof.RDxIdealRead.lean ====
/-
  The reference of the input gradient: every window is one whole array, so each result is the value stored.
-/
module

public import proofs.«01_k».proof.Proof.Common
public import proofs.«01_k».proof.Proof.Gen.RDxIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RDxIdeal.Read

open Cert.RDxIdeal Cert.RDxIdeal.Gen Cert.Common

variable (m : (ℓ : Loc nD τ sig) → Buf (Elt Ideal) ℓ) (c : Dev nD)

theorem arr_main_v0 : (V m c main_v0 : Vec Ideal S1920x1536 .bf16) = shapeCast S1920x1536 (m ((c : Thread nD τ).loc main_arg0)) shapeCasts_S3x640x1536_S1920x1536 := by
  dsimp only [V, hostOps0]; after_results; rfl

theorem arr_main_v1 : (V m c main_v1 : Vec Ideal S1x1536 .f32) = shapeCast S1x1536 (m ((c : Thread nD τ).loc main_arg1)) shapeCasts_S1536_S1x1536 := by
  dsimp only [V, hostOps0]; after_results; rfl

theorem arr_main_v2 : (V m c main_v2 : Vec Ideal S1x1 .f32) = shapeCast S1x1 (m ((c : Thread nD τ).loc main_arg5)) shapeCasts_S_S1x1 := by
  dsimp only [V, hostOps0]; after_results; rfl

theorem arr_main_v3 : (V m c main_v3 : Vec Ideal S1x1 .f32) = shapeCast S1x1 (m ((c : Thread nD τ).loc main_arg6)) shapeCasts_S_S1x1 := by
  dsimp only [V, hostOps0]; after_results; rfl

theorem arr_main_v4 : (V m c main_v4 : Vec Ideal S1x1 .f32) = shapeCast S1x1 (m ((c : Thread nD τ).loc main_arg7)) shapeCasts_S_S1x1 := by
  dsimp only [V, hostOps0]; after_results; rfl

theorem arr_main_v5 : (V m c main_v5 : Vec Ideal S1x1 .f32) = shapeCast S1x1 (m ((c : Thread nD τ).loc main_arg11)) shapeCasts_S_S1x1 := by
  dsimp only [V, hostOps0]; after_results; rfl

theorem arr_main_v6 : (V m c main_v6 : Vec Ideal S1x1 .f32) = shapeCast S1x1 (m ((c : Thread nD τ).loc main_arg12)) shapeCasts_S_S1x1 := by
  dsimp only [V, hostOps0]; after_results; rfl

theorem arr_main_v7 : (V m c main_v7 : Vec Ideal S1x1 .f32) = shapeCast S1x1 (m ((c : Thread nD τ).loc main_arg13)) shapeCasts_S_S1x1 := by
  dsimp only [V, hostOps0]; after_results; rfl

theorem arr_main_v8 : (V m c main_v8 : Vec Ideal S1920x1536 .bf16) = shapeCast S1920x1536 (m ((c : Thread nD τ).loc main_arg14)) shapeCasts_S3x640x1536_S1920x1536 := by
  dsimp only [V, hostOps0]; after_results; rfl

theorem at0 : ∀ (t : Fin cfg0.N) (a : Fin 2), win0_0.index t a = 0 :=
  (by decide +kernel : ∀ (t : Fin grid0.N) (a : Fin 2), win0_0.index t a = 0)

theorem blk0 (t : Fin cfg0.N) : (iblk m c 0 t : Vec Ideal S1920x1536 .bf16) = V m c main_v0 :=
  Memref.read_access_unit_zero (Elt Ideal) main_v0 (off := fun a => win0_0.index t a * main_v0.ty.shape.size a) (funext fun a => by rw [at0 t a, Nat.zero_mul]) (fun a => by rw [at0 t a]; simp) _

theorem at1 : ∀ (t : Fin cfg0.N) (a : Fin 2), win0_1.index t a = 0 :=
  (by decide +kernel : ∀ (t : Fin grid0.N) (a : Fin 2), win0_1.index t a = 0)

theorem blk1 (t : Fin cfg0.N) : (iblk m c 1 t : Vec Ideal S1x1536 .f32) = V m c main_v1 :=
  Memref.read_access_unit_zero (Elt Ideal) main_v1 (off := fun a => win0_1.index t a * main_v1.ty.shape.size a) (funext fun a => by rw [at1 t a, Nat.zero_mul]) (fun a => by rw [at1 t a]; simp) _

theorem at2 : ∀ (t : Fin cfg0.N) (a : Fin 2), win0_2.index t a = 0 :=
  (by decide +kernel : ∀ (t : Fin grid0.N) (a : Fin 2), win0_2.index t a = 0)

theorem blk2 (t : Fin cfg0.N) : (iblk m c 2 t : Vec Ideal S1536x1024 .fp8e4m3) = V m c main_arg2 :=
  Memref.read_access_unit_zero (Elt Ideal) main_arg2 (off := fun a => win0_2.index t a * main_arg2.ty.shape.size a) (funext fun a => by rw [at2 t a, Nat.zero_mul]) (fun a => by rw [at2 t a]; simp) _

theorem at3 : ∀ (t : Fin cfg0.N) (a : Fin 2), win0_3.index t a = 0 :=
  (by decide +kernel : ∀ (t : Fin grid0.N) (a : Fin 2), win0_3.index t a = 0)

theorem blk3 (t : Fin cfg0.N) : (iblk m c 3 t : Vec Ideal S1536x1024 .fp8e4m3) = V m c main_arg3 :=
  Memref.read_access_unit_zero (Elt Ideal) main_arg3 (off := fun a => win0_3.index t a * main_arg3.ty.shape.size a) (funext fun a => by rw [at3 t a, Nat.zero_mul]) (fun a => by rw [at3 t a]; simp) _

theorem at4 : ∀ (t : Fin cfg0.N) (a : Fin 2), win0_4.index t a = 0 :=
  (by decide +kernel : ∀ (t : Fin grid0.N) (a : Fin 2), win0_4.index t a = 0)

theorem blk4 (t : Fin cfg0.N) : (iblk m c 4 t : Vec Ideal S1536x1024 .fp8e4m3) = V m c main_arg4 :=
  Memref.read_access_unit_zero (Elt Ideal) main_arg4 (off := fun a => win0_4.index t a * main_arg4.ty.shape.size a) (funext fun a => by rw [at4 t a, Nat.zero_mul]) (fun a => by rw [at4 t a]; simp) _

theorem at5 : ∀ (t : Fin cfg0.N) (a : Fin 2), win0_5.index t a = 0 :=
  (by decide +kernel : ∀ (t : Fin grid0.N) (a : Fin 2), win0_5.index t a = 0)

theorem blk5 (t : Fin cfg0.N) : (iblk m c 5 t : Vec Ideal S1x1 .f32) = V m c main_v2 :=
  Memref.read_access_unit_zero (Elt Ideal) main_v2 (off := fun a => win0_5.index t a * main_v2.ty.shape.size a) (funext fun a => by rw [at5 t a, Nat.zero_mul]) (fun a => by rw [at5 t a]; simp) _

theorem at6 : ∀ (t : Fin cfg0.N) (a : Fin 2), win0_6.index t a = 0 :=
  (by decide +kernel : ∀ (t : Fin grid0.N) (a : Fin 2), win0_6.index t a = 0)

theorem blk6 (t : Fin cfg0.N) : (iblk m c 6 t : Vec Ideal S1x1 .f32) = V m c main_v3 :=
  Memref.read_access_unit_zero (Elt Ideal) main_v3 (off := fun a => win0_6.index t a * main_v3.ty.shape.size a) (funext fun a => by rw [at6 t a, Nat.zero_mul]) (fun a => by rw [at6 t a]; simp) _

theorem at7 : ∀ (t : Fin cfg0.N) (a : Fin 2), win0_7.index t a = 0 :=
  (by decide +kernel : ∀ (t : Fin grid0.N) (a : Fin 2), win0_7.index t a = 0)

theorem blk7 (t : Fin cfg0.N) : (iblk m c 7 t : Vec Ideal S1x1 .f32) = V m c main_v4 :=
  Memref.read_access_unit_zero (Elt Ideal) main_v4 (off := fun a => win0_7.index t a * main_v4.ty.shape.size a) (funext fun a => by rw [at7 t a, Nat.zero_mul]) (fun a => by rw [at7 t a]; simp) _

theorem at8 : ∀ (t : Fin cfg0.N) (a : Fin 2), win0_8.index t a = 0 :=
  (by decide +kernel : ∀ (t : Fin grid0.N) (a : Fin 2), win0_8.index t a = 0)

theorem blk8 (t : Fin cfg0.N) : (iblk m c 8 t : Vec Ideal S1920x1024 .f32) = V m c main_arg8 :=
  Memref.read_access_unit_zero (Elt Ideal) main_arg8 (off := fun a => win0_8.index t a * main_arg8.ty.shape.size a) (funext fun a => by rw [at8 t a, Nat.zero_mul]) (fun a => by rw [at8 t a]; simp) _

theorem at9 : ∀ (t : Fin cfg0.N) (a : Fin 2), win0_9.index t a = 0 :=
  (by decide +kernel : ∀ (t : Fin grid0.N) (a : Fin 2), win0_9.index t a = 0)

theorem blk9 (t : Fin cfg0.N) : (iblk m c 9 t : Vec Ideal S1920x1024 .f32) = V m c main_arg9 :=
  Memref.read_access_unit_zero (Elt Ideal) main_arg9 (off := fun a => win0_9.index t a * main_arg9.ty.shape.size a) (funext fun a => by rw [at9 t a, Nat.zero_mul]) (fun a => by rw [at9 t a]; simp) _

theorem at10 : ∀ (t : Fin cfg0.N) (a : Fin 2), win0_10.index t a = 0 :=
  (by decide +kernel : ∀ (t : Fin grid0.N) (a : Fin 2), win0_10.index t a = 0)

theorem blk10 (t : Fin cfg0.N) : (iblk m c 10 t : Vec Ideal S1920x1024 .f32) = V m c main_arg10 :=
  Memref.read_access_unit_zero (Elt Ideal) main_arg10 (off := fun a => win0_10.index t a * main_arg10.ty.shape.size a) (funext fun a => by rw [at10 t a, Nat.zero_mul]) (fun a => by rw [at10 t a]; simp) _

theorem at11 : ∀ (t : Fin cfg0.N) (a : Fin 2), win0_11.index t a = 0 :=
  (by decide +kernel : ∀ (t : Fin grid0.N) (a : Fin 2), win0_11.index t a = 0)

theorem blk11 (t : Fin cfg0.N) : (iblk m c 11 t : Vec Ideal S1x1 .f32) = V m c main_v5 :=
  Memref.read_access_unit_zero (Elt Ideal) main_v5 (off := fun a => win0_11.index t a * main_v5.ty.shape.size a) (funext fun a => by rw [at11 t a, Nat.zero_mul]) (fun a => by rw [at11 t a]; simp) _

theorem at12 : ∀ (t : Fin cfg0.N) (a : Fin 2), win0_12.index t a = 0 :=
  (by decide +kernel : ∀ (t : Fin grid0.N) (a : Fin 2), win0_12.index t a = 0)

theorem blk12 (t : Fin cfg0.N) : (iblk m c 12 t : Vec Ideal S1x1 .f32) = V m c main_v6 :=
  Memref.read_access_unit_zero (Elt Ideal) main_v6 (off := fun a => win0_12.index t a * main_v6.ty.shape.size a) (funext fun a => by rw [at12 t a, Nat.zero_mul]) (fun a => by rw [at12 t a]; simp) _

theorem at13 : ∀ (t : Fin cfg0.N) (a : Fin 2), win0_13.index t a = 0 :=
  (by decide +kernel : ∀ (t : Fin grid0.N) (a : Fin 2), win0_13.index t a = 0)

theorem blk13 (t : Fin cfg0.N) : (iblk m c 13 t : Vec Ideal S1x1 .f32) = V m c main_v7 :=
  Memref.read_access_unit_zero (Elt Ideal) main_v7 (off := fun a => win0_13.index t a * main_v7.ty.shape.size a) (funext fun a => by rw [at13 t a, Nat.zero_mul]) (fun a => by rw [at13 t a]; simp) _

theorem at14 : ∀ (t : Fin cfg0.N) (a : Fin 2), win0_14.index t a = 0 :=
  (by decide +kernel : ∀ (t : Fin grid0.N) (a : Fin 2), win0_14.index t a = 0)

theorem blk14 (t : Fin cfg0.N) : (iblk m c 14 t : Vec Ideal S1920x1536 .bf16) = V m c main_v8 :=
  Memref.read_access_unit_zero (Elt Ideal) main_v8 (off := fun a => win0_14.index t a * main_v8.ty.shape.size a) (funext fun a => by rw [at14 t a, Nat.zero_mul]) (fun a => by rw [at14 t a]; simp) _

theorem at15 : ∀ (t : Fin cfg0.N) (a : Fin 2), win0_15.index t a = 0 :=
  (by decide +kernel : ∀ (t : Fin grid0.N) (a : Fin 2), win0_15.index t a = 0)

theorem flush15 : ∀ t : Fin cfg0.N, (cfg0.win 15).flush t = true :=
  (by decide +kernel : ∀ t : Fin grid0.N, (cfg0.win 15).flush t = true)

theorem cover15 (i : S1920x1536.Idx) : ∃ t : Fin cfg0.N, (cfg0.win 15).flush t = true ∧ i ∈ ((cfg0.win 15).blk t).view.set := by
  have ht : 0 < cfg0.N := by decide
  refine ⟨⟨0, ht⟩, flush15 _, ?_⟩
  have h := ((cfg0.win 15).blk ⟨0, ht⟩).view.emb_mem_set i
  have e : (((cfg0.win 15).blk ⟨0, ht⟩).view.emb i : S1920x1536.Idx) = i := by
    funext a; apply Fin.ext
    match a with
    | ⟨0, _⟩ => show win0_15.index _ 0 * 1920 + 1 * (i 0).val = (i 0).val; rw [at15 _ 0]; omega
    | ⟨1, _⟩ => show win0_15.index _ 1 * 1536 + 1 * (i 1).val = (i 1).val; rw [at15 _ 1]; omega
  rw [e] at h
  exact h

theorem final15 : (dats m 0 c).arrAt 15 cfg0.N = (out0_15 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1920x1536 .bf16) := by
  refine (dats m 0 c).arrAt_eq_of_cover 15 _ (fun t hf => ?_) cover15
  rw [Value.flushed15, blk0, blk1, blk2, blk3, blk4, blk5, blk6, blk7, blk8, blk9, blk10, blk11, blk12, blk13, blk14]
  exact (Memref.read_access_unit_zero (Elt Ideal) main_v9_0 (off := fun a => win0_15.index t a * main_v9_0.ty.shape.size a) (funext fun a => by rw [at15 t a, Nat.zero_mul]) (fun a => by rw [at15 t a]; simp) _).symm

theorem at16 : ∀ (t : Fin cfg0.N) (a : Fin 2), win0_16.index t a = 0 :=
  (by decide +kernel : ∀ (t : Fin grid0.N) (a : Fin 2), win0_16.index t a = 0)

theorem flush16 : ∀ t : Fin cfg0.N, (cfg0.win 16).flush t = true :=
  (by decide +kernel : ∀ t : Fin grid0.N, (cfg0.win 16).flush t = true)

theorem cover16 (i : S1920x1536.Idx) : ∃ t : Fin cfg0.N, (cfg0.win 16).flush t = true ∧ i ∈ ((cfg0.win 16).blk t).view.set := by
  have ht : 0 < cfg0.N := by decide
  refine ⟨⟨0, ht⟩, flush16 _, ?_⟩
  have h := ((cfg0.win 16).blk ⟨0, ht⟩).view.emb_mem_set i
  have e : (((cfg0.win 16).blk ⟨0, ht⟩).view.emb i : S1920x1536.Idx) = i := by
    funext a; apply Fin.ext
    match a with
    | ⟨0, _⟩ => show win0_16.index _ 0 * 1920 + 1 * (i 0).val = (i 0).val; rw [at16 _ 0]; omega
    | ⟨1, _⟩ => show win0_16.index _ 1 * 1536 + 1 * (i 1).val = (i 1).val; rw [at16 _ 1]; omega
  rw [e] at h
  exact h

theorem final16 : (dats m 0 c).arrAt 16 cfg0.N = (out0_16 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1920x1536 .bf16) := by
  refine (dats m 0 c).arrAt_eq_of_cover 16 _ (fun t hf => ?_) cover16
  rw [Value.flushed16, blk0, blk1, blk2, blk3, blk4, blk5, blk6, blk7, blk8, blk9, blk10, blk11, blk12, blk13, blk14]
  exact (Memref.read_access_unit_zero (Elt Ideal) main_v9_1 (off := fun a => win0_16.index t a * main_v9_1.ty.shape.size a) (funext fun a => by rw [at16 t a, Nat.zero_mul]) (fun a => by rw [at16 t a]; simp) _).symm

theorem at17 : ∀ (t : Fin cfg0.N) (a : Fin 2), win0_17.index t a = 0 :=
  (by decide +kernel : ∀ (t : Fin grid0.N) (a : Fin 2), win0_17.index t a = 0)

theorem flush17 : ∀ t : Fin cfg0.N, (cfg0.win 17).flush t = true :=
  (by decide +kernel : ∀ t : Fin grid0.N, (cfg0.win 17).flush t = true)

theorem cover17 (i : S1920x1024.Idx) : ∃ t : Fin cfg0.N, (cfg0.win 17).flush t = true ∧ i ∈ ((cfg0.win 17).blk t).view.set := by
  have ht : 0 < cfg0.N := by decide
  refine ⟨⟨0, ht⟩, flush17 _, ?_⟩
  have h := ((cfg0.win 17).blk ⟨0, ht⟩).view.emb_mem_set i
  have e : (((cfg0.win 17).blk ⟨0, ht⟩).view.emb i : S1920x1024.Idx) = i := by
    funext a; apply Fin.ext
    match a with
    | ⟨0, _⟩ => show win0_17.index _ 0 * 1920 + 1 * (i 0).val = (i 0).val; rw [at17 _ 0]; omega
    | ⟨1, _⟩ => show win0_17.index _ 1 * 1024 + 1 * (i 1).val = (i 1).val; rw [at17 _ 1]; omega
  rw [e] at h
  exact h

theorem final17 : (dats m 0 c).arrAt 17 cfg0.N = (out0_17 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1920x1024 .fp8e5m2) := by
  refine (dats m 0 c).arrAt_eq_of_cover 17 _ (fun t hf => ?_) cover17
  rw [Value.flushed17, blk0, blk1, blk2, blk3, blk4, blk5, blk6, blk7, blk8, blk9, blk10, blk11, blk12, blk13, blk14]
  exact (Memref.read_access_unit_zero (Elt Ideal) main_v9_2 (off := fun a => win0_17.index t a * main_v9_2.ty.shape.size a) (funext fun a => by rw [at17 t a, Nat.zero_mul]) (fun a => by rw [at17 t a]; simp) _).symm

theorem at18 : ∀ (t : Fin cfg0.N) (a : Fin 2), win0_18.index t a = 0 :=
  (by decide +kernel : ∀ (t : Fin grid0.N) (a : Fin 2), win0_18.index t a = 0)

theorem flush18 : ∀ t : Fin cfg0.N, (cfg0.win 18).flush t = true :=
  (by decide +kernel : ∀ t : Fin grid0.N, (cfg0.win 18).flush t = true)

theorem cover18 (i : S1920x1024.Idx) : ∃ t : Fin cfg0.N, (cfg0.win 18).flush t = true ∧ i ∈ ((cfg0.win 18).blk t).view.set := by
  have ht : 0 < cfg0.N := by decide
  refine ⟨⟨0, ht⟩, flush18 _, ?_⟩
  have h := ((cfg0.win 18).blk ⟨0, ht⟩).view.emb_mem_set i
  have e : (((cfg0.win 18).blk ⟨0, ht⟩).view.emb i : S1920x1024.Idx) = i := by
    funext a; apply Fin.ext
    match a with
    | ⟨0, _⟩ => show win0_18.index _ 0 * 1920 + 1 * (i 0).val = (i 0).val; rw [at18 _ 0]; omega
    | ⟨1, _⟩ => show win0_18.index _ 1 * 1024 + 1 * (i 1).val = (i 1).val; rw [at18 _ 1]; omega
  rw [e] at h
  exact h

theorem final18 : (dats m 0 c).arrAt 18 cfg0.N = (out0_18 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1920x1024 .fp8e5m2) := by
  refine (dats m 0 c).arrAt_eq_of_cover 18 _ (fun t hf => ?_) cover18
  rw [Value.flushed18, blk0, blk1, blk2, blk3, blk4, blk5, blk6, blk7, blk8, blk9, blk10, blk11, blk12, blk13, blk14]
  exact (Memref.read_access_unit_zero (Elt Ideal) main_v9_3 (off := fun a => win0_18.index t a * main_v9_3.ty.shape.size a) (funext fun a => by rw [at18 t a, Nat.zero_mul]) (fun a => by rw [at18 t a]; simp) _).symm

theorem at19 : ∀ (t : Fin cfg0.N) (a : Fin 2), win0_19.index t a = 0 :=
  (by decide +kernel : ∀ (t : Fin grid0.N) (a : Fin 2), win0_19.index t a = 0)

theorem flush19 : ∀ t : Fin cfg0.N, (cfg0.win 19).flush t = true :=
  (by decide +kernel : ∀ t : Fin grid0.N, (cfg0.win 19).flush t = true)

theorem cover19 (i : S1920x1024.Idx) : ∃ t : Fin cfg0.N, (cfg0.win 19).flush t = true ∧ i ∈ ((cfg0.win 19).blk t).view.set := by
  have ht : 0 < cfg0.N := by decide
  refine ⟨⟨0, ht⟩, flush19 _, ?_⟩
  have h := ((cfg0.win 19).blk ⟨0, ht⟩).view.emb_mem_set i
  have e : (((cfg0.win 19).blk ⟨0, ht⟩).view.emb i : S1920x1024.Idx) = i := by
    funext a; apply Fin.ext
    match a with
    | ⟨0, _⟩ => show win0_19.index _ 0 * 1920 + 1 * (i 0).val = (i 0).val; rw [at19 _ 0]; omega
    | ⟨1, _⟩ => show win0_19.index _ 1 * 1024 + 1 * (i 1).val = (i 1).val; rw [at19 _ 1]; omega
  rw [e] at h
  exact h

theorem final19 : (dats m 0 c).arrAt 19 cfg0.N = (out0_19 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1920x1024 .fp8e5m2) := by
  refine (dats m 0 c).arrAt_eq_of_cover 19 _ (fun t hf => ?_) cover19
  rw [Value.flushed19, blk0, blk1, blk2, blk3, blk4, blk5, blk6, blk7, blk8, blk9, blk10, blk11, blk12, blk13, blk14]
  exact (Memref.read_access_unit_zero (Elt Ideal) main_v9_4 (off := fun a => win0_19.index t a * main_v9_4.ty.shape.size a) (funext fun a => by rw [at19 t a, Nat.zero_mul]) (fun a => by rw [at19 t a]; simp) _).symm

theorem at20 : ∀ (t : Fin cfg0.N) (a : Fin 2), win0_20.index t a = 0 :=
  (by decide +kernel : ∀ (t : Fin grid0.N) (a : Fin 2), win0_20.index t a = 0)

theorem flush20 : ∀ t : Fin cfg0.N, (cfg0.win 20).flush t = true :=
  (by decide +kernel : ∀ t : Fin grid0.N, (cfg0.win 20).flush t = true)

theorem cover20 (i : S1x1536.Idx) : ∃ t : Fin cfg0.N, (cfg0.win 20).flush t = true ∧ i ∈ ((cfg0.win 20).blk t).view.set := by
  have ht : 0 < cfg0.N := by decide
  refine ⟨⟨0, ht⟩, flush20 _, ?_⟩
  have h := ((cfg0.win 20).blk ⟨0, ht⟩).view.emb_mem_set i
  have e : (((cfg0.win 20).blk ⟨0, ht⟩).view.emb i : S1x1536.Idx) = i := by
    funext a; apply Fin.ext
    match a with
    | ⟨0, _⟩ => show win0_20.index _ 0 * 1 + 1 * (i 0).val = (i 0).val; rw [at20 _ 0]; omega
    | ⟨1, _⟩ => show win0_20.index _ 1 * 1536 + 1 * (i 1).val = (i 1).val; rw [at20 _ 1]; omega
  rw [e] at h
  exact h

theorem final20 : (dats m 0 c).arrAt 20 cfg0.N = (out0_20 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1x1536 .f32) := by
  refine (dats m 0 c).arrAt_eq_of_cover 20 _ (fun t hf => ?_) cover20
  rw [Value.flushed20, blk0, blk1, blk2, blk3, blk4, blk5, blk6, blk7, blk8, blk9, blk10, blk11, blk12, blk13, blk14]
  exact (Memref.read_access_unit_zero (Elt Ideal) main_v9_5 (off := fun a => win0_20.index t a * main_v9_5.ty.shape.size a) (funext fun a => by rw [at20 t a, Nat.zero_mul]) (fun a => by rw [at20 t a]; simp) _).symm

theorem at21 : ∀ (t : Fin cfg0.N) (a : Fin 2), win0_21.index t a = 0 :=
  (by decide +kernel : ∀ (t : Fin grid0.N) (a : Fin 2), win0_21.index t a = 0)

theorem flush21 : ∀ t : Fin cfg0.N, (cfg0.win 21).flush t = true :=
  (by decide +kernel : ∀ t : Fin grid0.N, (cfg0.win 21).flush t = true)

theorem cover21 (i : S1x1.Idx) : ∃ t : Fin cfg0.N, (cfg0.win 21).flush t = true ∧ i ∈ ((cfg0.win 21).blk t).view.set := by
  have ht : 0 < cfg0.N := by decide
  refine ⟨⟨0, ht⟩, flush21 _, ?_⟩
  have h := ((cfg0.win 21).blk ⟨0, ht⟩).view.emb_mem_set i
  have e : (((cfg0.win 21).blk ⟨0, ht⟩).view.emb i : S1x1.Idx) = i := by
    funext a; apply Fin.ext
    match a with
    | ⟨0, _⟩ => show win0_21.index _ 0 * 1 + 1 * (i 0).val = (i 0).val; rw [at21 _ 0]; omega
    | ⟨1, _⟩ => show win0_21.index _ 1 * 1 + 1 * (i 1).val = (i 1).val; rw [at21 _ 1]; omega
  rw [e] at h
  exact h

theorem final21 : (dats m 0 c).arrAt 21 cfg0.N = (out0_21 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1x1 .f32) := by
  refine (dats m 0 c).arrAt_eq_of_cover 21 _ (fun t hf => ?_) cover21
  rw [Value.flushed21, blk0, blk1, blk2, blk3, blk4, blk5, blk6, blk7, blk8, blk9, blk10, blk11, blk12, blk13, blk14]
  exact (Memref.read_access_unit_zero (Elt Ideal) main_v9_6 (off := fun a => win0_21.index t a * main_v9_6.ty.shape.size a) (funext fun a => by rw [at21 t a, Nat.zero_mul]) (fun a => by rw [at21 t a]; simp) _).symm

theorem at22 : ∀ (t : Fin cfg0.N) (a : Fin 2), win0_22.index t a = 0 :=
  (by decide +kernel : ∀ (t : Fin grid0.N) (a : Fin 2), win0_22.index t a = 0)

theorem flush22 : ∀ t : Fin cfg0.N, (cfg0.win 22).flush t = true :=
  (by decide +kernel : ∀ t : Fin grid0.N, (cfg0.win 22).flush t = true)

theorem cover22 (i : S1x1.Idx) : ∃ t : Fin cfg0.N, (cfg0.win 22).flush t = true ∧ i ∈ ((cfg0.win 22).blk t).view.set := by
  have ht : 0 < cfg0.N := by decide
  refine ⟨⟨0, ht⟩, flush22 _, ?_⟩
  have h := ((cfg0.win 22).blk ⟨0, ht⟩).view.emb_mem_set i
  have e : (((cfg0.win 22).blk ⟨0, ht⟩).view.emb i : S1x1.Idx) = i := by
    funext a; apply Fin.ext
    match a with
    | ⟨0, _⟩ => show win0_22.index _ 0 * 1 + 1 * (i 0).val = (i 0).val; rw [at22 _ 0]; omega
    | ⟨1, _⟩ => show win0_22.index _ 1 * 1 + 1 * (i 1).val = (i 1).val; rw [at22 _ 1]; omega
  rw [e] at h
  exact h

theorem final22 : (dats m 0 c).arrAt 22 cfg0.N = (out0_22 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1x1 .f32) := by
  refine (dats m 0 c).arrAt_eq_of_cover 22 _ (fun t hf => ?_) cover22
  rw [Value.flushed22, blk0, blk1, blk2, blk3, blk4, blk5, blk6, blk7, blk8, blk9, blk10, blk11, blk12, blk13, blk14]
  exact (Memref.read_access_unit_zero (Elt Ideal) main_v9_7 (off := fun a => win0_22.index t a * main_v9_7.ty.shape.size a) (funext fun a => by rw [at22 t a, Nat.zero_mul]) (fun a => by rw [at22 t a]; simp) _).symm

theorem at23 : ∀ (t : Fin cfg0.N) (a : Fin 2), win0_23.index t a = 0 :=
  (by decide +kernel : ∀ (t : Fin grid0.N) (a : Fin 2), win0_23.index t a = 0)

theorem flush23 : ∀ t : Fin cfg0.N, (cfg0.win 23).flush t = true :=
  (by decide +kernel : ∀ t : Fin grid0.N, (cfg0.win 23).flush t = true)

theorem cover23 (i : S1x1.Idx) : ∃ t : Fin cfg0.N, (cfg0.win 23).flush t = true ∧ i ∈ ((cfg0.win 23).blk t).view.set := by
  have ht : 0 < cfg0.N := by decide
  refine ⟨⟨0, ht⟩, flush23 _, ?_⟩
  have h := ((cfg0.win 23).blk ⟨0, ht⟩).view.emb_mem_set i
  have e : (((cfg0.win 23).blk ⟨0, ht⟩).view.emb i : S1x1.Idx) = i := by
    funext a; apply Fin.ext
    match a with
    | ⟨0, _⟩ => show win0_23.index _ 0 * 1 + 1 * (i 0).val = (i 0).val; rw [at23 _ 0]; omega
    | ⟨1, _⟩ => show win0_23.index _ 1 * 1 + 1 * (i 1).val = (i 1).val; rw [at23 _ 1]; omega
  rw [e] at h
  exact h

theorem final23 : (dats m 0 c).arrAt 23 cfg0.N = (out0_23 (V m c main_v0) (V m c main_v1) (V m c main_arg2) (V m c main_arg3) (V m c main_arg4) (V m c main_v2) (V m c main_v3) (V m c main_v4) (V m c main_arg8) (V m c main_arg9) (V m c main_arg10) (V m c main_v5) (V m c main_v6) (V m c main_v7) (V m c main_v8) : Vec Ideal S1x1 .f32) := by
  refine (dats m 0 c).arrAt_eq_of_cover 23 _ (fun t hf => ?_) cover23
  rw [Value.flushed23, blk0, blk1, blk2, blk3, blk4, blk5, blk6, blk7, blk8, blk9, blk10, blk11, blk12, blk13, blk14]
  exact (Memref.read_access_unit_zero (Elt Ideal) main_v9_8 (off := fun a => win0_23.index t a * main_v9_8.ty.shape.size a) (funext fun a => by rw [at23 t a, Nat.zero_mul]) (fun a => by rw [at23 t a]; simp) _).symm

end Cert.RDxIdeal.Read

end
-- ==== Proof.DxReference.lean ====
/-
  The reference of the input gradient: its results as the formulas of the argument arrays.
-/
module

public import proofs.«01_k».proof.Defs
public import proofs.«01_k».proof.Proof.RDxIdealRead
public import proofs.«01_k».proof.Proof.DxForm
public import proofs.«01_k».proof.Proof.Norm
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.RDxIdeal.Read

open Cert.RDxIdeal Cert.RDxIdeal.Gen Cert.Common Cert.Norm Cert.Dx

theorem word (a : Vec Ideal S1x1 .f32) (j : S1x1.Idx) : a j = a (ix2 0 0) :=
  congrArg a (funext fun k => by fin_cases k <;> exact Subsingleton.elim (α := Fin 1) _ _)

theorem qs5 (a : Vec Ideal S1x1 .f32) (j : S1x1.Idx) : k0_pay5 (F := Ideal) a j = qs (a (ix2 0 0)) := by
  rw [← word a j]
  idx_vars j
  pointwise [k0_pay5, qs]

theorem qs9 (a : Vec Ideal S1x1 .f32) (j : S1x1.Idx) : k0_pay9 (F := Ideal) (k0_pay7 a) k0_pay8 j = qs (a (ix2 0 0)) := by
  rw [← word a j]
  idx_vars j
  pointwise [k0_pay9, k0_pay8, k0_pay7, qs]

theorem qs11 (a : Vec Ideal S1x1 .f32) (j : S1x1.Idx) : k0_pay11 (F := Ideal) a j = qs (a (ix2 0 0)) := by
  rw [← word a j]
  idx_vars j
  pointwise [k0_pay11, qs]

theorem code6 (x : Vec Ideal S1920x1024 .f32) (a : Vec Ideal S1x1 .f32) (j : S1920x1024.Idx) : k0_pay6 (F := Ideal) x a j = code (x j) (a (ix2 0 0)) := by
  idx_vars j
  pointwise [k0_pay6]
  rw [qs5]; rfl

theorem code10 (x : Vec Ideal S1920x1024 .f32) (a : Vec Ideal S1x1 .f32) (j : S1920x1024.Idx) : k0_pay10 (F := Ideal) x (k0_pay7 a) k0_pay8 j = code (x j) (a (ix2 0 0)) := by
  idx_vars j
  pointwise [k0_pay10]
  rw [qs9]; rfl

theorem code12 (x : Vec Ideal S1920x1024 .f32) (a : Vec Ideal S1x1 .f32) (j : S1920x1024.Idx) : k0_pay12 (F := Ideal) x a j = code (x j) (a (ix2 0 0)) := by
  idx_vars j
  pointwise [k0_pay12]
  rw [qs11]; rfl

/-- The gradient of the normalised input, before its rounding. -/
theorem pay16 (gq gk gv : Vec Ideal S1920x1024 .f32) (aq ak av sq sk sv : Vec Ideal S1x1 .f32) (wq wk wv : Vec Ideal S1536x1024 .fp8e4m3) (i : Fin 1920) (d : Fin 1536) :
    k0_pay16 (F := Ideal) (k0_pay11 av) (k0_pay12 gv av) (k0_pay13 (k0_pay5 aq) (k0_pay6 gq aq) wq sq) (k0_pay14 gk (k0_pay7 ak) (k0_pay8 (F := Ideal)) wk) (k0_pay15 (k0_pay7 ak) (k0_pay8 (F := Ideal))) sk wv sv (ix2 i d) = dxn (fun k => gq (ix2 i k)) (fun k => gk (ix2 i k)) (fun k => gv (ix2 i k)) (aq (ix2 0 0)) (ak (ix2 0 0)) (av (ix2 0 0)) (sq (ix2 0 0)) (sk (ix2 0 0)) (sv (ix2 0 0)) wq wk wv d := by
  pointwise [k0_pay16, k0_pay13, k0_pay14, k0_pay15]
  simp only [qs5, qs9, qs11, code6, code10, code12]
  rfl

/-- The scale of a row. -/
theorem pay2 (x : Vec Ideal S1920x1536 .bf16) (i : Fin 1920) (d : Fin 1) : k0_pay2 (F := Ideal) x (ix2 i d) = scale (fun k => x (ix2 i k)) := by
  pointwise [k0_pay2, k0_pay1]
  exact scale_ref _

theorem pay3 (x : Vec Ideal S1920x1536 .bf16) (i : Fin 1920) (d : Fin 1536) : k0_pay3 (F := Ideal) x (ix2 i d) = xhat (fun k => x (ix2 i k)) d := by
  pointwise [k0_pay3, k0_pay1]
  rw [pay2]; rfl

/-- The gradient of the norm's weight. -/
theorem pay17 (gq gk gv : Vec Ideal S1920x1024 .f32) (aq ak av sq sk sv : Vec Ideal S1x1 .f32) (wq wk wv : Vec Ideal S1536x1024 .fp8e4m3) (x : Vec Ideal S1920x1536 .bf16) (o : Fin 1) (d : Fin 1536) :
    k0_pay17 (F := Ideal) (k0_pay3 x) (k0_pay11 av) (k0_pay12 gv av) (k0_pay13 (k0_pay5 aq) (k0_pay6 gq aq) wq sq) (k0_pay14 gk (k0_pay7 ak) (k0_pay8 (F := Ideal)) wk) (k0_pay15 (k0_pay7 ak) (k0_pay8 (F := Ideal))) sk wv sv (ix2 o d) = ∑ i : Fin 1920, dxn (fun k => gq (ix2 i k)) (fun k => gk (ix2 i k)) (fun k => gv (ix2 i k)) (aq (ix2 0 0)) (ak (ix2 0 0)) (av (ix2 0 0)) (sq (ix2 0 0)) (sk (ix2 0 0)) (sv (ix2 0 0)) wq wk wv d * xhat (fun k => x (ix2 i k)) d := by
  unfold k0_pay17
  generalize hv : k0_pay16 (F := Ideal) (k0_pay11 av) (k0_pay12 gv av) (k0_pay13 (k0_pay5 aq) (k0_pay6 gq aq) wq sq) (k0_pay14 gk (k0_pay7 ak) (k0_pay8 (F := Ideal)) wk) (k0_pay15 (k0_pay7 ak) (k0_pay8 (F := Ideal))) sk wv sv = v
  pointwise []
  rw [← hv]; simp only [pay16, pay3]

/-- The gradient of the input. -/
theorem pay18 (gq gk gv : Vec Ideal S1920x1024 .f32) (aq ak av sq sk sv : Vec Ideal S1x1 .f32) (wq wk wv : Vec Ideal S1536x1024 .fp8e4m3) (x y : Vec Ideal S1920x1536 .bf16) (n : Vec Ideal S1x1536 .f32) (i : Fin 1920) (d : Fin 1536) :
    k0_pay18 (F := Ideal) (k0_pay2 x) (k0_pay3 x) (k0_pay4 y) (k0_pay11 av) (k0_pay12 gv av) (k0_pay13 (k0_pay5 aq) (k0_pay6 gq aq) wq sq) (k0_pay14 gk (k0_pay7 ak) (k0_pay8 (F := Ideal)) wk) (k0_pay15 (k0_pay7 ak) (k0_pay8 (F := Ideal))) sk wv sv n (ix2 i d)
      = dxr (fun k => x (ix2 i k)) (fun k => y (ix2 i k)) (fun k => n (ix2 0 k)) (dxn (fun k => gq (ix2 i k)) (fun k => gk (ix2 i k)) (fun k => gv (ix2 i k)) (aq (ix2 0 0)) (ak (ix2 0 0)) (av (ix2 0 0)) (sq (ix2 0 0)) (sk (ix2 0 0)) (sv (ix2 0 0)) wq wk wv) d := by
  unfold k0_pay18
  generalize hv : k0_pay16 (F := Ideal) (k0_pay11 av) (k0_pay12 gv av) (k0_pay13 (k0_pay5 aq) (k0_pay6 gq aq) wq sq) (k0_pay14 gk (k0_pay7 ak) (k0_pay8 (F := Ideal)) wk) (k0_pay15 (k0_pay7 ak) (k0_pay8 (F := Ideal))) sk wv sv = v
  pointwise [k0_pay4]
  rw [← hv]; simp only [pay16, pay3, pay2]; rfl

variable (m : (ℓ : Loc nD τ sig) → Buf (Elt Ideal) ℓ) (c : Dev nD)

/-- The argument arrays as the region finds them. -/
def args : Args where
  gq := V m c main_arg8
  gk := V m c main_arg9
  gv := V m c main_arg10
  aq := (V m c main_v5 : Vec Ideal S1x1 .f32) (ix2 0 0)
  ak := (V m c main_v6 : Vec Ideal S1x1 .f32) (ix2 0 0)
  av := (V m c main_v7 : Vec Ideal S1x1 .f32) (ix2 0 0)
  sq := (V m c main_v2 : Vec Ideal S1x1 .f32) (ix2 0 0)
  sk := (V m c main_v3 : Vec Ideal S1x1 .f32) (ix2 0 0)
  sv := (V m c main_v4 : Vec Ideal S1x1 .f32) (ix2 0 0)
  wq := V m c main_arg2
  wk := V m c main_arg3
  wv := V m c main_arg4
  x := V m c main_v0
  y := V m c main_v8
  n := V m c main_v1

theorem result15 : (dats m 0 c).arrAt 15 cfg0.N = (args m c).dx := by
  rw [final15]
  unfold_out out0_15
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact pay18 _ _ _ _ _ _ _ _ _ _ _ _ _ _ _ j0 j1

theorem result16 : (dats m 0 c).arrAt 16 cfg0.N = (args m c).dxn := by
  rw [final16]
  unfold_out out0_16
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact pay16 _ _ _ _ _ _ _ _ _ _ _ _ j0 j1

theorem result17 : (dats m 0 c).arrAt 17 cfg0.N = codes (args m c).gq (args m c).aq := by
  rw [final17]
  unfold_out out0_17
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact code6 _ _ (ix2 j0 j1)

theorem result18 : (dats m 0 c).arrAt 18 cfg0.N = codes (args m c).gk (args m c).ak := by
  rw [final18]
  unfold_out out0_18
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact code10 _ _ (ix2 j0 j1)

theorem result19 : (dats m 0 c).arrAt 19 cfg0.N = codes (args m c).gv (args m c).av := by
  rw [final19]
  unfold_out out0_19
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact code12 _ _ (ix2 j0 j1)

theorem result20 : (dats m 0 c).arrAt 20 cfg0.N = (args m c).dnorm := by
  rw [final20]
  unfold_out out0_20
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact pay17 _ _ _ _ _ _ _ _ _ _ _ _ _ j0 j1

theorem result21 : (dats m 0 c).arrAt 21 cfg0.N = qscale (args m c).aq := by
  rw [final21]
  unfold_out out0_21
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact qs5 _ (ix2 j0 j1)

theorem result22 : (dats m 0 c).arrAt 22 cfg0.N = qscale (args m c).ak := by
  rw [final22]
  unfold_out out0_22
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact qs9 _ (ix2 j0 j1)

theorem result23 : (dats m 0 c).arrAt 23 cfg0.N = qscale (args m c).av := by
  rw [final23]
  unfold_out out0_23
  first | rw [View.canon_unit_zero hz] | rw [r0_0, View.canon_unit_zero hz] | rw [r0_1, View.canon_unit_zero hz] | rw [r0_2, View.canon_unit_zero hz] | rw [r0_4, View.canon_unit_zero hz]
  simp only [r0_0, r0_1, r0_2, r0_3, r0_4, View.ld_unit_zero (S := S1920x1536) hz, View.ld_unit_zero (S := S1920x1024) hz, View.ld_unit_zero (S := S1x1) hz, View.ld_unit_zero (S := S1536x1024) hz, View.ld_unit_zero (S := S1x1536) hz]
  funext j
  idx_vars j
  exact qs11 _ (ix2 j0 j1)

end Cert.RDxIdeal.Read

end
-- ==== Proof.Dx.lean ====
/-
  The input gradient: the kernel, over six blocks of 320 rows, and the reference, over the whole arrays at once, leave the same
  nine arrays.
-/
module

public import proofs.«01_k».proof.Defs
public import proofs.«01_k».proof.Proof.DxKernel
public import proofs.«01_k».proof.Proof.DxReference

@[expose] public section

set_option maxRecDepth 16384
set_option maxHeartbeats 2000000

noncomputable section

open Idealize.ShloMosaic Idealize.ShloMosaic.TcCoe Idealize.SL.Sem

namespace Cert.Dx

open Cert.Common

/-- Both sides' arrays are the same reshapes of the same arguments, so the results agree. -/
theorem algebraic : Cert.algebraic_KDxIdeal_RDxIdeal := by
  intro m g m' g' _ hargs
  refine ⟨fun c => (Cert.KDxIdeal.Gen.dats m 0 c).arrAt 15 Cert.KDxIdeal.cfg0.N, fun c => (Cert.KDxIdeal.Gen.dats m 0 c).arrAt 16 Cert.KDxIdeal.cfg0.N,
    fun c => (Cert.KDxIdeal.Gen.dats m 0 c).arrAt 17 Cert.KDxIdeal.cfg0.N, fun c => (Cert.KDxIdeal.Gen.dats m 0 c).arrAt 18 Cert.KDxIdeal.cfg0.N,
    fun c => (Cert.KDxIdeal.Gen.dats m 0 c).arrAt 19 Cert.KDxIdeal.cfg0.N, fun c => (Cert.KDxIdeal.Gen.dats m 0 c).arrAt 20 Cert.KDxIdeal.cfg0.N,
    fun c => (Cert.KDxIdeal.Gen.dats m 0 c).arrAt 21 Cert.KDxIdeal.cfg0.N, fun c => (Cert.KDxIdeal.Gen.dats m 0 c).arrAt 22 Cert.KDxIdeal.cfg0.N,
    fun c => (Cert.KDxIdeal.Gen.dats m 0 c).arrAt 23 Cert.KDxIdeal.cfg0.N, Cert.KDxIdeal.Value.run_blocks m g, ?_⟩
  refine (θ_run _ _ _).mono (fun r h c => ?_) (Cert.RDxIdeal.Value.run_blocks m' g')
  obtain ⟨h0, h1, h2, h3, h4, h5, h6, h7, h8, h⟩ := h c
  obtain ⟨e0, e1, e2, e3, e4, e5, e6, e7, e8, e9, e10, e11, e12, e13, e14⟩ := hargs c
  have e : Cert.RDxIdeal.Read.args m' c = Cert.KDxIdeal.Read.args m c := by
    refine Args.ext ?_ ?_ ?_ ?_ ?_ ?_ ?_ ?_ ?_ ?_ ?_ ?_ ?_ ?_ ?_
    · exact (Cert.RDxIdeal.Gen.V_main_arg8 m' c).trans (e8.trans (Cert.KDxIdeal.Gen.V_main_arg8 m c).symm)
    · exact (Cert.RDxIdeal.Gen.V_main_arg9 m' c).trans (e9.trans (Cert.KDxIdeal.Gen.V_main_arg9 m c).symm)
    · exact (Cert.RDxIdeal.Gen.V_main_arg10 m' c).trans (e10.trans (Cert.KDxIdeal.Gen.V_main_arg10 m c).symm)
    · show (Cert.RDxIdeal.Gen.V m' c Cert.RDxIdeal.main_v5 : Vec Ideal Cert.RDxIdeal.S1x1 .f32) (ix2 0 0) = (Cert.KDxIdeal.Gen.V m c Cert.KDxIdeal.main_v6 : Vec Ideal Cert.KDxIdeal.S1 .f32) (ix1 0)
      rw [Cert.RDxIdeal.Read.arr_main_v5, Cert.KDxIdeal.Read.arr_main_v6, scalar, scalar, e11]
    · show (Cert.RDxIdeal.Gen.V m' c Cert.RDxIdeal.main_v6 : Vec Ideal Cert.RDxIdeal.S1x1 .f32) (ix2 0 0) = (Cert.KDxIdeal.Gen.V m c Cert.KDxIdeal.main_v7 : Vec Ideal Cert.KDxIdeal.S1 .f32) (ix1 0)
      rw [Cert.RDxIdeal.Read.arr_main_v6, Cert.KDxIdeal.Read.arr_main_v7, scalar, scalar, e12]
    · show (Cert.RDxIdeal.Gen.V m' c Cert.RDxIdeal.main_v7 : Vec Ideal Cert.RDxIdeal.S1x1 .f32) (ix2 0 0) = (Cert.KDxIdeal.Gen.V m c Cert.KDxIdeal.main_v8 : Vec Ideal Cert.KDxIdeal.S1 .f32) (ix1 0)
      rw [Cert.RDxIdeal.Read.arr_main_v7, Cert.KDxIdeal.Read.arr_main_v8, scalar, scalar, e13]
    · show (Cert.RDxIdeal.Gen.V m' c Cert.RDxIdeal.main_v2 : Vec Ideal Cert.RDxIdeal.S1x1 .f32) (ix2 0 0) = (Cert.KDxIdeal.Gen.V m c Cert.KDxIdeal.main_v3 : Vec Ideal Cert.KDxIdeal.S1 .f32) (ix1 0)
      rw [Cert.RDxIdeal.Read.arr_main_v2, Cert.KDxIdeal.Read.arr_main_v3, scalar, scalar, e5]
    · show (Cert.RDxIdeal.Gen.V m' c Cert.RDxIdeal.main_v3 : Vec Ideal Cert.RDxIdeal.S1x1 .f32) (ix2 0 0) = (Cert.KDxIdeal.Gen.V m c Cert.KDxIdeal.main_v4 : Vec Ideal Cert.KDxIdeal.S1 .f32) (ix1 0)
      rw [Cert.RDxIdeal.Read.arr_main_v3, Cert.KDxIdeal.Read.arr_main_v4, scalar, scalar, e6]
    · show (Cert.RDxIdeal.Gen.V m' c Cert.RDxIdeal.main_v4 : Vec Ideal Cert.RDxIdeal.S1x1 .f32) (ix2 0 0) = (Cert.KDxIdeal.Gen.V m c Cert.KDxIdeal.main_v5 : Vec Ideal Cert.KDxIdeal.S1 .f32) (ix1 0)
      rw [Cert.RDxIdeal.Read.arr_main_v4, Cert.KDxIdeal.Read.arr_main_v5, scalar, scalar, e7]
    · exact (Cert.RDxIdeal.Gen.V_main_arg2 m' c).trans (e2.trans (Cert.KDxIdeal.Gen.V_main_arg2 m c).symm)
    · exact (Cert.RDxIdeal.Gen.V_main_arg3 m' c).trans (e3.trans (Cert.KDxIdeal.Gen.V_main_arg3 m c).symm)
    · exact (Cert.RDxIdeal.Gen.V_main_arg4 m' c).trans (e4.trans (Cert.KDxIdeal.Gen.V_main_arg4 m c).symm)
    · show Cert.RDxIdeal.Gen.V m' c Cert.RDxIdeal.main_v0 = Cert.KDxIdeal.Gen.V m c Cert.KDxIdeal.main_v0
      rw [Cert.RDxIdeal.Read.arr_main_v0, Cert.KDxIdeal.Read.arr_main_v0, e0]
    · show Cert.RDxIdeal.Gen.V m' c Cert.RDxIdeal.main_v8 = Cert.KDxIdeal.Gen.V m c Cert.KDxIdeal.main_v1
      rw [Cert.RDxIdeal.Read.arr_main_v8, Cert.KDxIdeal.Read.arr_main_v1, e14]
    · show Cert.RDxIdeal.Gen.V m' c Cert.RDxIdeal.main_v1 = Cert.KDxIdeal.Gen.V m c Cert.KDxIdeal.main_v2
      rw [Cert.RDxIdeal.Read.arr_main_v1, Cert.KDxIdeal.Read.arr_main_v2, e1]
  refine ⟨h0.trans ?_, h1.trans ?_, h2.trans ?_, h3.trans ?_, h4.trans ?_, h5.trans ?_, h6.trans ?_, h7.trans ?_, h8.trans ?_, h⟩
  · rw [Cert.RDxIdeal.Read.result15, e]; exact (Cert.KDxIdeal.Read.result15 m c).symm
  · rw [Cert.RDxIdeal.Read.result16, e]; exact (Cert.KDxIdeal.Read.result16 m c).symm
  · rw [Cert.RDxIdeal.Read.result17, e]; exact (Cert.KDxIdeal.Read.result17 m c).symm
  · rw [Cert.RDxIdeal.Read.result18, e]; exact (Cert.KDxIdeal.Read.result18 m c).symm
  · rw [Cert.RDxIdeal.Read.result19, e]; exact (Cert.KDxIdeal.Read.result19 m c).symm
  · rw [Cert.RDxIdeal.Read.result20, e]; exact (Cert.KDxIdeal.Read.result20 m c).symm
  · rw [Cert.RDxIdeal.Read.result21, e]; exact (Cert.KDxIdeal.Read.result21 m c).symm
  · rw [Cert.RDxIdeal.Read.result22, e]; exact (Cert.KDxIdeal.Read.result22 m c).symm
  · rw [Cert.RDxIdeal.Read.result23, e]; exact (Cert.KDxIdeal.Read.result23 m c).symm

end Cert.Dx

end
-- ==== Proof.KProjIdealRead.lean ====
/-
  The kernel of the projections: what the blocks of its windows are in the whole arrays, and when the array a window
  writes back is a given array.
-/
module

public import proofs.«01_k».proof.Proof.Common
public import proofs.«01_k».proof.Proof.Gen.KProjIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KProjIdeal.Read

open Cert.KProjIdeal Cert.KProjIdeal.Gen Cert.Common

variable (m : (ℓ : Loc nD τ sig) → Buf (Elt Ideal) ℓ) (c : Dev nD)

theorem arr_main_v0 : (V m c main_v0 : Vec Ideal S1 .f32) = shapeCast S1 (m ((c : Thread nD τ).loc main_arg6)) shapeCasts_S_S1 := by
  dsimp only [V, hostOps0]; after_results; rfl

theorem arr_main_v1 : (V m c main_v1 : Vec Ideal S1 .f32) = shapeCast S1 (m ((c : Thread nD τ).loc main_arg7)) shapeCasts_S_S1 := by
  dsimp only [V, hostOps0]; after_results; rfl

theorem arr_main_v2 : (V m c main_v2 : Vec Ideal S1 .f32) = shapeCast S1 (m ((c : Thread nD τ).loc main_arg8)) shapeCasts_S_S1 := by
  dsimp only [V, hostOps0]; after_results; rfl

theorem arr_main_v3 : (V m c main_v3 : Vec Ideal S1 .f32) = shapeCast S1 (m ((c : Thread nD τ).loc main_arg9)) shapeCasts_S_S1 := by
  dsimp only [V, hostOps0]; after_results; rfl

theorem arr_main_v4 : (V m c main_v4 : Vec Ideal S1 .f32) = shapeCast S1 (m ((c : Thread nD τ).loc main_arg10)) shapeCasts_S_S1 := by
  dsimp only [V, hostOps0]; after_results; rfl

theorem arr_main_v5 : (V m c main_v5 : Vec Ideal S1 .f32) = shapeCast S1 (m ((c : Thread nD τ).loc main_arg11)) shapeCasts_S_S1 := by
  dsimp only [V, hostOps0]; after_results; rfl

theorem arr_main_v6 : (V m c main_v6 : Vec Ideal S1920x1536 .bf16) = shapeCast S1920x1536 (m ((c : Thread nD τ).loc main_arg0)) shapeCasts_S3x640x1536_S1920x1536 := by
  dsimp only [V, hostOps0]; after_results; rfl

theorem arr_main_v7 : (V m c main_v7 : Vec Ideal S1920x1536 .bf16) = shapeCast S1920x1536 (m ((c : Thread nD τ).loc main_arg12)) shapeCasts_S3x640x1536_S1920x1536 := by
  dsimp only [V, hostOps0]; after_results; rfl

theorem arr_main_v8 : (V m c main_v8 : Vec Ideal S1x1536 .f32) = shapeCast S1x1536 (m ((c : Thread nD τ).loc main_arg1)) shapeCasts_S1536_S1x1536 := by
  dsimp only [V, hostOps0]; after_results; rfl

theorem at0 : ∀ (t : Fin cfg0.N) (a : Fin 1), win0_0.index t a = 0 :=
  (by decide +kernel : ∀ (t : Fin grid0.N) (a : Fin 1), win0_0.index t a = 0)

theorem blk0 (t : Fin cfg0.N) : (iblk m c 0 t : Vec Ideal S1 .f32) = V m c main_v0 :=
  Memref.read_access_unit_zero (Elt Ideal) main_v0 (off := fun a => win0_0.index t a * main_v0.ty.shape.size a) (funext fun a => by rw [at0 t a, Nat.zero_mul]) (fun a => by rw [at0 t a]; simp) _

theorem at1 : ∀ (t : Fin cfg0.N) (a : Fin 1), win0_1.index t a = 0 :=
  (by decide +kernel : ∀ (t : Fin grid0.N) (a : Fin 1), win0_1.index t a = 0)

theorem blk1 (t : Fin cfg0.N) : (iblk m c 1 t : Vec Ideal S1 .f32) = V m c main_v1 :=
  Memref.read_access_unit_zero (Elt Ideal) main_v1 (off := fun a => win0_1.index t a * main_v1.ty.shape.size a) (funext fun a => by rw [at1 t a, Nat.zero_mul]) (fun a => by rw [at1 t a]; simp) _

theorem at2 : ∀ (t : Fin cfg0.N) (a : Fin 1), win0_2.index t a = 0 :=
  (by decide +kernel : ∀ (t : Fin grid0.N) (a : Fin 1), win0_2.index t a = 0)

theorem blk2 (t : Fin cfg0.N) : (iblk m c 2 t : Vec Ideal S1 .f32) = V m c main_v2 :=
  Memref.read_access_unit_zero (Elt Ideal) main_v2 (off := fun a => win0_2.index t a * main_v2.ty.shape.size a) (funext fun a => by rw [at2 t a, Nat.zero_mul]) (fun a => by rw [at2 t a]; simp) _

theorem at3 : ∀ (t : Fin cfg0.N) (a : Fin 1), win0_3.index t a = 0 :=
  (by decide +kernel : ∀ (t : Fin grid0.N) (a : Fin 1), win0_3.index t a = 0)

theorem blk3 (t : Fin cfg0.N) : (iblk m c 3 t : Vec Ideal S1 .f32) = V m c main_v3 :=
  Memref.read_access_unit_zero (Elt Ideal) main_v3 (off := fun a => win0_3.index t a * main_v3.ty.shape.size a) (funext fun a => by rw [at3 t a, Nat.zero_mul]) (fun a => by rw [at3 t a]; simp) _

theorem at4 : ∀ (t : Fin cfg0.N) (a : Fin 1), win0_4.index t a = 0 :=
  (by decide +kernel : ∀ (t : Fin grid0.N) (a : Fin 1), win0_4.index t a = 0)

theorem blk4 (t : Fin cfg0.N) : (iblk m c 4 t : Vec Ideal S1 .f32) = V m c main_v4 :=
  Memref.read_access_unit_zero (Elt Ideal) main_v4 (off := fun a => win0_4.index t a * main_v4.ty.shape.size a) (funext fun a => by rw [at4 t a, Nat.zero_mul]) (fun a => by rw [at4 t a]; simp) _

theorem at5 : ∀ (t : Fin cfg0.N) (a : Fin 1), win0_5.index t a = 0 :=
  (by decide +kernel : ∀ (t : Fin grid0.N) (a : Fin 1), win0_5.index t a = 0)

theorem blk5 (t : Fin cfg0.N) : (iblk m c 5 t : Vec Ideal S1 .f32) = V m c main_v5 :=
  Memref.read_access_unit_zero (Elt Ideal) main_v5 (off := fun a => win0_5.index t a * main_v5.ty.shape.size a) (funext fun a => by rw [at5 t a, Nat.zero_mul]) (fun a => by rw [at5 t a]; simp) _

/-- Where position `r` of block `t` lies in the whole axis. -/
def pos320_1920 (t : Fin cfg0.N) (r : Fin 320) : Fin 1920 :=
  ⟨320 * t.val + r.val, by have hN : cfg0.N = 6 := N_0; have := t.isLt; have := r.isLt; omega⟩

theorem at6 : ∀ t : Fin cfg0.N, win0_6.index t 0 = t.val ∧ win0_6.index t 1 = 0 :=
  (by decide +kernel : ∀ t : Fin grid0.N, win0_6.index t 0 = t.val ∧ win0_6.index t 1 = 0)

theorem blk6 (t : Fin cfg0.N) (j : S320x1536.Idx) : (iblk m c 6 t : Vec Ideal S320x1536 .bf16) j = (V m c main_v6 : Vec Ideal S1920x1536 .bf16) (ix2 (pos320_1920 t (j 0)) (j 1)) := by
  unfold iblk; rw [View.read_apply]
  show V m c main_v6 _ = V m c main_v6 _
  congr 1; funext a; apply Fin.ext
  match a with
  | ⟨0, _⟩ => show win0_6.index t 0 * 320 + 1 * (j 0).val = 320 * t.val + (j 0).val; rw [(at6 t).1]; omega
  | ⟨1, _⟩ => show win0_6.index t 1 * 1536 + 1 * (j 1).val = (j 1).val; rw [(at6 t).2]; omega

theorem at7 : ∀ (t : Fin cfg0.N) (a : Fin 2), win0_7.index t a = 0 :=
  (by decide +kernel : ∀ (t : Fin grid0.N) (a : Fin 2), win0_7.index t a = 0)

theorem blk7 (t : Fin cfg0.N) : (iblk m c 7 t : Vec Ideal S1x1536 .f32) = V m c main_v8 :=
  Memref.read_access_unit_zero (Elt Ideal) main_v8 (off := fun a => win0_7.index t a * main_v8.ty.shape.size a) (funext fun a => by rw [at7 t a, Nat.zero_mul]) (fun a => by rw [at7 t a]; simp) _

theorem at8 : ∀ (t : Fin cfg0.N) (a : Fin 2), win0_8.index t a = 0 :=
  (by decide +kernel : ∀ (t : Fin grid0.N) (a : Fin 2), win0_8.index t a = 0)

theorem blk8 (t : Fin cfg0.N) : (iblk m c 8 t : Vec Ideal S1536x1024 .fp8e4m3) = V m c main_arg2 :=
  Memref.read_access_unit_zero (Elt Ideal) main_arg2 (off := fun a => win0_8.index t a * main_arg2.ty.shape.size a) (funext fun a => by rw [at8 t a, Nat.zero_mul]) (fun a => by rw [at8 t a]; simp) _

theorem at9 : ∀ (t : Fin cfg0.N) (a : Fin 2), win0_9.index t a = 0 :=
  (by decide +kernel : ∀ (t : Fin grid0.N) (a : Fin 2), win0_9.index t a = 0)

theorem blk9 (t : Fin cfg0.N) : (iblk m c 9 t : Vec Ideal S1536x1024 .fp8e4m3) = V m c main_arg3 :=
  Memref.read_access_unit_zero (Elt Ideal) main_arg3 (off := fun a => win0_9.index t a * main_arg3.ty.shape.size a) (funext fun a => by rw [at9 t a, Nat.zero_mul]) (fun a => by rw [at9 t a]; simp) _

theorem at10 : ∀ (t : Fin cfg0.N) (a : Fin 2), win0_10.index t a = 0 :=
  (by decide +kernel : ∀ (t : Fin grid0.N) (a : Fin 2), win0_10.index t a = 0)

theorem blk10 (t : Fin cfg0.N) : (iblk m c 10 t : Vec Ideal S1536x1024 .fp8e4m3) = V m c main_arg4 :=
  Memref.read_access_unit_zero (Elt Ideal) main_arg4 (off := fun a => win0_10.index t a * main_arg4.ty.shape.size a) (funext fun a => by rw [at10 t a, Nat.zero_mul]) (fun a => by rw [at10 t a]; simp) _

theorem at11 : ∀ (t : Fin cfg0.N) (a : Fin 2), win0_11.index t a = 0 :=
  (by decide +kernel : ∀ (t : Fin grid0.N) (a : Fin 2), win0_11.index t a = 0)

theorem blk11 (t : Fin cfg0.N) : (iblk m c 11 t : Vec Ideal S1024x1536 .fp8e4m3) = V m c main_arg5 :=
  Memref.read_access_unit_zero (Elt Ideal) main_arg5 (off := fun a => win0_11.index t a * main_arg5.ty.shape.size a) (funext fun a => by rw [at11 t a, Nat.zero_mul]) (fun a => by rw [at11 t a]; simp) _

theorem at12 : ∀ t : Fin cfg0.N, win0_12.index t 0 = t.val ∧ win0_12.index t 1 = 0 :=
  (by decide +kernel : ∀ t : Fin grid0.N, win0_12.index t 0 = t.val ∧ win0_12.index t 1 = 0)

theorem blk12 (t : Fin cfg0.N) (j : S320x1536.Idx) : (iblk m c 12 t : Vec Ideal S320x1536 .bf16) j = (V m c main_v7 : Vec Ideal S1920x1536 .bf16) (ix2 (pos320_1920 t (j 0)) (j 1)) := by
  unfold iblk; rw [View.read_apply]
  show V m c main_v7 _ = V m c main_v7 _
  congr 1; funext a; apply Fin.ext
  match a with
  | ⟨0, _⟩ => show win0_12.index t 0 * 320 + 1 * (j 0).val = 320 * t.val + (j 0).val; rw [(at12 t).1]; omega
  | ⟨1, _⟩ => show win0_12.index t 1 * 1536 + 1 * (j 1).val = (j 1).val; rw [(at12 t).2]; omega

theorem at13 : ∀ t : Fin cfg0.N, win0_13.index t 0 = t.val ∧ win0_13.index t 1 = 0 :=
  (by decide +kernel : ∀ t : Fin grid0.N, win0_13.index t 0 = t.val ∧ win0_13.index t 1 = 0)

theorem emb13 (t : Fin cfg0.N) (j : S320x1536.Idx) : (((cfg0.win 13).blk t).view.emb j : S1920x1536.Idx) = ix2 (pos320_1920 t (j 0)) (j 1) := by
  funext a; apply Fin.ext
  match a with
  | ⟨0, _⟩ => show win0_13.index t 0 * 320 + 1 * (j 0).val = 320 * t.val + (j 0).val; rw [(at13 t).1]; omega
  | ⟨1, _⟩ => show win0_13.index t 1 * 1536 + 1 * (j 1).val = (j 1).val; rw [(at13 t).2]; omega

theorem cover13 (i : S1920x1536.Idx) : ∃ t : Fin cfg0.N, (cfg0.win 13).flush t = true ∧ i ∈ ((cfg0.win 13).blk t).view.set := by
  have hN : cfg0.N = 6 := N_0
  have h0 : (i 0 : Nat) < 1920 := (i 0).isLt
  have ht : (i 0).val / 320 < cfg0.N := by omega
  refine ⟨⟨(i 0).val / 320, ht⟩, flush0_13 _, ?_⟩
  have h := ((cfg0.win 13).blk ⟨(i 0).val / 320, ht⟩).view.emb_mem_set (ix2 ⟨(i 0).val % 320, Nat.mod_lt _ (by decide)⟩ (i 1))
  have e : (((cfg0.win 13).blk ⟨(i 0).val / 320, ht⟩).view.emb (ix2 ⟨(i 0).val % 320, Nat.mod_lt _ (by decide)⟩ (i 1)) : S1920x1536.Idx) = i := by
    rw [emb13]
    funext a; apply Fin.ext
    match a with
    | ⟨0, _⟩ => show 320 * ((i 0).val / 320) + (i 0).val % 320 = (i 0).val; omega
    | ⟨1, _⟩ => rfl
  rw [e] at h
  exact h

theorem final13 (G : Vec Ideal S1920x1536 .fp8e4m3) (h : ∀ (t : Fin cfg0.N) (j : S320x1536.Idx), ((dats m 0 c).after 13 t : Vec Ideal S320x1536 .fp8e4m3) j = G (ix2 (pos320_1920 t (j 0)) (j 1))) :
    (dats m 0 c).arrAt 13 cfg0.N = G := by
  refine (dats m 0 c).arrAt_eq_of_cover 13 G (fun t hf => ?_) cover13
  funext j
  rw [View.read_apply]
  refine Eq.trans ?_ ((h t j).trans (congrArg G (emb13 t j).symm))
  rfl

theorem at14 : ∀ t : Fin cfg0.N, win0_14.index t 0 = t.val ∧ win0_14.index t 1 = 0 :=
  (by decide +kernel : ∀ t : Fin grid0.N, win0_14.index t 0 = t.val ∧ win0_14.index t 1 = 0)

theorem emb14 (t : Fin cfg0.N) (j : S320x1536.Idx) : (((cfg0.win 14).blk t).view.emb j : S1920x1536.Idx) = ix2 (pos320_1920 t (j 0)) (j 1) := by
  funext a; apply Fin.ext
  match a with
  | ⟨0, _⟩ => show win0_14.index t 0 * 320 + 1 * (j 0).val = 320 * t.val + (j 0).val; rw [(at14 t).1]; omega
  | ⟨1, _⟩ => show win0_14.index t 1 * 1536 + 1 * (j 1).val = (j 1).val; rw [(at14 t).2]; omega

theorem cover14 (i : S1920x1536.Idx) : ∃ t : Fin cfg0.N, (cfg0.win 14).flush t = true ∧ i ∈ ((cfg0.win 14).blk t).view.set := by
  have hN : cfg0.N = 6 := N_0
  have h0 : (i 0 : Nat) < 1920 := (i 0).isLt
  have ht : (i 0).val / 320 < cfg0.N := by omega
  refine ⟨⟨(i 0).val / 320, ht⟩, flush0_14 _, ?_⟩
  have h := ((cfg0.win 14).blk ⟨(i 0).val / 320, ht⟩).view.emb_mem_set (ix2 ⟨(i 0).val % 320, Nat.mod_lt _ (by decide)⟩ (i 1))
  have e : (((cfg0.win 14).blk ⟨(i 0).val / 320, ht⟩).view.emb (ix2 ⟨(i 0).val % 320, Nat.mod_lt _ (by decide)⟩ (i 1)) : S1920x1536.Idx) = i := by
    rw [emb14]
    funext a; apply Fin.ext
    match a with
    | ⟨0, _⟩ => show 320 * ((i 0).val / 320) + (i 0).val % 320 = (i 0).val; omega
    | ⟨1, _⟩ => rfl
  rw [e] at h
  exact h

theorem final14 (G : Vec Ideal S1920x1536 .fp8e5m2) (h : ∀ (t : Fin cfg0.N) (j : S320x1536.Idx), ((dats m 0 c).after 14 t : Vec Ideal S320x1536 .fp8e5m2) j = G (ix2 (pos320_1920 t (j 0)) (j 1))) :
    (dats m 0 c).arrAt 14 cfg0.N = G := by
  refine (dats m 0 c).arrAt_eq_of_cover 14 G (fun t hf => ?_) cover14
  funext j
  rw [View.read_apply]
  refine Eq.trans ?_ ((h t j).trans (congrArg G (emb14 t j).symm))
  rfl

theorem at15 : ∀ t : Fin cfg0.N, win0_15.index t 0 = t.val ∧ win0_15.index t 1 = 0 :=
  (by decide +kernel : ∀ t : Fin grid0.N, win0_15.index t 0 = t.val ∧ win0_15.index t 1 = 0)

theorem emb15 (t : Fin cfg0.N) (j : S320x1024.Idx) : (((cfg0.win 15).blk t).view.emb j : S1920x1024.Idx) = ix2 (pos320_1920 t (j 0)) (j 1) := by
  funext a; apply Fin.ext
  match a with
  | ⟨0, _⟩ => show win0_15.index t 0 * 320 + 1 * (j 0).val = 320 * t.val + (j 0).val; rw [(at15 t).1]; omega
  | ⟨1, _⟩ => show win0_15.index t 1 * 1024 + 1 * (j 1).val = (j 1).val; rw [(at15 t).2]; omega

theorem cover15 (i : S1920x1024.Idx) : ∃ t : Fin cfg0.N, (cfg0.win 15).flush t = true ∧ i ∈ ((cfg0.win 15).blk t).view.set := by
  have hN : cfg0.N = 6 := N_0
  have h0 : (i 0 : Nat) < 1920 := (i 0).isLt
  have ht : (i 0).val / 320 < cfg0.N := by omega
  refine ⟨⟨(i 0).val / 320, ht⟩, flush0_15 _, ?_⟩
  have h := ((cfg0.win 15).blk ⟨(i 0).val / 320, ht⟩).view.emb_mem_set (ix2 ⟨(i 0).val % 320, Nat.mod_lt _ (by decide)⟩ (i 1))
  have e : (((cfg0.win 15).blk ⟨(i 0).val / 320, ht⟩).view.emb (ix2 ⟨(i 0).val % 320, Nat.mod_lt _ (by decide)⟩ (i 1)) : S1920x1024.Idx) = i := by
    rw [emb15]
    funext a; apply Fin.ext
    match a with
    | ⟨0, _⟩ => show 320 * ((i 0).val / 320) + (i 0).val % 320 = (i 0).val; omega
    | ⟨1, _⟩ => rfl
  rw [e] at h
  exact h

theorem final15 (G : Vec Ideal S1920x1024 .bf16) (h : ∀ (t : Fin cfg0.N) (j : S320x1024.Idx), ((dats m 0 c).after 15 t : Vec Ideal S320x1024 .bf16) j = G (ix2 (pos320_1920 t (j 0)) (j 1))) :
    (dats m 0 c).arrAt 15 cfg0.N = G := by
  refine (dats m 0 c).arrAt_eq_of_cover 15 G (fun t hf => ?_) cover15
  funext j
  rw [View.read_apply]
  refine Eq.trans ?_ ((h t j).trans (congrArg G (emb15 t j).symm))
  rfl

theorem at16 : ∀ t : Fin cfg0.N, win0_16.index t 0 = t.val ∧ win0_16.index t 1 = 0 :=
  (by decide +kernel : ∀ t : Fin grid0.N, win0_16.index t 0 = t.val ∧ win0_16.index t 1 = 0)

theorem emb16 (t : Fin cfg0.N) (j : S320x1024.Idx) : (((cfg0.win 16).blk t).view.emb j : S1920x1024.Idx) = ix2 (pos320_1920 t (j 0)) (j 1) := by
  funext a; apply Fin.ext
  match a with
  | ⟨0, _⟩ => show win0_16.index t 0 * 320 + 1 * (j 0).val = 320 * t.val + (j 0).val; rw [(at16 t).1]; omega
  | ⟨1, _⟩ => show win0_16.index t 1 * 1024 + 1 * (j 1).val = (j 1).val; rw [(at16 t).2]; omega

theorem cover16 (i : S1920x1024.Idx) : ∃ t : Fin cfg0.N, (cfg0.win 16).flush t = true ∧ i ∈ ((cfg0.win 16).blk t).view.set := by
  have hN : cfg0.N = 6 := N_0
  have h0 : (i 0 : Nat) < 1920 := (i 0).isLt
  have ht : (i 0).val / 320 < cfg0.N := by omega
  refine ⟨⟨(i 0).val / 320, ht⟩, flush0_16 _, ?_⟩
  have h := ((cfg0.win 16).blk ⟨(i 0).val / 320, ht⟩).view.emb_mem_set (ix2 ⟨(i 0).val % 320, Nat.mod_lt _ (by decide)⟩ (i 1))
  have e : (((cfg0.win 16).blk ⟨(i 0).val / 320, ht⟩).view.emb (ix2 ⟨(i 0).val % 320, Nat.mod_lt _ (by decide)⟩ (i 1)) : S1920x1024.Idx) = i := by
    rw [emb16]
    funext a; apply Fin.ext
    match a with
    | ⟨0, _⟩ => show 320 * ((i 0).val / 320) + (i 0).val % 320 = (i 0).val; omega
    | ⟨1, _⟩ => rfl
  rw [e] at h
  exact h

theorem final16 (G : Vec Ideal S1920x1024 .bf16) (h : ∀ (t : Fin cfg0.N) (j : S320x1024.Idx), ((dats m 0 c).after 16 t : Vec Ideal S320x1024 .bf16) j = G (ix2 (pos320_1920 t (j 0)) (j 1))) :
    (dats m 0 c).arrAt 16 cfg0.N = G := by
  refine (dats m 0 c).arrAt_eq_of_cover 16 G (fun t hf => ?_) cover16
  funext j
  rw [View.read_apply]
  refine Eq.trans ?_ ((h t j).trans (congrArg G (emb16 t j).symm))
  rfl

theorem at17 : ∀ t : Fin cfg0.N, win0_17.index t 0 = t.val ∧ win0_17.index t 1 = 0 :=
  (by decide +kernel : ∀ t : Fin grid0.N, win0_17.index t 0 = t.val ∧ win0_17.index t 1 = 0)

theorem emb17 (t : Fin cfg0.N) (j : S320x1024.Idx) : (((cfg0.win 17).blk t).view.emb j : S1920x1024.Idx) = ix2 (pos320_1920 t (j 0)) (j 1) := by
  funext a; apply Fin.ext
  match a with
  | ⟨0, _⟩ => show win0_17.index t 0 * 320 + 1 * (j 0).val = 320 * t.val + (j 0).val; rw [(at17 t).1]; omega
  | ⟨1, _⟩ => show win0_17.index t 1 * 1024 + 1 * (j 1).val = (j 1).val; rw [(at17 t).2]; omega

theorem cover17 (i : S1920x1024.Idx) : ∃ t : Fin cfg0.N, (cfg0.win 17).flush t = true ∧ i ∈ ((cfg0.win 17).blk t).view.set := by
  have hN : cfg0.N = 6 := N_0
  have h0 : (i 0 : Nat) < 1920 := (i 0).isLt
  have ht : (i 0).val / 320 < cfg0.N := by omega
  refine ⟨⟨(i 0).val / 320, ht⟩, flush0_17 _, ?_⟩
  have h := ((cfg0.win 17).blk ⟨(i 0).val / 320, ht⟩).view.emb_mem_set (ix2 ⟨(i 0).val % 320, Nat.mod_lt _ (by decide)⟩ (i 1))
  have e : (((cfg0.win 17).blk ⟨(i 0).val / 320, ht⟩).view.emb (ix2 ⟨(i 0).val % 320, Nat.mod_lt _ (by decide)⟩ (i 1)) : S1920x1024.Idx) = i := by
    rw [emb17]
    funext a; apply Fin.ext
    match a with
    | ⟨0, _⟩ => show 320 * ((i 0).val / 320) + (i 0).val % 320 = (i 0).val; omega
    | ⟨1, _⟩ => rfl
  rw [e] at h
  exact h

theorem final17 (G : Vec Ideal S1920x1024 .bf16) (h : ∀ (t : Fin cfg0.N) (j : S320x1024.Idx), ((dats m 0 c).after 17 t : Vec Ideal S320x1024 .bf16) j = G (ix2 (pos320_1920 t (j 0)) (j 1))) :
    (dats m 0 c).arrAt 17 cfg0.N = G := by
  refine (dats m 0 c).arrAt_eq_of_cover 17 G (fun t hf => ?_) cover17
  funext j
  rw [View.read_apply]
  refine Eq.trans ?_ ((h t j).trans (congrArg G (emb17 t j).symm))
  rfl

theorem at18 : ∀ t : Fin cfg0.N, win0_18.index t 0 = t.val ∧ win0_18.index t 1 = 0 :=
  (by decide +kernel : ∀ t : Fin grid0.N, win0_18.index t 0 = t.val ∧ win0_18.index t 1 = 0)

theorem emb18 (t : Fin cfg0.N) (j : S320x1024.Idx) : (((cfg0.win 18).blk t).view.emb j : S1920x1024.Idx) = ix2 (pos320_1920 t (j 0)) (j 1) := by
  funext a; apply Fin.ext
  match a with
  | ⟨0, _⟩ => show win0_18.index t 0 * 320 + 1 * (j 0).val = 320 * t.val + (j 0).val; rw [(at18 t).1]; omega
  | ⟨1, _⟩ => show win0_18.index t 1 * 1024 + 1 * (j 1).val = (j 1).val; rw [(at18 t).2]; omega

theorem cover18 (i : S1920x1024.Idx) : ∃ t : Fin cfg0.N, (cfg0.win 18).flush t = true ∧ i ∈ ((cfg0.win 18).blk t).view.set := by
  have hN : cfg0.N = 6 := N_0
  have h0 : (i 0 : Nat) < 1920 := (i 0).isLt
  have ht : (i 0).val / 320 < cfg0.N := by omega
  refine ⟨⟨(i 0).val / 320, ht⟩, flush0_18 _, ?_⟩
  have h := ((cfg0.win 18).blk ⟨(i 0).val / 320, ht⟩).view.emb_mem_set (ix2 ⟨(i 0).val % 320, Nat.mod_lt _ (by decide)⟩ (i 1))
  have e : (((cfg0.win 18).blk ⟨(i 0).val / 320, ht⟩).view.emb (ix2 ⟨(i 0).val % 320, Nat.mod_lt _ (by decide)⟩ (i 1)) : S1920x1024.Idx) = i := by
    rw [emb18]
    funext a; apply Fin.ext
    match a with
    | ⟨0, _⟩ => show 320 * ((i 0).val / 320) + (i 0).val % 320 = (i 0).val; omega
    | ⟨1, _⟩ => rfl
  rw [e] at h
  exact h

theorem final18 (G : Vec Ideal S1920x1024 .f32) (h : ∀ (t : Fin cfg0.N) (j : S320x1024.Idx), ((dats m 0 c).after 18 t : Vec Ideal S320x1024 .f32) j = G (ix2 (pos320_1920 t (j 0)) (j 1))) :
    (dats m 0 c).arrAt 18 cfg0.N = G := by
  refine (dats m 0 c).arrAt_eq_of_cover 18 G (fun t hf => ?_) cover18
  funext j
  rw [View.read_apply]
  refine Eq.trans ?_ ((h t j).trans (congrArg G (emb18 t j).symm))
  rfl

theorem at19 : ∀ (t : Fin cfg0.N) (a : Fin 2), win0_19.index t a = 0 :=
  (by decide +kernel : ∀ (t : Fin grid0.N) (a : Fin 2), win0_19.index t a = 0)

theorem cover19 (i : S1x1.Idx) : ∃ t : Fin cfg0.N, (cfg0.win 19).flush t = true ∧ i ∈ ((cfg0.win 19).blk t).view.set := by
  have ht : 5 < cfg0.N := by decide
  refine ⟨⟨5, ht⟩, (flush0_19 _).mpr (show 5 % 6 = 5 from rfl), ?_⟩
  have h := ((cfg0.win 19).blk ⟨5, ht⟩).view.emb_mem_set i
  have e : (((cfg0.win 19).blk ⟨5, ht⟩).view.emb i : S1x1.Idx) = i := by
    funext a; apply Fin.ext
    match a with
    | ⟨0, _⟩ => show win0_19.index _ 0 * 1 + 1 * (i 0).val = (i 0).val; rw [at19 _ 0]; omega
    | ⟨1, _⟩ => show win0_19.index _ 1 * 1 + 1 * (i 1).val = (i 1).val; rw [at19 _ 1]; omega
  rw [e] at h
  exact h

theorem final19 (G : Vec Ideal S1x1 .f32) (h : ∀ t : Fin cfg0.N, t.val = 5 → (dats m 0 c).after 19 t = G) : (dats m 0 c).arrAt 19 cfg0.N = G := by
  refine (dats m 0 c).arrAt_eq_of_cover 19 G (fun t hf => ?_) cover19
  have hN : cfg0.N = 6 := N_0
  have ht : t.val = 5 := by have := (flush0_19 t).mp hf; have := t.isLt; omega
  show (cfg0.win 19).cut (grid0.coords t) ((dats m 0 c).after 19 t) = _
  rw [h t ht]
  exact (Memref.read_access_unit_zero (Elt Ideal) main_v9_6 (off := fun a => win0_19.index t a * main_v9_6.ty.shape.size a) (funext fun a => by rw [at19 t a, Nat.zero_mul]) (fun a => by rw [at19 t a]; simp) _).symm

theorem at20 : ∀ (t : Fin cfg0.N) (a : Fin 2), win0_20.index t a = 0 :=
  (by decide +kernel : ∀ (t : Fin grid0.N) (a : Fin 2), win0_20.index t a = 0)

theorem cover20 (i : S1x1.Idx) : ∃ t : Fin cfg0.N, (cfg0.win 20).flush t = true ∧ i ∈ ((cfg0.win 20).blk t).view.set := by
  have ht : 5 < cfg0.N := by decide
  refine ⟨⟨5, ht⟩, (flush0_20 _).mpr (show 5 % 6 = 5 from rfl), ?_⟩
  have h := ((cfg0.win 20).blk ⟨5, ht⟩).view.emb_mem_set i
  have e : (((cfg0.win 20).blk ⟨5, ht⟩).view.emb i : S1x1.Idx) = i := by
    funext a; apply Fin.ext
    match a with
    | ⟨0, _⟩ => show win0_20.index _ 0 * 1 + 1 * (i 0).val = (i 0).val; rw [at20 _ 0]; omega
    | ⟨1, _⟩ => show win0_20.index _ 1 * 1 + 1 * (i 1).val = (i 1).val; rw [at20 _ 1]; omega
  rw [e] at h
  exact h

theorem final20 (G : Vec Ideal S1x1 .f32) (h : ∀ t : Fin cfg0.N, t.val = 5 → (dats m 0 c).after 20 t = G) : (dats m 0 c).arrAt 20 cfg0.N = G := by
  refine (dats m 0 c).arrAt_eq_of_cover 20 G (fun t hf => ?_) cover20
  have hN : cfg0.N = 6 := N_0
  have ht : t.val = 5 := by have := (flush0_20 t).mp hf; have := t.isLt; omega
  show (cfg0.win 20).cut (grid0.coords t) ((dats m 0 c).after 20 t) = _
  rw [h t ht]
  exact (Memref.read_access_unit_zero (Elt Ideal) main_v9_7 (off := fun a => win0_20.index t a * main_v9_7.ty.shape.size a) (funext fun a => by rw [at20 t a, Nat.zero_mul]) (fun a => by rw [at20 t a]; simp) _).symm

end Cert.KProjIdeal.Read

end
-- ==== Proof.KProjIdealBody.lean ====
/-
  What one run of the projection kernel's body leaves in each output block and in the two running maxima, as the named values
  of what it read: at the first point (A), at the points between (B) and at the last (C).
-/
module

public import proofs.«01_k».proof.Defs
public import proofs.«01_k».proof.Proof.KProjIdealRead
public import Idealize.ShloMosaic.Lib.Tactic

@[expose] public section

set_option maxRecDepth 16384

noncomputable section

open Idealize.ShloMosaic Idealize.ShloMosaic.TcCoe Idealize.SL.Sem

namespace Cert.KProjIdeal.Read

open Cert.KProjIdeal Cert.KProjIdeal.Gen Cert.Common

/-- The word a load of a one-word array reads. -/
def sc (x : Vec Ideal S1 .f32) : Elt Ideal .f32 := View.ld x (Rect.unit (s := S1) ![0] S1.size inb_S1_S1_0) (Shape.Idx.first (by decide))

theorem sc_eq (x : Vec Ideal S1 .f32) : sc x = x (ix1 0) := one x _

variable (c : Dev nD) (i : grid0.Coords)
  (a1 : Memref sig .tc .smem S1 .f32) (h1 : a1.IsWhole) (a2 : Memref sig .tc .smem S1 .f32) (h2 : a2.IsWhole) (a3 : Memref sig .tc .smem S1 .f32) (h3 : a3.IsWhole) (a4 : Memref sig .tc .smem S1 .f32) (h4 : a4.IsWhole)
  (a5 : Memref sig .tc .smem S1 .f32) (h5 : a5.IsWhole) (a6 : Memref sig .tc .smem S1 .f32) (h6 : a6.IsWhole) (a7 : Memref sig .tc .vmem S320x1536 .bf16) (h7 : a7.IsWhole) (a8 : Memref sig .tc .vmem S1x1536 .f32) (h8 : a8.IsWhole)
  (a9 : Memref sig .tc .vmem S1536x1024 .fp8e4m3) (h9 : a9.IsWhole) (a10 : Memref sig .tc .vmem S1536x1024 .fp8e4m3) (h10 : a10.IsWhole) (a11 : Memref sig .tc .vmem S1536x1024 .fp8e4m3) (h11 : a11.IsWhole) (a12 : Memref sig .tc .vmem S1024x1536 .fp8e4m3) (h12 : a12.IsWhole)
  (a13 : Memref sig .tc .vmem S320x1536 .bf16) (h13 : a13.IsWhole) (a14 : Memref sig .tc .vmem S320x1536 .fp8e4m3) (h14 : a14.IsWhole) (a15 : Memref sig .tc .vmem S320x1536 .fp8e5m2) (h15 : a15.IsWhole) (a16 : Memref sig .tc .vmem S320x1024 .bf16) (h16 : a16.IsWhole)
  (a17 : Memref sig .tc .vmem S320x1024 .bf16) (h17 : a17.IsWhole) (a18 : Memref sig .tc .vmem S320x1024 .bf16) (h18 : a18.IsWhole) (a19 : Memref sig .tc .vmem S320x1024 .f32) (h19 : a19.IsWhole) (a20 : Memref sig .tc .vmem S1x1 .f32) (h20 : a20.IsWhole)
  (a21 : Memref sig .tc .vmem S1x1 .f32) (h21 : a21.IsWhole) (a22 : Memref sig .tc .vmem S8x1536 .f32) (h22 : a22.IsWhole) (a23 : Memref sig .tc .vmem S8x1536 .f32) (h23 : a23.IsWhole)
  (x0 : Vec Ideal S1 .f32) (x1 : Vec Ideal S1 .f32) (x2 : Vec Ideal S1 .f32) (x3 : Vec Ideal S1 .f32) (x4 : Vec Ideal S1 .f32) (x5 : Vec Ideal S1 .f32) (x6 : Vec Ideal S320x1536 .bf16) (x7 : Vec Ideal S1x1536 .f32) (x8 : Vec Ideal S1536x1024 .fp8e4m3) (x9 : Vec Ideal S1536x1024 .fp8e4m3) (x10 : Vec Ideal S1536x1024 .fp8e4m3) (x11 : Vec Ideal S1024x1536 .fp8e4m3) (x12 : Vec Ideal S320x1536 .bf16)

theorem left_A_13 (hc0 : cond0_0 i) (hc1 : ¬cond0_1 i)  :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay10 x6 x7 (sc x4) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_A_14 (hc0 : cond0_0 i) (hc1 : ¬cond0_1 i)  :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay13 x12 (sc x5) := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_A_15 (hc0 : cond0_0 i) (hc1 : ¬cond0_1 i)  :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay14 (k0_pay10 x6 x7 (sc x4)) x8 (sc x4) (sc x0) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_A_16 (hc0 : cond0_0 i) (hc1 : ¬cond0_1 i)  :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay1 (k0_pay15 (k0_pay10 x6 x7 (sc x4)) x9) (k0_pay16 (sc x4)) (sc x1) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_A_17 (hc0 : cond0_0 i) (hc1 : ¬cond0_1 i)  :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay2 (k0_pay10 x6 x7 (sc x4)) x10 (sc x4) (sc x2) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_A_18 (hc0 : cond0_0 i) (hc1 : ¬cond0_1 i)  :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay3 (k0_pay13 x12 (sc x5)) x11 (sc x5) (sc x3) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_A_s0 (hc0 : cond0_0 i) (hc1 : ¬cond0_1 i)  :
    sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay9 x6 x7 (k0_pay6 (F := Ideal)) := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_A_s1 (hc0 : cond0_0 i) (hc1 : ¬cond0_1 i)  :
    sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12  = k0_pay12 x12 (k0_pay7 (F := Ideal)) := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 )]
  unfold kernelRun0_A
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_13 (hc0 : ¬cond0_0 i) (hc1 : ¬cond0_1 i) (s0 : Vec Ideal S8x1536 .f32) (s1 : Vec Ideal S8x1536 .f32) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay10 x6 x7 (sc x4) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_14 (hc0 : ¬cond0_0 i) (hc1 : ¬cond0_1 i) (s0 : Vec Ideal S8x1536 .f32) (s1 : Vec Ideal S8x1536 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay13 x12 (sc x5) := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_15 (hc0 : ¬cond0_0 i) (hc1 : ¬cond0_1 i) (s0 : Vec Ideal S8x1536 .f32) (s1 : Vec Ideal S8x1536 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay14 (k0_pay10 x6 x7 (sc x4)) x8 (sc x4) (sc x0) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_16 (hc0 : ¬cond0_0 i) (hc1 : ¬cond0_1 i) (s0 : Vec Ideal S8x1536 .f32) (s1 : Vec Ideal S8x1536 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay1 (k0_pay15 (k0_pay10 x6 x7 (sc x4)) x9) (k0_pay16 (sc x4)) (sc x1) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_17 (hc0 : ¬cond0_0 i) (hc1 : ¬cond0_1 i) (s0 : Vec Ideal S8x1536 .f32) (s1 : Vec Ideal S8x1536 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay2 (k0_pay10 x6 x7 (sc x4)) x10 (sc x4) (sc x2) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_18 (hc0 : ¬cond0_0 i) (hc1 : ¬cond0_1 i) (s0 : Vec Ideal S8x1536 .f32) (s1 : Vec Ideal S8x1536 .f32) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay3 (k0_pay13 x12 (sc x5)) x11 (sc x5) (sc x3) := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_s0 (hc0 : ¬cond0_0 i) (hc1 : ¬cond0_1 i) (s0 : Vec Ideal S8x1536 .f32) (s1 : Vec Ideal S8x1536 .f32) :
    sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay9 x6 x7 s0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_B_s1 (hc0 : ¬cond0_0 i) (hc1 : ¬cond0_1 i) (s0 : Vec Ideal S8x1536 .f32) (s1 : Vec Ideal S8x1536 .f32) :
    sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay12 x12 s1 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_B
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_13 (hc0 : ¬cond0_0 i) (hc1 : cond0_1 i) (s0 : Vec Ideal S8x1536 .f32) (s1 : Vec Ideal S8x1536 .f32) :
    out0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay10 x6 x7 (sc x4) := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_14 (hc0 : ¬cond0_0 i) (hc1 : cond0_1 i) (s0 : Vec Ideal S8x1536 .f32) (s1 : Vec Ideal S8x1536 .f32) :
    out0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay13 x12 (sc x5) := by
  unfold out0_C_14
  rw [View.read_writes_eq_canon _ _ _ (cover0_C_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_15 (hc0 : ¬cond0_0 i) (hc1 : cond0_1 i) (s0 : Vec Ideal S8x1536 .f32) (s1 : Vec Ideal S8x1536 .f32) :
    out0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay14 (k0_pay10 x6 x7 (sc x4)) x8 (sc x4) (sc x0) := by
  unfold out0_C_15
  rw [View.read_writes_eq_canon _ _ _ (cover0_C_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_16 (hc0 : ¬cond0_0 i) (hc1 : cond0_1 i) (s0 : Vec Ideal S8x1536 .f32) (s1 : Vec Ideal S8x1536 .f32) :
    out0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay1 (k0_pay15 (k0_pay10 x6 x7 (sc x4)) x9) (k0_pay16 (sc x4)) (sc x1) := by
  unfold out0_C_16
  rw [View.read_writes_eq_canon _ _ _ (cover0_C_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_17 (hc0 : ¬cond0_0 i) (hc1 : cond0_1 i) (s0 : Vec Ideal S8x1536 .f32) (s1 : Vec Ideal S8x1536 .f32) :
    out0_C_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay2 (k0_pay10 x6 x7 (sc x4)) x10 (sc x4) (sc x2) := by
  unfold out0_C_17
  rw [View.read_writes_eq_canon _ _ _ (cover0_C_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_18 (hc0 : ¬cond0_0 i) (hc1 : cond0_1 i) (s0 : Vec Ideal S8x1536 .f32) (s1 : Vec Ideal S8x1536 .f32) :
    out0_C_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay3 (k0_pay13 x12 (sc x5)) x11 (sc x5) (sc x3) := by
  unfold out0_C_18
  rw [View.read_writes_eq_canon _ _ _ (cover0_C_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_s0 (hc0 : ¬cond0_0 i) (hc1 : cond0_1 i) (s0 : Vec Ideal S8x1536 .f32) (s1 : Vec Ideal S8x1536 .f32) :
    sout0_C_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay9 x6 x7 s0 := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_s1 (hc0 : ¬cond0_0 i) (hc1 : cond0_1 i) (s0 : Vec Ideal S8x1536 .f32) (s1 : Vec Ideal S8x1536 .f32) :
    sout0_C_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay12 x12 s1 := by
  unfold sout0_C_1
  rw [View.read_writes_eq_canon _ _ _ (scover0_C_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_19 (hc0 : ¬cond0_0 i) (hc1 : cond0_1 i) (s0 : Vec Ideal S8x1536 .f32) (s1 : Vec Ideal S8x1536 .f32) :
    out0_C_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay4 (k0_pay9 x6 x7 s0) := by
  unfold out0_C_19
  rw [View.read_writes_eq_canon _ _ _ (cover0_C_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

theorem left_C_20 (hc0 : ¬cond0_0 i) (hc1 : cond0_1 i) (s0 : Vec Ideal S8x1536 .f32) (s1 : Vec Ideal S8x1536 .f32) :
    out0_C_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1 = k0_pay5 (k0_pay12 x12 s1) := by
  unfold out0_C_20
  rw [View.read_writes_eq_canon _ _ _ (cover0_C_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 hc0 hc1 x0 x1 x2 x3 x4 x5 x6 x7 x8 x9 x10 x11 x12 s0 s1)]
  unfold kernelRun0_C
  dsimp only
  sl_unfold_words
  first | rw [View.canon_unit_zero hz] | rw [View.canon_cons_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, h19.read_unread, h20.read_unread, h21.read_unread, h22.read_unread, h23.read_unread, View.ld_unit_zero (S := S320x1536) hz, View.ld_unit_zero (S := S1x1536) hz, View.ld_unit_zero (S := S1536x1024) hz, View.ld_unit_zero (S := S1024x1536) hz, View.ld_unit_zero (S := S320x1024) hz, View.ld_unit_zero (S := S1x1) hz, View.ld_unit_zero (S := S8x1536) hz, View.readCov_unit_zero (S := S8x1536) _ hz] <;> rfl

end Cert.KProjIdeal.Read

end
-- ==== Proof.ProjForm.lean ====
/-
  The projections as formulas of one row, the largest magnitude of an array taken block by block, and the results of the call
  as formulas of the argument arrays.
-/
module

public import proofs.«01_k».proof.Defs

public import proofs.«01_k».proof.Proof.Norm
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Proj

open Cert.Norm

/-- A row normed and weighed. -/
def xn (x n : Fin 1536 → EReal) (d : Fin 1536) : EReal := x d * scale x * n d

/-- The code of an element of the normed input under the scale `s`. -/
def xcode (v s : EReal) : EReal := min (Ideal.ofBits .f32 0x43E00000#32) (max (Ideal.ofBits .f32 0xC3E00000#32) (Ideal.div v s))

/-- The code of an element of the incoming gradient under the scale `s`. -/
def ycode (v s : EReal) : EReal := min (Ideal.ofBits .f32 0x47600000#32) (max (Ideal.ofBits .f32 0xC7600000#32) (Ideal.div v s))

/-- A row of codes times a weight, scaled back. -/
def proj (r : Fin 1536 → EReal) (sx sw : EReal) (w : Vec Ideal ⟨2, ![1536, 1024]⟩ .fp8e4m3) (d : Fin 1024) : EReal :=
  (∑ k : Fin 1536, r k * w (ix2 k d)) * sx * sw

/-- A row of codes times a transposed weight, scaled back. -/
def projT (r : Fin 1536 → EReal) (sx sw : EReal) (w : Vec Ideal ⟨2, ![1024, 1536]⟩ .fp8e4m3) (d : Fin 1024) : EReal :=
  (∑ k : Fin 1536, r k * w (ix2 d k)) * sx * sw

/-- The magnitude of a number. -/
def mag (x : EReal) : EReal := max x (-x)

/-- The largest magnitude of an array. -/
def amax (f : Fin 1920 → Fin 1536 → EReal) : EReal :=
  Finset.fold max (Ideal.ofBits .f32 0xFF800000#32) (fun x : Fin 1920 × Fin 1536 => mag (f x.1 x.2)) Finset.univ

/-- A fold of `max` from the bottom element is at most `u` where every term is. -/
theorem fold_le {ι : Type} [Fintype ι] (f : ι → EReal) (u : EReal) :
    Finset.fold max (Ideal.ofBits .f32 0xFF800000#32) f Finset.univ ≤ u ↔ ∀ i, f i ≤ u := by
  rw [Finset.fold_max_le, bits_bot]
  exact ⟨fun h i => h.2 i (Finset.mem_univ i), fun h => ⟨bot_le, fun i _ => h i⟩⟩

theorem amax_le (f : Fin 1920 → Fin 1536 → EReal) (u : EReal) : amax f ≤ u ↔ ∀ i d, mag (f i d) ≤ u :=
  (fold_le _ u).trans ⟨fun h i d => h (i, d), fun h x => h x.1 x.2⟩

/-- What the accumulator's word in row `r` and column `d` holds after `n` blocks: the largest magnitude, from zero, of the rows so
    far whose number is `r` modulo 8. -/
def Holds (f : Fin 1920 → Fin 1536 → EReal) (n : ℕ) (r : Fin 8) (d : Fin 1536) (a : EReal) : Prop :=
  ∀ u, a ≤ u ↔ 0 ≤ u ∧ ∀ i : Fin 1920, i.val < 320 * n → i.val % 8 = r.val → mag (f i d) ≤ u

/-- Before the first block it holds zero. -/
theorem holds_zero (f : Fin 1920 → Fin 1536 → EReal) (r : Fin 8) (d : Fin 1536) : Holds f 0 r d 0 := fun u =>
  ⟨fun h => ⟨h, fun i hi _ => absurd hi (by omega)⟩, fun h => h.1⟩

/-- A block of 320 rows takes 40 of each residue. -/
theorem holds_succ (f : Fin 1920 → Fin 1536 → EReal) (n : ℕ) (hn : n < 6) (r : Fin 8) (d : Fin 1536) (a b : EReal) (ha : Holds f n r d a)
    (hb : ∀ u, b ≤ u ↔ a ≤ u ∧ ∀ q : Fin 40, mag (f ⟨320 * n + (q.val * 8 + r.val), by have := q.isLt; have := r.isLt; omega⟩ d) ≤ u) :
    Holds f (n + 1) r d b := by
  intro u
  rw [hb u, ha u]
  constructor
  · rintro ⟨⟨h0, h⟩, hq⟩
    refine ⟨h0, fun i hi hr => ?_⟩
    by_cases hlt : i.val < 320 * n
    · exact h i hlt hr
    · have e := hq ⟨(i.val - 320 * n) / 8, by omega⟩
      have : (⟨320 * n + ((i.val - 320 * n) / 8 * 8 + r.val), by have := r.isLt; omega⟩ : Fin 1920) = i := Fin.ext (by
        show 320 * n + ((i.val - 320 * n) / 8 * 8 + r.val) = i.val
        omega)
      exact this ▸ e
  · rintro ⟨h0, h⟩
    refine ⟨⟨h0, fun i hi hr => h i (by omega) hr⟩, fun q => h _ ?_ ?_⟩
    · show 320 * n + (q.val * 8 + r.val) < 320 * (n + 1)
      have := q.isLt; have := r.isLt; omega
    · show (320 * n + (q.val * 8 + r.val)) % 8 = r.val
      have := r.isLt; omega

/-- The largest word of the accumulator after all blocks is the largest magnitude. -/
theorem holds_all (f : Fin 1920 → Fin 1536 → EReal) (v : Fin 8 → Fin 1536 → EReal) (h : ∀ r d, Holds f 6 r d (v r d)) :
    Finset.fold max (Ideal.ofBits .f32 0xFF800000#32) (fun x : Fin 8 × Fin 1536 => v x.1 x.2) Finset.univ = amax f := by
  refine max_ext fun u => ?_
  rw [fold_le, amax_le]
  constructor
  · intro hv i d
    exact ((h ⟨i.val % 8, by omega⟩ d u).mp (hv (⟨i.val % 8, by omega⟩, d))).2 i (by have := i.isLt; omega) rfl
  · intro hf x
    exact (h x.1 x.2 u).mpr ⟨(abs_nonneg _).trans (hf 0 0), fun i _ _ => hf i x.2⟩

/-- The argument arrays, laid out as matrices of 1920 rows. -/
@[ext] structure Args where
  x : Vec Ideal ⟨2, ![1920, 1536]⟩ .bf16
  n : Vec Ideal ⟨2, ![1, 1536]⟩ .f32
  y : Vec Ideal ⟨2, ![1920, 1536]⟩ .bf16
  wq : Vec Ideal ⟨2, ![1536, 1024]⟩ .fp8e4m3
  wk : Vec Ideal ⟨2, ![1536, 1024]⟩ .fp8e4m3
  wv : Vec Ideal ⟨2, ![1536, 1024]⟩ .fp8e4m3
  wo : Vec Ideal ⟨2, ![1024, 1536]⟩ .fp8e4m3
  sq : EReal
  sk : EReal
  sv : EReal
  so : EReal
  sx : EReal
  sy : EReal

/-- Row `i` of the normed input. -/
def Args.xn (A : Args) (i : Fin 1920) : Fin 1536 → EReal := Proj.xn (fun k => A.x (ix2 i k)) (fun k => A.n (ix2 0 k))

/-- The codes of the normed input. -/
def Args.xc (A : Args) : Vec Ideal ⟨2, ![1920, 1536]⟩ .fp8e4m3 := fun j => xcode (A.xn (j 0) (j 1)) A.sx

/-- The codes of the incoming gradient. -/
def Args.yc (A : Args) : Vec Ideal ⟨2, ![1920, 1536]⟩ .fp8e5m2 := fun j => ycode (A.y (ix2 (j 0) (j 1))) A.sy

/-- A projection of the normed input. -/
def Args.p (A : Args) (w : Vec Ideal ⟨2, ![1536, 1024]⟩ .fp8e4m3) (s : EReal) : Vec Ideal ⟨2, ![1920, 1024]⟩ .bf16 := fun j =>
  proj (fun k => xcode (A.xn (j 0) k) A.sx) A.sx s w (j 1)

/-- The gradient carried back through the output projection. -/
def Args.o (A : Args) : Vec Ideal ⟨2, ![1920, 1024]⟩ .f32 := fun j =>
  projT (fun k => ycode (A.y (ix2 (j 0) k)) A.sy) A.sy A.so A.wo (j 1)

/-- The largest magnitude of the normed input. -/
def Args.ax (A : Args) : Vec Ideal ⟨2, ![1, 1]⟩ .f32 := fun _ => amax fun i d => A.xn i d

/-- The largest magnitude of the incoming gradient. -/
def Args.ay (A : Args) : Vec Ideal ⟨2, ![1, 1]⟩ .f32 := fun _ => amax fun i d => A.y (ix2 i d)

end Cert.Proj

end
-- ==== Proof.ProjKernel.lean ====
/-
  The kernel of the projections: its results as the formulas of the argument arrays.
-/
module

public import proofs.«01_k».proof.Defs
public import proofs.«01_k».proof.Proof.KProjIdealBody
public import proofs.«01_k».proof.Proof.ProjForm
public import proofs.«01_k».proof.Proof.Norm
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KProjIdeal.Read

open Cert.KProjIdeal Cert.KProjIdeal.Gen Cert.Common Cert.Norm Cert.Proj

theorem pay8 (x : Vec Ideal S320x1536 .bf16) (n : Vec Ideal S1x1536 .f32) (i : Fin 320) (d : Fin 1536) : k0_pay8 (F := Ideal) x n (ix2 i d) = xn (fun k => x (ix2 i k)) (fun k => n (ix2 0 k)) d := by
  pointwise [k0_pay8]
  rw [show Named.named (F := Ideal) Cert.KProjIdeal.κ "inv_d" (φ := .f32) 0x3A2AAAAB#32 = ((1/1536 : ℝ) : EReal) from IdealRules.named_const.ideal_named_scalar _ _ _ _ rfl]
  rfl

theorem pay10 (x : Vec Ideal S320x1536 .bf16) (n : Vec Ideal S1x1536 .f32) (s : Elt Ideal .f32) (i : Fin 320) (d : Fin 1536) :
    k0_pay10 (F := Ideal) x n s (ix2 i d) = xcode (xn (fun k => x (ix2 i k)) (fun k => n (ix2 0 k)) d) s := by
  unfold k0_pay10
  generalize hv : k0_pay8 (F := Ideal) x n = v
  pointwise []
  rw [← hv, pay8]; rfl

theorem pay13 (x : Vec Ideal S320x1536 .bf16) (s : Elt Ideal .f32) (i : Fin 320) (d : Fin 1536) :
    k0_pay13 (F := Ideal) x s (ix2 i d) = ycode (x (ix2 i d)) s := by
  pointwise [k0_pay13, k0_pay11]
  rfl

theorem pay14 (x : Vec Ideal S320x1536 .bf16) (n : Vec Ideal S1x1536 .f32) (s sw : Elt Ideal .f32) (w : Vec Ideal S1536x1024 .fp8e4m3) (i : Fin 320) (d : Fin 1024) :
    k0_pay14 (F := Ideal) (k0_pay10 x n s) w s sw (ix2 i d) = proj (fun k => xcode (xn (fun k => x (ix2 i k)) (fun k => n (ix2 0 k)) k) s) s sw w d := by
  generalize hv : k0_pay10 (F := Ideal) x n s = v
  pointwise [k0_pay14]
  rw [← hv]; simp only [pay10]; rfl

theorem pay1 (x : Vec Ideal S320x1536 .bf16) (n : Vec Ideal S1x1536 .f32) (s sw : Elt Ideal .f32) (w : Vec Ideal S1536x1024 .fp8e4m3) (i : Fin 320) (d : Fin 1024) :
    k0_pay1 (F := Ideal) (k0_pay15 (k0_pay10 x n s) w) (k0_pay16 s) sw (ix2 i d) = proj (fun k => xcode (xn (fun k => x (ix2 i k)) (fun k => n (ix2 0 k)) k) s) s sw w d := by
  generalize hv : k0_pay10 (F := Ideal) x n s = v
  pointwise [k0_pay1, k0_pay15, k0_pay16]
  rw [← hv]; simp only [pay10]; rfl

theorem pay2 (x : Vec Ideal S320x1536 .bf16) (n : Vec Ideal S1x1536 .f32) (s sw : Elt Ideal .f32) (w : Vec Ideal S1536x1024 .fp8e4m3) (i : Fin 320) (d : Fin 1024) :
    k0_pay2 (F := Ideal) (k0_pay10 x n s) w s sw (ix2 i d) = proj (fun k => xcode (xn (fun k => x (ix2 i k)) (fun k => n (ix2 0 k)) k) s) s sw w d := by
  generalize hv : k0_pay10 (F := Ideal) x n s = v
  pointwise [k0_pay2]
  rw [← hv]; simp only [pay10]; rfl

theorem pay3 (x : Vec Ideal S320x1536 .bf16) (s sw : Elt Ideal .f32) (w : Vec Ideal S1024x1536 .fp8e4m3) (i : Fin 320) (d : Fin 1024) :
    k0_pay3 (F := Ideal) (k0_pay13 x s) w s sw (ix2 i d) = projT (fun k => ycode (x (ix2 i k)) s) s sw w d := by
  generalize hv : k0_pay13 (F := Ideal) x s = v
  pointwise [k0_pay3]
  rw [← hv]; simp only [pay13]; rfl

/-- Row `q` of the residue `r` in a block. -/
def row8 (q : Fin 40) (r : Fin 8) : Fin 320 := ⟨q.val * 8 + r.val, by have := q.isLt; have := r.isLt; omega⟩

/-- A block's part of the largest magnitudes of the normed input. -/
theorem pay9 (x : Vec Ideal S320x1536 .bf16) (n : Vec Ideal S1x1536 .f32) (v : Vec Ideal S8x1536 .f32) (r : Fin 8) (d : Fin 1536) (u : EReal) :
    k0_pay9 (F := Ideal) x n v (ix2 r d) ≤ u ↔ v (ix2 r d) ≤ u ∧ ∀ q : Fin 40, mag (xn (fun k => x (ix2 (row8 q r) k)) (fun k => n (ix2 0 k)) d) ≤ u := by
  unfold k0_pay9
  generalize hv : k0_pay8 (F := Ideal) x n = w
  pointwise []
  rw [max_le_iff, fold_le, ← hv]
  refine and_congr_right fun _ => forall_congr' fun q => ?_
  exact (congrArg (fun z => mag z ≤ u) (pay8 x n (row8 q r) d)).to_iff

/-- A block's part of the largest magnitudes of the incoming gradient. -/
theorem pay12 (x : Vec Ideal S320x1536 .bf16) (v : Vec Ideal S8x1536 .f32) (r : Fin 8) (d : Fin 1536) (u : EReal) :
    k0_pay12 (F := Ideal) x v (ix2 r d) ≤ u ↔ v (ix2 r d) ≤ u ∧ ∀ q : Fin 40, mag (x (ix2 (row8 q r) d)) ≤ u := by
  pointwise [k0_pay12, k0_pay11]
  rw [max_le_iff, fold_le]
  rfl

theorem pay6 (r : Fin 8) (d : Fin 1536) : k0_pay6 (F := Ideal) (ix2 r d) = 0 := by
  pointwise [k0_pay6]

theorem pay7 (r : Fin 8) (d : Fin 1536) : k0_pay7 (F := Ideal) (ix2 r d) = 0 := by
  pointwise [k0_pay7]

theorem pay4 (v : Vec Ideal S8x1536 .f32) (j : S1x1.Idx) :
    k0_pay4 (F := Ideal) v j = Finset.fold max (Ideal.ofBits .f32 0xFF800000#32) (fun x : Fin 8 × Fin 1536 => v (ix2 x.1 x.2)) Finset.univ := by
  idx_vars j
  pointwise [k0_pay4]

theorem pay5 (v : Vec Ideal S8x1536 .f32) (j : S1x1.Idx) :
    k0_pay5 (F := Ideal) v j = Finset.fold max (Ideal.ofBits .f32 0xFF800000#32) (fun x : Fin 8 × Fin 1536 => v (ix2 x.1 x.2)) Finset.univ := by
  idx_vars j
  pointwise [k0_pay5]

variable (m : (ℓ : Loc nD τ sig) → Buf (Elt Ideal) ℓ) (c : Dev nD)

/-- The argument arrays as the region finds them. -/
def args : Args where
  x := V m c main_v6
  n := V m c main_v8
  y := V m c main_v7
  wq := V m c main_arg2
  wk := V m c main_arg3
  wv := V m c main_arg4
  wo := V m c main_arg5
  sq := (V m c main_v0 : Vec Ideal S1 .f32) (ix1 0)
  sk := (V m c main_v1 : Vec Ideal S1 .f32) (ix1 0)
  sv := (V m c main_v2 : Vec Ideal S1 .f32) (ix1 0)
  so := (V m c main_v3 : Vec Ideal S1 .f32) (ix1 0)
  sx := (V m c main_v4 : Vec Ideal S1 .f32) (ix1 0)
  sy := (V m c main_v5 : Vec Ideal S1 .f32) (ix1 0)

theorem left13 (t : Fin cfg0.N) : (dats m 0 c).after 13 t = k0_pay10 (iblk m c 6 t) (iblk m c 7 t) (sc (iblk m c 4 t)) := by
  rw [after0_13]
  by_cases h0 : t.val % 6 = 0
  · rw [outsAt0_A m c t h0 (by omega)]; dsimp only; rw [left_A_13]
  · by_cases h1 : t.val % 6 = 5
    · rw [outsAt0_C m c t h0 h1]; dsimp only; rw [left_C_13]
    · rw [outsAt0_B m c t h0 h1]; dsimp only; rw [left_B_13]

theorem left14 (t : Fin cfg0.N) : (dats m 0 c).after 14 t = k0_pay13 (iblk m c 12 t) (sc (iblk m c 5 t)) := by
  rw [after0_14]
  by_cases h0 : t.val % 6 = 0
  · rw [outsAt0_A m c t h0 (by omega)]; dsimp only; rw [left_A_14]
  · by_cases h1 : t.val % 6 = 5
    · rw [outsAt0_C m c t h0 h1]; dsimp only; rw [left_C_14]
    · rw [outsAt0_B m c t h0 h1]; dsimp only; rw [left_B_14]

theorem left15 (t : Fin cfg0.N) : (dats m 0 c).after 15 t = k0_pay14 (k0_pay10 (iblk m c 6 t) (iblk m c 7 t) (sc (iblk m c 4 t))) (iblk m c 8 t) (sc (iblk m c 4 t)) (sc (iblk m c 0 t)) := by
  rw [after0_15]
  by_cases h0 : t.val % 6 = 0
  · rw [outsAt0_A m c t h0 (by omega)]; dsimp only; rw [left_A_15]
  · by_cases h1 : t.val % 6 = 5
    · rw [outsAt0_C m c t h0 h1]; dsimp only; rw [left_C_15]
    · rw [outsAt0_B m c t h0 h1]; dsimp only; rw [left_B_15]

theorem left16 (t : Fin cfg0.N) : (dats m 0 c).after 16 t = k0_pay1 (k0_pay15 (k0_pay10 (iblk m c 6 t) (iblk m c 7 t) (sc (iblk m c 4 t))) (iblk m c 9 t)) (k0_pay16 (sc (iblk m c 4 t))) (sc (iblk m c 1 t)) := by
  rw [after0_16]
  by_cases h0 : t.val % 6 = 0
  · rw [outsAt0_A m c t h0 (by omega)]; dsimp only; rw [left_A_16]
  · by_cases h1 : t.val % 6 = 5
    · rw [outsAt0_C m c t h0 h1]; dsimp only; rw [left_C_16]
    · rw [outsAt0_B m c t h0 h1]; dsimp only; rw [left_B_16]

theorem left17 (t : Fin cfg0.N) : (dats m 0 c).after 17 t = k0_pay2 (k0_pay10 (iblk m c 6 t) (iblk m c 7 t) (sc (iblk m c 4 t))) (iblk m c 10 t) (sc (iblk m c 4 t)) (sc (iblk m c 2 t)) := by
  rw [after0_17]
  by_cases h0 : t.val % 6 = 0
  · rw [outsAt0_A m c t h0 (by omega)]; dsimp only; rw [left_A_17]
  · by_cases h1 : t.val % 6 = 5
    · rw [outsAt0_C m c t h0 h1]; dsimp only; rw [left_C_17]
    · rw [outsAt0_B m c t h0 h1]; dsimp only; rw [left_B_17]

theorem left18 (t : Fin cfg0.N) : (dats m 0 c).after 18 t = k0_pay3 (k0_pay13 (iblk m c 12 t) (sc (iblk m c 5 t))) (iblk m c 11 t) (sc (iblk m c 5 t)) (sc (iblk m c 3 t)) := by
  rw [after0_18]
  by_cases h0 : t.val % 6 = 0
  · rw [outsAt0_A m c t h0 (by omega)]; dsimp only; rw [left_A_18]
  · by_cases h1 : t.val % 6 = 5
    · rw [outsAt0_C m c t h0 h1]; dsimp only; rw [left_C_18]
    · rw [outsAt0_B m c t h0 h1]; dsimp only; rw [left_B_18]

theorem result13 : (dats m 0 c).arrAt 13 cfg0.N = (args m c).xc := by
  refine final13 m c _ fun t j => ?_
  idx_vars j
  rw [left13, pay10]
  simp only [sc_eq, blk6, blk12]
  rw [blk4, blk7]
  rfl

theorem result14 : (dats m 0 c).arrAt 14 cfg0.N = (args m c).yc := by
  refine final14 m c _ fun t j => ?_
  idx_vars j
  rw [left14, pay13]
  simp only [sc_eq, blk6, blk12]
  rw [blk5]
  rfl

theorem result15 : (dats m 0 c).arrAt 15 cfg0.N = (args m c).p (args m c).wq (args m c).sq := by
  refine final15 m c _ fun t j => ?_
  idx_vars j
  rw [left15, pay14]
  simp only [sc_eq, blk6, blk12]
  rw [blk0, blk4, blk7, blk8]
  rfl

theorem result16 : (dats m 0 c).arrAt 16 cfg0.N = (args m c).p (args m c).wk (args m c).sk := by
  refine final16 m c _ fun t j => ?_
  idx_vars j
  rw [left16, pay1]
  simp only [sc_eq, blk6, blk12]
  rw [blk1, blk4, blk7, blk9]
  rfl

theorem result17 : (dats m 0 c).arrAt 17 cfg0.N = (args m c).p (args m c).wv (args m c).sv := by
  refine final17 m c _ fun t j => ?_
  idx_vars j
  rw [left17, pay2]
  simp only [sc_eq, blk6, blk12]
  rw [blk2, blk4, blk7, blk10]
  rfl

theorem result18 : (dats m 0 c).arrAt 18 cfg0.N = (args m c).o := by
  refine final18 m c _ fun t j => ?_
  idx_vars j
  rw [left18, pay3]
  simp only [sc_eq, blk6, blk12]
  rw [blk3, blk5, blk11]
  rfl

end Cert.KProjIdeal.Read

end
-- ==== Proof.ProjMax.lean ====
/-
  The largest magnitudes the kernel of the projections takes: the accumulator of 8 rows, point by point.
-/
module

public import proofs.«01_k».proof.Defs
public import proofs.«01_k».proof.Proof.ProjKernel
public import proofs.«01_k».proof.Proof.Norm
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.KProjIdeal.Read

open Cert.KProjIdeal Cert.KProjIdeal.Gen Cert.Common Cert.Norm Cert.Proj

variable (m : (ℓ : Loc nD τ sig) → Buf (Elt Ideal) ℓ) (c : Dev nD)

/-- What a point adds to the largest magnitudes of the normed input. -/
theorem step19 (t : Fin cfg0.N) (v : Vec Ideal S8x1536 .f32) (r : Fin 8) (d : Fin 1536)
    (hv : Holds (fun i d => (args m c).xn i d) t.val r d (v (ix2 r d))) : Holds (fun i d => (args m c).xn i d) (t.val + 1) r d (k0_pay9 (F := Ideal) (iblk m c 6 t) (iblk m c 7 t) v (ix2 r d)) := by
  have hN : cfg0.N = 6 := N_0
  refine holds_succ _ t.val (by have := t.isLt; omega) r d _ _ hv fun u => ?_
  rw [pay9]
  simp only [blk6, blk12]
  rw [blk7]
  rfl

/-- After point `n` the accumulator holds the largest magnitudes of the normed input so far. -/
theorem acc19 : ∀ (n : ℕ) (hn : n < cfg0.N) (r : Fin 8) (d : Fin 1536),
    Holds (fun i d => (args m c).xn i d) (n + 1) r d (((outsAt0 m c n hn).2.2.2.2.2.2.2.2.1 : Vec Ideal S8x1536 .f32) (ix2 r d)) := by
  intro n
  induction n with
  | zero =>
    intro hn r d
    rw [outsAt0_A m c ⟨0, hn⟩ rfl (by show ¬ 0 % 6 = 5; omega)]
    dsimp only
    rw [left_A_s0]
    exact step19 m c ⟨0, hn⟩ _ r d (by rw [pay6]; exact holds_zero _ r d)
  | succ n ih =>
    intro hn r d
    have hN : cfg0.N = 6 := N_0
    have h0 : ¬ (n + 1) % 6 = 0 := by omega
    by_cases h1 : (n + 1) % 6 = 5
    · rw [outsAt0_C m c ⟨n + 1, hn⟩ h0 h1]
      dsimp only
      rw [left_C_s0]
      exact step19 m c ⟨n + 1, hn⟩ _ r d (ih (Nat.lt_of_succ_lt hn) r d)
    · rw [outsAt0_B m c ⟨n + 1, hn⟩ h0 h1]
      dsimp only
      rw [left_B_s0]
      exact step19 m c ⟨n + 1, hn⟩ _ r d (ih (Nat.lt_of_succ_lt hn) r d)

/-- The last point writes the largest word of the accumulator. -/
theorem last19 (t : Fin cfg0.N) (h1 : t.val % 6 = 5) : (dats m 0 c).after 19 t = k0_pay4 (F := Ideal) ((outsAt0 m c t.val t.isLt).2.2.2.2.2.2.2.2.1) := by
  rw [after0_19, outsAt0_C m c t (by omega) h1]
  dsimp only
  rw [left_C_19, left_C_s0]

theorem result19 : (dats m 0 c).arrAt 19 cfg0.N = (args m c).ax := by
  refine final19 m c _ fun t h => ?_
  rw [last19 m c t (by omega)]
  have e := acc19 m c t.val t.isLt
  generalize ((outsAt0 m c t.val t.isLt).2.2.2.2.2.2.2.2.1 : Vec Ideal S8x1536 .f32) = v at e ⊢
  rw [h] at e
  funext j
  rw [pay4]
  exact holds_all (fun i d => (args m c).xn i d) (fun r d => v (ix2 r d)) e

/-- What a point adds to the largest magnitudes of the incoming gradient. -/
theorem step20 (t : Fin cfg0.N) (v : Vec Ideal S8x1536 .f32) (r : Fin 8) (d : Fin 1536)
    (hv : Holds (fun i d => (args m c).y (ix2 i d)) t.val r d (v (ix2 r d))) : Holds (fun i d => (args m c).y (ix2 i d)) (t.val + 1) r d (k0_pay12 (F := Ideal) (iblk m c 12 t) v (ix2 r d)) := by
  have hN : cfg0.N = 6 := N_0
  refine holds_succ _ t.val (by have := t.isLt; omega) r d _ _ hv fun u => ?_
  rw [pay12]
  simp only [blk6, blk12]
  rfl

/-- After point `n` the accumulator holds the largest magnitudes of the incoming gradient so far. -/
theorem acc20 : ∀ (n : ℕ) (hn : n < cfg0.N) (r : Fin 8) (d : Fin 1536),
    Holds (fun i d => (args m c).y (ix2 i d)) (n + 1) r d (((outsAt0 m c n hn).2.2.2.2.2.2.2.2.2 : Vec Ideal S8x1536 .f32) (ix2 r d)) := by
  intro n
  induction n with
  | zero =>
    intro hn r d
    rw [outsAt0_A m c ⟨0, hn⟩ rfl (by show ¬ 0 % 6 = 5; omega)]
    dsimp only
    rw [left_A_s1]
    exact step20 m c ⟨0, hn⟩ _ r d (by rw [pay7]; exact holds_zero _ r d)
  | succ n ih =>
    intro hn r d
    have hN : cfg0.N = 6 := N_0
    have h0 : ¬ (n + 1) % 6 = 0 := by omega
    by_cases h1 : (n + 1) % 6 = 5
    · rw [outsAt0_C m c ⟨n + 1, hn⟩ h0 h1]
      dsimp only
      rw [left_C_s1]
      exact step20 m c ⟨n + 1, hn⟩ _ r d (ih (Nat.lt_of_succ_lt hn) r d)
    · rw [outsAt0_B m c ⟨n + 1, hn⟩ h0 h1]
      dsimp only
      rw [left_B_s1]
      exact step20 m c ⟨n + 1, hn⟩ _ r d (ih (Nat.lt_of_succ_lt hn) r d)

/-- The last point writes the largest word of the accumulator. -/
theorem last20 (t : Fin cfg0.N) (h1 : t.val % 6 = 5) : (dats m 0 c).after 20 t = k0_pay5 (F := Ideal) ((outsAt0 m c t.val t.isLt).2.2.2.2.2.2.2.2.2) := by
  rw [after0_20, outsAt0_C m c t (by omega) h1]
  dsimp only
  rw [left_C_20, left_C_s1]

theorem result20 : (dats m 0 c).arrAt 20 cfg0.N = (args m c).ay := by
  refine final20 m c _ fun t h => ?_
  rw [last20 m c t (by omega)]
  have e := acc20 m c t.val t.isLt
  generalize ((outsAt0 m c t.val t.isLt).2.2.2.2.2.2.2.2.2 : Vec Ideal S8x1536 .f32) = v at e ⊢
  rw [h] at e
  funext j
  rw [pay5]
  exact holds_all (fun i d => (args m c).y (ix2 i d)) (fun r d => v (ix2 r d)) e

end Cert.KProjIdeal.Read

end
-- ==== Proof.RProjIdealRead.lean ====
/-
  The reference of the projections: every window is one whole array, so each result is the value stored.
-/
module

public import proofs.«01_k».proof.Proof.Common
public import proofs.«01_k».proof.Proof.Gen.RProjIdeal.Value
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RProjIdeal.Read

open Cert.RProjIdeal Cert.RProjIdeal.Gen Cert.Common

variable (m : (ℓ : Loc nD τ sig) → Buf (Elt Ideal) ℓ) (c : Dev nD)

theorem arr_main_v0 : (V m c main_v0 : Vec Ideal S1920x1536 .bf16) = shapeCast S1920x1536 (m ((c : Thread nD τ).loc main_arg0)) shapeCasts_S3x640x1536_S1920x1536 := by
  dsimp only [V, hostOps0]; after_results; rfl

theorem arr_main_v1 : (V m c main_v1 : Vec Ideal S1x1536 .f32) = shapeCast S1x1536 (m ((c : Thread nD τ).loc main_arg1)) shapeCasts_S1536_S1x1536 := by
  dsimp only [V, hostOps0]; after_results; rfl

theorem arr_main_v2 : (V m c main_v2 : Vec Ideal S1x1 .f32) = shapeCast S1x1 (m ((c : Thread nD τ).loc main_arg6)) shapeCasts_S_S1x1 := by
  dsimp only [V, hostOps0]; after_results; rfl

theorem arr_main_v3 : (V m c main_v3 : Vec Ideal S1x1 .f32) = shapeCast S1x1 (m ((c : Thread nD τ).loc main_arg7)) shapeCasts_S_S1x1 := by
  dsimp only [V, hostOps0]; after_results; rfl

theorem arr_main_v4 : (V m c main_v4 : Vec Ideal S1x1 .f32) = shapeCast S1x1 (m ((c : Thread nD τ).loc main_arg8)) shapeCasts_S_S1x1 := by
  dsimp only [V, hostOps0]; after_results; rfl

theorem arr_main_v5 : (V m c main_v5 : Vec Ideal S1x1 .f32) = shapeCast S1x1 (m ((c : Thread nD τ).loc main_arg9)) shapeCasts_S_S1x1 := by
  dsimp only [V, hostOps0]; after_results; rfl

theorem arr_main_v6 : (V m c main_v6 : Vec Ideal S1x1 .f32) = shapeCast S1x1 (m ((c : Thread nD τ).loc main_arg10)) shapeCasts_S_S1x1 := by
  dsimp only [V, hostOps0]; after_results; rfl

theorem arr_main_v7 : (V m c main_v7 : Vec Ideal S1x1 .f32) = shapeCast S1x1 (m ((c : Thread nD τ).loc main_arg11)) shapeCasts_S_S1x1 := by
  dsimp only [V, hostOps0]; after_results; rfl

theorem arr_main_v8 : (V m c main_v8 : Vec Ideal S1920x1536 .bf16) = shapeCast S1920x1536 (m ((c : Thread nD τ).loc main_arg12)) shapeCasts_S3x640x1536_S1920x1536 := by
  dsimp only [V, hostOps0]; after_results; rfl

theorem at0 : ∀ (t : Fin cfg0.N) (a : Fin 2), win0_0.index t a = 0 :=
  (by decide +kernel : ∀ (t : Fin grid0.N) (a : Fin 2), win0_0.index t a = 0)

theorem blk0 (t : Fin cfg0.N) : (iblk m c 0 t : Vec Ideal S1920x1536 .bf16) = V m c main_v0 :=
  Memref.read_access_unit_zero (Elt Ideal) main_v0 (off := fun a => win0_0.index t a * main_v0.ty.shape.size a) (funext fun a => by rw [at0 t a, Nat.zero_mul]) (fun a => by rw [at0 t a]; simp) _

theorem at1 : ∀ (t : Fin cfg0.N) (a : Fin 2), win0_1.index t a = 0 :=
  (by decide +kernel : ∀ (t : Fin grid0.N) (a : Fin 2), win0_1.index t a = 0)

theorem blk1 (t : Fin cfg0.N) : (iblk m c 1 t : Vec Ideal S1x1536 .f32) = V m c main_v1 :=
  Memref.read_access_unit_zero (Elt Ideal) main_v1 (off := fun a => win0_1.index t a * main_v1.ty.shape.size a) (funext fun a => by rw [at1 t a, Nat.zero_mul]) (fun a => by rw [at1 t a]; simp) _

theorem at2 : ∀ (t : Fin cfg0.N) (a : Fin 2), win0_2.index t a = 0 :=
  (by decide +kernel : ∀ (t : Fin grid0.N) (a : Fin 2), win0_2.index t a = 0)

theorem blk2 (t : Fin cfg0.N) : (iblk m c 2 t : Vec Ideal S1536x1024 .fp8e4m3) = V m c main_arg2 :=
  Memref.read_access_unit_zero (Elt Ideal) main_arg2 (off := fun a => win0_2.index t a * main_arg2.ty.shape.size a) (funext fun a => by rw [at2 t a, Nat.zero_mul]) (fun a => by rw [at2 t a]; simp) _

theorem at3 : ∀ (t : Fin cfg0.N) (a : Fin 2), win0_3.index t a = 0 :=
  (by decide +kernel : ∀ (t : Fin grid0.N) (a : Fin 2), win0_3.index t a = 0)

theorem blk3 (t : Fin cfg0.N) : (iblk m c 3 t : Vec Ideal S1536x1024 .fp8e4m3) = V m c main_arg3 :=
  Memref.read_access_unit_zero (Elt Ideal) main_arg3 (off := fun a => win0_3.index t a * main_arg3.ty.shape.size a) (funext fun a => by rw [at3 t a, Nat.zero_mul]) (fun a => by rw [at3 t a]; simp) _

theorem at4 : ∀ (t : Fin cfg0.N) (a : Fin 2), win0_4.index t a = 0 :=
  (by decide +kernel : ∀ (t : Fin grid0.N) (a : Fin 2), win0_4.index t a = 0)

theorem blk4 (t : Fin cfg0.N) : (iblk m c 4 t : Vec Ideal S1536x1024 .fp8e4m3) = V m c main_arg4 :=
  Memref.read_access_unit_zero (Elt Ideal) main_arg4 (off := fun a => win0_4.index t a * main_arg4.ty.shape.size a) (funext fun a => by rw [at4 t a, Nat.zero_mul]) (fun a => by rw [at4 t a]; simp) _

theorem at5 : ∀ (t : Fin cfg0.N) (a : Fin 2), win0_5.index t a = 0 :=
  (by decide +kernel : ∀ (t : Fin grid0.N) (a : Fin 2), win0_5.index t a = 0)

theorem blk5 (t : Fin cfg0.N) : (iblk m c 5 t : Vec Ideal S1024x1536 .fp8e4m3) = V m c main_arg5 :=
  Memref.read_access_unit_zero (Elt Ideal) main_arg5 (off := fun a => win0_5.index t a * main_arg5.ty.shape.size a) (funext fun a => by rw [at5 t a, Nat.zero_mul]) (fun a => by rw [at5 t a]; simp) _

theorem at6 : ∀ (t : Fin cfg0.N) (a : Fin 2), win0_6.index t a = 0 :=
  (by decide +kernel : ∀ (t : Fin grid0.N) (a : Fin 2), win0_6.index t a = 0)

theorem blk6 (t : Fin cfg0.N) : (iblk m c 6 t : Vec Ideal S1x1 .f32) = V m c main_v2 :=
  Memref.read_access_unit_zero (Elt Ideal) main_v2 (off := fun a => win0_6.index t a * main_v2.ty.shape.size a) (funext fun a => by rw [at6 t a, Nat.zero_mul]) (fun a => by rw [at6 t a]; simp) _

theorem at7 : ∀ (t : Fin cfg0.N) (a : Fin 2), win0_7.index t a = 0 :=
  (by decide +kernel : ∀ (t : Fin grid0.N) (a : Fin 2), win0_7.index t a = 0)

theorem blk7 (t : Fin cfg0.N) : (iblk m c 7 t : Vec Ideal S1x1 .f32) = V m c main_v3 :=
  Memref.read_access_unit_zero (Elt Ideal) main_v3 (off := fun a => win0_7.index t a * main_v3.ty.shape.size a) (funext fun a => by rw [at7 t a, Nat.zero_mul]) (fun a => by rw [at7 t a]; simp) _

theorem at8 : ∀ (t : Fin cfg0.N) (a : Fin 2), win0_8.index t a = 0 :=
  (by decide +kernel : ∀ (t : Fin grid0.N) (a : Fin 2), win0_8.index t a = 0)

theorem blk8 (t : Fin cfg0.N) : (iblk m c 8 t : Vec Ideal S1x1 .f32) = V m c main_v4 :=
  Memref.read_access_unit_zero (Elt Ideal) main_v4 (off := fun a => win0_8.index t a * main_v4.ty.shape.size a) (funext fun a => by rw [at8 t a, Nat.zero_mul]) (fun a => by rw [at8 t a]; simp) _

theorem at9 : ∀ (t : Fin cfg0.N) (a : Fin 2), win0_9.index t a = 0 :=
  (by decide +kernel : ∀ (t : Fin grid0.N) (a : Fin 2), win0_9.index t a = 0)

theorem blk9 (t : Fin cfg0.N) : (iblk m c 9 t : Vec Ideal S1x1 .f32) = V m c main_v5 :=
  Memref.read_access_unit_zero (Elt Ideal) main_v5 (off := fun a => win0_9.index t a * main_v5.ty.shape.size a) (funext fun a => by rw [at9 t a, Nat.zero_mul]) (fun a => by rw [at9 t a]; simp) _

theorem at10 : ∀ (t : Fin cfg0.N) (a : Fin 2), win0_10.index t a = 0 :=
  (by decide +kernel : ∀ (t : Fin grid0.N) (a : Fin 2), win0_10.index t a = 0)

theorem blk10 (t : Fin cfg0.N) : (iblk m c 10 t : Vec Ideal S1x1 .f32) = V m c main_v6 :=
  Memref.read_access_unit_zero (Elt Ideal) main_v6 (off := fun a => win0_10.index t a * main_v6.ty.shape.size a) (funext fun a => by rw [at10 t a, Nat.zero_mul]) (fun a => by rw [at10 t a]; simp) _

theorem at11 : ∀ (t : Fin cfg0.N) (a : Fin 2), win0_11.index t a = 0 :=
  (by decide +kernel : ∀ (t : Fin grid0.N) (a : Fin 2), win0_11.index t a = 0)

theorem blk11 (t : Fin cfg0.N) : (iblk m c 11 t : Vec Ideal S1x1 .f32) = V m c main_v7 :=
  Memref.read_access_unit_zero (Elt Ideal) main_v7 (off := fun a => win0_11.index t a * main_v7.ty.shape.size a) (funext fun a => by rw [at11 t a, Nat.zero_mul]) (fun a => by rw [at11 t a]; simp) _

theorem at12 : ∀ (t : Fin cfg0.N) (a : Fin 2), win0_12.index t a = 0 :=
  (by decide +kernel : ∀ (t : Fin grid0.N) (a : Fin 2), win0_12.index t a = 0)

theorem blk12 (t : Fin cfg0.N) : (iblk m c 12 t : Vec Ideal S1920x1536 .bf16) = V m c main_v8 :=
  Memref.read_access_unit_zero (Elt Ideal) main_v8 (off := fun a => win0_12.index t a * main_v8.ty.shape.size a) (funext fun a => by rw [at12 t a, Nat.zero_mul]) (fun a => by rw [at12 t a]; simp) _

theorem at13 : ∀ (t : Fin cfg0.N) (a : Fin 2), win0_13.index t a = 0 :=
  (by decide +kernel : ∀ (t : Fin grid0.N) (a : Fin 2), win0_13.index t a = 0)

theorem flush13 : ∀ t : Fin cfg0.N, (cfg0.win 13).flush t = true :=
  (by decide +kernel : ∀ t : Fin grid0.N, (cfg0.win 13).flush t = true)

theorem cover13 (i : S1920x1536.Idx) : ∃ t : Fin cfg0.N, (cfg0.win 13).flush t = true ∧ i ∈ ((cfg0.win 13).blk t).view.set := by
  have ht : 0 < cfg0.N := by decide
  refine ⟨⟨0, ht⟩, flush13 _, ?_⟩
  have h := ((cfg0.win 13).blk ⟨0, ht⟩).view.emb_mem_set i
  have e : (((cfg0.win 13).blk ⟨0, ht⟩).view.emb i : S1920x1536.Idx) = i := by
    funext a; apply Fin.ext
    match a with
    | ⟨0, _⟩ => show win0_13.index _ 0 * 1920 + 1 * (i 0).val = (i 0).val; rw [at13 _ 0]; omega
    | ⟨1, _⟩ => show win0_13.index _ 1 * 1536 + 1 * (i 1).val = (i 1).val; rw [at13 _ 1]; omega
  rw [e] at h
  exact h

theorem final13 : (dats m 0 c).arrAt 13 cfg0.N = (out0_13 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1920x1536 .fp8e4m3) := by
  refine (dats m 0 c).arrAt_eq_of_cover 13 _ (fun t hf => ?_) cover13
  rw [Value.flushed13, blk0, blk1, blk2, blk3, blk4, blk5, blk6, blk7, blk8, blk9, blk10, blk11, blk12]
  exact (Memref.read_access_unit_zero (Elt Ideal) main_v9_0 (off := fun a => win0_13.index t a * main_v9_0.ty.shape.size a) (funext fun a => by rw [at13 t a, Nat.zero_mul]) (fun a => by rw [at13 t a]; simp) _).symm

theorem at14 : ∀ (t : Fin cfg0.N) (a : Fin 2), win0_14.index t a = 0 :=
  (by decide +kernel : ∀ (t : Fin grid0.N) (a : Fin 2), win0_14.index t a = 0)

theorem flush14 : ∀ t : Fin cfg0.N, (cfg0.win 14).flush t = true :=
  (by decide +kernel : ∀ t : Fin grid0.N, (cfg0.win 14).flush t = true)

theorem cover14 (i : S1920x1536.Idx) : ∃ t : Fin cfg0.N, (cfg0.win 14).flush t = true ∧ i ∈ ((cfg0.win 14).blk t).view.set := by
  have ht : 0 < cfg0.N := by decide
  refine ⟨⟨0, ht⟩, flush14 _, ?_⟩
  have h := ((cfg0.win 14).blk ⟨0, ht⟩).view.emb_mem_set i
  have e : (((cfg0.win 14).blk ⟨0, ht⟩).view.emb i : S1920x1536.Idx) = i := by
    funext a; apply Fin.ext
    match a with
    | ⟨0, _⟩ => show win0_14.index _ 0 * 1920 + 1 * (i 0).val = (i 0).val; rw [at14 _ 0]; omega
    | ⟨1, _⟩ => show win0_14.index _ 1 * 1536 + 1 * (i 1).val = (i 1).val; rw [at14 _ 1]; omega
  rw [e] at h
  exact h

theorem final14 : (dats m 0 c).arrAt 14 cfg0.N = (out0_14 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1920x1536 .fp8e5m2) := by
  refine (dats m 0 c).arrAt_eq_of_cover 14 _ (fun t hf => ?_) cover14
  rw [Value.flushed14, blk0, blk1, blk2, blk3, blk4, blk5, blk6, blk7, blk8, blk9, blk10, blk11, blk12]
  exact (Memref.read_access_unit_zero (Elt Ideal) main_v9_1 (off := fun a => win0_14.index t a * main_v9_1.ty.shape.size a) (funext fun a => by rw [at14 t a, Nat.zero_mul]) (fun a => by rw [at14 t a]; simp) _).symm

theorem at15 : ∀ (t : Fin cfg0.N) (a : Fin 2), win0_15.index t a = 0 :=
  (by decide +kernel : ∀ (t : Fin grid0.N) (a : Fin 2), win0_15.index t a = 0)

theorem flush15 : ∀ t : Fin cfg0.N, (cfg0.win 15).flush t = true :=
  (by decide +kernel : ∀ t : Fin grid0.N, (cfg0.win 15).flush t = true)

theorem cover15 (i : S1920x1024.Idx) : ∃ t : Fin cfg0.N, (cfg0.win 15).flush t = true ∧ i ∈ ((cfg0.win 15).blk t).view.set := by
  have ht : 0 < cfg0.N := by decide
  refine ⟨⟨0, ht⟩, flush15 _, ?_⟩
  have h := ((cfg0.win 15).blk ⟨0, ht⟩).view.emb_mem_set i
  have e : (((cfg0.win 15).blk ⟨0, ht⟩).view.emb i : S1920x1024.Idx) = i := by
    funext a; apply Fin.ext
    match a with
    | ⟨0, _⟩ => show win0_15.index _ 0 * 1920 + 1 * (i 0).val = (i 0).val; rw [at15 _ 0]; omega
    | ⟨1, _⟩ => show win0_15.index _ 1 * 1024 + 1 * (i 1).val = (i 1).val; rw [at15 _ 1]; omega
  rw [e] at h
  exact h

theorem final15 : (dats m 0 c).arrAt 15 cfg0.N = (out0_15 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1920x1024 .bf16) := by
  refine (dats m 0 c).arrAt_eq_of_cover 15 _ (fun t hf => ?_) cover15
  rw [Value.flushed15, blk0, blk1, blk2, blk3, blk4, blk5, blk6, blk7, blk8, blk9, blk10, blk11, blk12]
  exact (Memref.read_access_unit_zero (Elt Ideal) main_v9_2 (off := fun a => win0_15.index t a * main_v9_2.ty.shape.size a) (funext fun a => by rw [at15 t a, Nat.zero_mul]) (fun a => by rw [at15 t a]; simp) _).symm

theorem at16 : ∀ (t : Fin cfg0.N) (a : Fin 2), win0_16.index t a = 0 :=
  (by decide +kernel : ∀ (t : Fin grid0.N) (a : Fin 2), win0_16.index t a = 0)

theorem flush16 : ∀ t : Fin cfg0.N, (cfg0.win 16).flush t = true :=
  (by decide +kernel : ∀ t : Fin grid0.N, (cfg0.win 16).flush t = true)

theorem cover16 (i : S1920x1024.Idx) : ∃ t : Fin cfg0.N, (cfg0.win 16).flush t = true ∧ i ∈ ((cfg0.win 16).blk t).view.set := by
  have ht : 0 < cfg0.N := by decide
  refine ⟨⟨0, ht⟩, flush16 _, ?_⟩
  have h := ((cfg0.win 16).blk ⟨0, ht⟩).view.emb_mem_set i
  have e : (((cfg0.win 16).blk ⟨0, ht⟩).view.emb i : S1920x1024.Idx) = i := by
    funext a; apply Fin.ext
    match a with
    | ⟨0, _⟩ => show win0_16.index _ 0 * 1920 + 1 * (i 0).val = (i 0).val; rw [at16 _ 0]; omega
    | ⟨1, _⟩ => show win0_16.index _ 1 * 1024 + 1 * (i 1).val = (i 1).val; rw [at16 _ 1]; omega
  rw [e] at h
  exact h

theorem final16 : (dats m 0 c).arrAt 16 cfg0.N = (out0_16 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1920x1024 .bf16) := by
  refine (dats m 0 c).arrAt_eq_of_cover 16 _ (fun t hf => ?_) cover16
  rw [Value.flushed16, blk0, blk1, blk2, blk3, blk4, blk5, blk6, blk7, blk8, blk9, blk10, blk11, blk12]
  exact (Memref.read_access_unit_zero (Elt Ideal) main_v9_3 (off := fun a => win0_16.index t a * main_v9_3.ty.shape.size a) (funext fun a => by rw [at16 t a, Nat.zero_mul]) (fun a => by rw [at16 t a]; simp) _).symm

theorem at17 : ∀ (t : Fin cfg0.N) (a : Fin 2), win0_17.index t a = 0 :=
  (by decide +kernel : ∀ (t : Fin grid0.N) (a : Fin 2), win0_17.index t a = 0)

theorem flush17 : ∀ t : Fin cfg0.N, (cfg0.win 17).flush t = true :=
  (by decide +kernel : ∀ t : Fin grid0.N, (cfg0.win 17).flush t = true)

theorem cover17 (i : S1920x1024.Idx) : ∃ t : Fin cfg0.N, (cfg0.win 17).flush t = true ∧ i ∈ ((cfg0.win 17).blk t).view.set := by
  have ht : 0 < cfg0.N := by decide
  refine ⟨⟨0, ht⟩, flush17 _, ?_⟩
  have h := ((cfg0.win 17).blk ⟨0, ht⟩).view.emb_mem_set i
  have e : (((cfg0.win 17).blk ⟨0, ht⟩).view.emb i : S1920x1024.Idx) = i := by
    funext a; apply Fin.ext
    match a with
    | ⟨0, _⟩ => show win0_17.index _ 0 * 1920 + 1 * (i 0).val = (i 0).val; rw [at17 _ 0]; omega
    | ⟨1, _⟩ => show win0_17.index _ 1 * 1024 + 1 * (i 1).val = (i 1).val; rw [at17 _ 1]; omega
  rw [e] at h
  exact h

theorem final17 : (dats m 0 c).arrAt 17 cfg0.N = (out0_17 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1920x1024 .bf16) := by
  refine (dats m 0 c).arrAt_eq_of_cover 17 _ (fun t hf => ?_) cover17
  rw [Value.flushed17, blk0, blk1, blk2, blk3, blk4, blk5, blk6, blk7, blk8, blk9, blk10, blk11, blk12]
  exact (Memref.read_access_unit_zero (Elt Ideal) main_v9_4 (off := fun a => win0_17.index t a * main_v9_4.ty.shape.size a) (funext fun a => by rw [at17 t a, Nat.zero_mul]) (fun a => by rw [at17 t a]; simp) _).symm

theorem at18 : ∀ (t : Fin cfg0.N) (a : Fin 2), win0_18.index t a = 0 :=
  (by decide +kernel : ∀ (t : Fin grid0.N) (a : Fin 2), win0_18.index t a = 0)

theorem flush18 : ∀ t : Fin cfg0.N, (cfg0.win 18).flush t = true :=
  (by decide +kernel : ∀ t : Fin grid0.N, (cfg0.win 18).flush t = true)

theorem cover18 (i : S1920x1024.Idx) : ∃ t : Fin cfg0.N, (cfg0.win 18).flush t = true ∧ i ∈ ((cfg0.win 18).blk t).view.set := by
  have ht : 0 < cfg0.N := by decide
  refine ⟨⟨0, ht⟩, flush18 _, ?_⟩
  have h := ((cfg0.win 18).blk ⟨0, ht⟩).view.emb_mem_set i
  have e : (((cfg0.win 18).blk ⟨0, ht⟩).view.emb i : S1920x1024.Idx) = i := by
    funext a; apply Fin.ext
    match a with
    | ⟨0, _⟩ => show win0_18.index _ 0 * 1920 + 1 * (i 0).val = (i 0).val; rw [at18 _ 0]; omega
    | ⟨1, _⟩ => show win0_18.index _ 1 * 1024 + 1 * (i 1).val = (i 1).val; rw [at18 _ 1]; omega
  rw [e] at h
  exact h

theorem final18 : (dats m 0 c).arrAt 18 cfg0.N = (out0_18 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1920x1024 .f32) := by
  refine (dats m 0 c).arrAt_eq_of_cover 18 _ (fun t hf => ?_) cover18
  rw [Value.flushed18, blk0, blk1, blk2, blk3, blk4, blk5, blk6, blk7, blk8, blk9, blk10, blk11, blk12]
  exact (Memref.read_access_unit_zero (Elt Ideal) main_v9_5 (off := fun a => win0_18.index t a * main_v9_5.ty.shape.size a) (funext fun a => by rw [at18 t a, Nat.zero_mul]) (fun a => by rw [at18 t a]; simp) _).symm

theorem at19 : ∀ (t : Fin cfg0.N) (a : Fin 2), win0_19.index t a = 0 :=
  (by decide +kernel : ∀ (t : Fin grid0.N) (a : Fin 2), win0_19.index t a = 0)

theorem flush19 : ∀ t : Fin cfg0.N, (cfg0.win 19).flush t = true :=
  (by decide +kernel : ∀ t : Fin grid0.N, (cfg0.win 19).flush t = true)

theorem cover19 (i : S1x1.Idx) : ∃ t : Fin cfg0.N, (cfg0.win 19).flush t = true ∧ i ∈ ((cfg0.win 19).blk t).view.set := by
  have ht : 0 < cfg0.N := by decide
  refine ⟨⟨0, ht⟩, flush19 _, ?_⟩
  have h := ((cfg0.win 19).blk ⟨0, ht⟩).view.emb_mem_set i
  have e : (((cfg0.win 19).blk ⟨0, ht⟩).view.emb i : S1x1.Idx) = i := by
    funext a; apply Fin.ext
    match a with
    | ⟨0, _⟩ => show win0_19.index _ 0 * 1 + 1 * (i 0).val = (i 0).val; rw [at19 _ 0]; omega
    | ⟨1, _⟩ => show win0_19.index _ 1 * 1 + 1 * (i 1).val = (i 1).val; rw [at19 _ 1]; omega
  rw [e] at h
  exact h

theorem final19 : (dats m 0 c).arrAt 19 cfg0.N = (out0_19 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1x1 .f32) := by
  refine (dats m 0 c).arrAt_eq_of_cover 19 _ (fun t hf => ?_) cover19
  rw [Value.flushed19, blk0, blk1, blk2, blk3, blk4, blk5, blk6, blk7, blk8, blk9, blk10, blk11, blk12]
  exact (Memref.read_access_unit_zero (Elt Ideal) main_v9_6 (off := fun a => win0_19.index t a * main_v9_6.ty.shape.size a) (funext fun a => by rw [at19 t a, Nat.zero_mul]) (fun a => by rw [at19 t a]; simp) _).symm

theorem at20 : ∀ (t : Fin cfg0.N) (a : Fin 2), win0_20.index t a = 0 :=
  (by decide +kernel : ∀ (t : Fin grid0.N) (a : Fin 2), win0_20.index t a = 0)

theorem flush20 : ∀ t : Fin cfg0.N, (cfg0.win 20).flush t = true :=
  (by decide +kernel : ∀ t : Fin grid0.N, (cfg0.win 20).flush t = true)

theorem cover20 (i : S1x1.Idx) : ∃ t : Fin cfg0.N, (cfg0.win 20).flush t = true ∧ i ∈ ((cfg0.win 20).blk t).view.set := by
  have ht : 0 < cfg0.N := by decide
  refine ⟨⟨0, ht⟩, flush20 _, ?_⟩
  have h := ((cfg0.win 20).blk ⟨0, ht⟩).view.emb_mem_set i
  have e : (((cfg0.win 20).blk ⟨0, ht⟩).view.emb i : S1x1.Idx) = i := by
    funext a; apply Fin.ext
    match a with
    | ⟨0, _⟩ => show win0_20.index _ 0 * 1 + 1 * (i 0).val = (i 0).val; rw [at20 _ 0]; omega
    | ⟨1, _⟩ => show win0_20.index _ 1 * 1 + 1 * (i 1).val = (i 1).val; rw [at20 _ 1]; omega
  rw [e] at h
  exact h

theorem final20 : (dats m 0 c).arrAt 20 cfg0.N = (out0_20 (V m c main_v0) (V m c main_v1) (V m c main_arg2) (V m c main_arg3) (V m c main_arg4) (V m c main_arg5) (V m c main_v2) (V m c main_v3) (V m c main_v4) (V m c main_v5) (V m c main_v6) (V m c main_v7) (V m c main_v8) : Vec Ideal S1x1 .f32) := by
  refine (dats m 0 c).arrAt_eq_of_cover 20 _ (fun t hf => ?_) cover20
  rw [Value.flushed20, blk0, blk1, blk2, blk3, blk4, blk5, blk6, blk7, blk8, blk9, blk10, blk11, blk12]
  exact (Memref.read_access_unit_zero (Elt Ideal) main_v9_7 (off := fun a => win0_20.index t a * main_v9_7.ty.shape.size a) (funext fun a => by rw [at20 t a, Nat.zero_mul]) (fun a => by rw [at20 t a]; simp) _).symm

end Cert.RProjIdeal.Read

end
-- ==== Proof.ProjReference.lean ====
/-
  The reference of the projections: its results as the formulas of the argument arrays.
-/
module

public import proofs.«01_k».proof.Defs
public import proofs.«01_k».proof.Proof.RProjIdealRead
public import proofs.«01_k».proof.Proof.ProjForm
public import proofs.«01_k».proof.Proof.Norm
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.RProjIdeal.Read

open Cert.RProjIdeal Cert.RProjIdeal.Gen Cert.Common Cert.Norm Cert.Proj

theorem pay5 (x : Vec Ideal S1920x1536 .bf16) (n : Vec Ideal S1x1536 .f32) (i : Fin 1920) (d : Fin 1536) : k0_pay5 (F := Ideal) x n (ix2 i d) = xn (fun k => x (ix2 i k)) (fun k => n (ix2 0 k)) d := by
  pointwise [k0_pay5]
  rw [scale_ref]; rfl

theorem pay7 (x : Vec Ideal S1920x1536 .bf16) (n : Vec Ideal S1x1536 .f32) (s : Vec Ideal S1x1 .f32) (i : Fin 1920) (d : Fin 1536) :
    k0_pay7 (F := Ideal) x n s (ix2 i d) = xcode (xn (fun k => x (ix2 i k)) (fun k => n (ix2 0 k)) d) (s (ix2 0 0)) := by
  unfold k0_pay7
  generalize hv : k0_pay5 (F := Ideal) x n = v
  pointwise []
  rw [← hv, pay5]; rfl

theorem pay3 (x : Vec Ideal S1920x1536 .bf16) (s : Vec Ideal S1x1 .f32) (i : Fin 1920) (d : Fin 1536) :
    k0_pay3 (F := Ideal) x s (ix2 i d) = ycode (x (ix2 i d)) (s (ix2 0 0)) := by
  pointwise [k0_pay3, k0_pay1]
  rfl

theorem pay9 (x : Vec Ideal S1920x1536 .bf16) (n : Vec Ideal S1x1536 .f32) (s sw : Vec Ideal S1x1 .f32) (w : Vec Ideal S1536x1024 .fp8e4m3) (i : Fin 1920) (d : Fin 1024) :
    k0_pay9 (F := Ideal) (k0_pay8 x n s w) s sw (ix2 i d) = proj (fun k => xcode (xn (fun k => x (ix2 i k)) (fun k => n (ix2 0 k)) k) (s (ix2 0 0))) (s (ix2 0 0)) (sw (ix2 0 0)) w d := by
  unfold k0_pay8
  generalize hv : k0_pay7 (F := Ideal) x n s = v
  pointwise [k0_pay9]
  rw [← hv]; simp only [pay7]; rfl

theorem pay10 (x : Vec Ideal S1920x1536 .bf16) (n : Vec Ideal S1x1536 .f32) (s sw : Vec Ideal S1x1 .f32) (w : Vec Ideal S1536x1024 .fp8e4m3) (i : Fin 1920) (d : Fin 1024) :
    k0_pay10 (F := Ideal) (k0_pay7 x n s) w s sw (ix2 i d) = proj (fun k => xcode (xn (fun k => x (ix2 i k)) (fun k => n (ix2 0 k)) k) (s (ix2 0 0))) (s (ix2 0 0)) (sw (ix2 0 0)) w d := by
  generalize hv : k0_pay7 (F := Ideal) x n s = v
  pointwise [k0_pay10]
  rw [← hv]; simp only [pay7]; rfl

theorem pay11 (x : Vec Ideal S1920x1536 .bf16) (n : Vec Ideal S1x1536 .f32) (s sw : Vec Ideal S1x1 .f32) (w : Vec Ideal S1536x1024 .fp8e4m3) (i : Fin 1920) (d : Fin 1024) :
    k0_pay11 (F := Ideal) (k0_pay7 x n s) w s sw (ix2 i d) = proj (fun k => xcode (xn (fun k => x (ix2 i k)) (fun k => n (ix2 0 k)) k) (s (ix2 0 0))) (s (ix2 0 0)) (sw (ix2 0 0)) w d := by
  generalize hv : k0_pay7 (F := Ideal) x n s = v
  pointwise [k0_pay11]
  rw [← hv]; simp only [pay7]; rfl

theorem pay4 (x : Vec Ideal S1920x1536 .bf16) (s sw : Vec Ideal S1x1 .f32) (w : Vec Ideal S1024x1536 .fp8e4m3) (i : Fin 1920) (d : Fin 1024) :
    k0_pay4 (F := Ideal) x s w s sw (ix2 i d) = projT (fun k => ycode (x (ix2 i k)) (s (ix2 0 0))) (s (ix2 0 0)) (sw (ix2 0 0)) w d := by
  unfold k0_pay4
  generalize hv : k0_pay3 (F := Ideal) x s = v
  pointwise []
  rw [← hv]; simp only [pay3]; rfl

theorem pay6 (x : Vec Ideal S1920x1536 .bf16) (n : Vec Ideal S1x1536 .f32) (j : S1x1.Idx) : k0_pay6 (F := Ideal) x n j = amax fun i d => xn (fun k => x (ix2 i k)) (fun k => n (ix2 0 k)) d := by
  unfold k0_pay6
  generalize hv : k0_pay5 (F := Ideal) x n = v
  idx_vars j
  pointwise []
  rw [← hv]; simp only [pay5]; rfl

theorem pay2 (x : Vec Ideal S1920x1536 .bf16) (j : S1x1.Idx) : k0_pay2 (F := Ideal) x j = amax fun i d => x (ix2 i d) := by
  idx_vars j
  pointwise [k0_pay2, k0_pay1]
  rfl

variable (m : (ℓ : Loc nD τ sig) → Buf (Elt Ideal) ℓ) (c : Dev nD)

/-- The argument arrays as the region finds them. -/
def args : Args where
  x := V m c main_v0
  n := V m c main_v1
  y := V m c main_v8
  wq := V m c main_arg2
  wk := V m c main_arg3
  wv := V m c main_arg4
  wo := V m c main_arg5
  sq := (V m c main_v2 : Vec Ideal S1x1 .f32) (ix2 0 0)
  sk := (V m c main_v3 : Vec Ideal S1x1 .f32) (ix2 0 0)
  sv := (V m c main_v4 : Vec Ideal S1x1 .f32) (ix2 0 0)
  so := (V m c main_v5 : Vec Ideal S1x1 .f32) (ix2 0 0)
  sx := (V m c main_v6 : Vec Ideal S1x1 .f32) (ix2 0 0)
  sy := (V m c main_v7 : Vec Ideal S1x1 .f32) (ix2 0 0)

theorem result13 : (dats m 0 c).arrAt 13 cfg0.N = (args m c).xc := by
  rw [final13]
  unfold_out out0_13
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay7 _ _ _ j0 j1

theorem result14 : (dats m 0 c).arrAt 14 cfg0.N = (args m c).yc := by
  rw [final14]
  unfold_out out0_14
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay3 _ _ j0 j1

theorem result15 : (dats m 0 c).arrAt 15 cfg0.N = (args m c).p (args m c).wq (args m c).sq := by
  rw [final15]
  unfold_out out0_15
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay9 _ _ _ _ _ j0 j1

theorem result16 : (dats m 0 c).arrAt 16 cfg0.N = (args m c).p (args m c).wk (args m c).sk := by
  rw [final16]
  unfold_out out0_16
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay10 _ _ _ _ _ j0 j1

theorem result17 : (dats m 0 c).arrAt 17 cfg0.N = (args m c).p (args m c).wv (args m c).sv := by
  rw [final17]
  unfold_out out0_17
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay11 _ _ _ _ _ j0 j1

theorem result18 : (dats m 0 c).arrAt 18 cfg0.N = (args m c).o := by
  rw [final18]
  unfold_out out0_18
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay4 _ _ _ _ j0 j1

theorem result19 : (dats m 0 c).arrAt 19 cfg0.N = (args m c).ax := by
  rw [final19]
  unfold_out out0_19
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay6 _ _ (ix2 j0 j1)

theorem result20 : (dats m 0 c).arrAt 20 cfg0.N = (args m c).ay := by
  rw [final20]
  unfold_out out0_20
  first | rw [View.canon_unit_zero hz] | rw [r0_0, View.canon_unit_zero hz] | rw [r0_2, View.canon_unit_zero hz] | rw [r0_4, View.canon_unit_zero hz]
  simp only [r0_0, r0_1, r0_2, r0_3, r0_4, r0_5, View.ld_unit_zero (S := S1920x1536) hz, View.ld_unit_zero (S := S1024x1536) hz, View.ld_unit_zero (S := S1x1) hz, View.ld_unit_zero (S := S1536x1024) hz, View.ld_unit_zero (S := S1x1536) hz]
  funext j
  idx_vars j
  exact pay2 _ (ix2 j0 j1)

end Cert.RProjIdeal.Read

end
-- ==== Proof.Proj.lean ====
/-
  The projections, with the codes they take and the largest magnitudes: the kernel, over six blocks of 320 rows, and the reference, over the whole arrays at once, leave the same
  eight arrays.
-/
module

public import proofs.«01_k».proof.Defs
public import proofs.«01_k».proof.Proof.ProjMax
public import proofs.«01_k».proof.Proof.ProjReference

@[expose] public section

set_option maxRecDepth 16384
set_option maxHeartbeats 2000000

noncomputable section

open Idealize.ShloMosaic Idealize.ShloMosaic.TcCoe Idealize.SL.Sem

namespace Cert.Proj

open Cert.Common

/-- Both sides' arrays are the same reshapes of the same arguments, so the results agree. -/
theorem algebraic : Cert.algebraic_KProjIdeal_RProjIdeal := by
  intro m g m' g' _ hargs
  refine ⟨fun c => (Cert.KProjIdeal.Gen.dats m 0 c).arrAt 13 Cert.KProjIdeal.cfg0.N, fun c => (Cert.KProjIdeal.Gen.dats m 0 c).arrAt 14 Cert.KProjIdeal.cfg0.N, fun c => (Cert.KProjIdeal.Gen.dats m 0 c).arrAt 15 Cert.KProjIdeal.cfg0.N, fun c => (Cert.KProjIdeal.Gen.dats m 0 c).arrAt 16 Cert.KProjIdeal.cfg0.N, fun c => (Cert.KProjIdeal.Gen.dats m 0 c).arrAt 17 Cert.KProjIdeal.cfg0.N, fun c => (Cert.KProjIdeal.Gen.dats m 0 c).arrAt 18 Cert.KProjIdeal.cfg0.N, fun c => (Cert.KProjIdeal.Gen.dats m 0 c).arrAt 19 Cert.KProjIdeal.cfg0.N, fun c => (Cert.KProjIdeal.Gen.dats m 0 c).arrAt 20 Cert.KProjIdeal.cfg0.N, Cert.KProjIdeal.Value.run_blocks m g, ?_⟩
  refine (θ_run _ _ _).mono (fun r h c => ?_) (Cert.RProjIdeal.Value.run_blocks m' g')
  obtain ⟨h0, h1, h2, h3, h4, h5, h6, h7, h⟩ := h c
  obtain ⟨e0, e1, e2, e3, e4, e5, e6, e7, e8, e9, e10, e11, e12⟩ := hargs c
  have e : Cert.RProjIdeal.Read.args m' c = Cert.KProjIdeal.Read.args m c := by
    refine Args.ext ?_ ?_ ?_ ?_ ?_ ?_ ?_ ?_ ?_ ?_ ?_ ?_ ?_
    · show Cert.RProjIdeal.Gen.V m' c Cert.RProjIdeal.main_v0 = Cert.KProjIdeal.Gen.V m c Cert.KProjIdeal.main_v6
      rw [Cert.RProjIdeal.Read.arr_main_v0, Cert.KProjIdeal.Read.arr_main_v6, e0]
    · show Cert.RProjIdeal.Gen.V m' c Cert.RProjIdeal.main_v1 = Cert.KProjIdeal.Gen.V m c Cert.KProjIdeal.main_v8
      rw [Cert.RProjIdeal.Read.arr_main_v1, Cert.KProjIdeal.Read.arr_main_v8, e1]
    · show Cert.RProjIdeal.Gen.V m' c Cert.RProjIdeal.main_v8 = Cert.KProjIdeal.Gen.V m c Cert.KProjIdeal.main_v7
      rw [Cert.RProjIdeal.Read.arr_main_v8, Cert.KProjIdeal.Read.arr_main_v7, e12]
    · exact (Cert.RProjIdeal.Gen.V_main_arg2 m' c).trans (e2.trans (Cert.KProjIdeal.Gen.V_main_arg2 m c).symm)
    · exact (Cert.RProjIdeal.Gen.V_main_arg3 m' c).trans (e3.trans (Cert.KProjIdeal.Gen.V_main_arg3 m c).symm)
    · exact (Cert.RProjIdeal.Gen.V_main_arg4 m' c).trans (e4.trans (Cert.KProjIdeal.Gen.V_main_arg4 m c).symm)
    · exact (Cert.RProjIdeal.Gen.V_main_arg5 m' c).trans (e5.trans (Cert.KProjIdeal.Gen.V_main_arg5 m c).symm)
    · show (Cert.RProjIdeal.Gen.V m' c Cert.RProjIdeal.main_v2 : Vec Ideal Cert.RProjIdeal.S1x1 .f32) (ix2 0 0) = (Cert.KProjIdeal.Gen.V m c Cert.KProjIdeal.main_v0 : Vec Ideal Cert.KProjIdeal.S1 .f32) (ix1 0)
      rw [Cert.RProjIdeal.Read.arr_main_v2, Cert.KProjIdeal.Read.arr_main_v0, scalar, scalar, e6]
    · show (Cert.RProjIdeal.Gen.V m' c Cert.RProjIdeal.main_v3 : Vec Ideal Cert.RProjIdeal.S1x1 .f32) (ix2 0 0) = (Cert.KProjIdeal.Gen.V m c Cert.KProjIdeal.main_v1 : Vec Ideal Cert.KProjIdeal.S1 .f32) (ix1 0)
      rw [Cert.RProjIdeal.Read.arr_main_v3, Cert.KProjIdeal.Read.arr_main_v1, scalar, scalar, e7]
    · show (Cert.RProjIdeal.Gen.V m' c Cert.RProjIdeal.main_v4 : Vec Ideal Cert.RProjIdeal.S1x1 .f32) (ix2 0 0) = (Cert.KProjIdeal.Gen.V m c Cert.KProjIdeal.main_v2 : Vec Ideal Cert.KProjIdeal.S1 .f32) (ix1 0)
      rw [Cert.RProjIdeal.Read.arr_main_v4, Cert.KProjIdeal.Read.arr_main_v2, scalar, scalar, e8]
    · show (Cert.RProjIdeal.Gen.V m' c Cert.RProjIdeal.main_v5 : Vec Ideal Cert.RProjIdeal.S1x1 .f32) (ix2 0 0) = (Cert.KProjIdeal.Gen.V m c Cert.KProjIdeal.main_v3 : Vec Ideal Cert.KProjIdeal.S1 .f32) (ix1 0)
      rw [Cert.RProjIdeal.Read.arr_main_v5, Cert.KProjIdeal.Read.arr_main_v3, scalar, scalar, e9]
    · show (Cert.RProjIdeal.Gen.V m' c Cert.RProjIdeal.main_v6 : Vec Ideal Cert.RProjIdeal.S1x1 .f32) (ix2 0 0) = (Cert.KProjIdeal.Gen.V m c Cert.KProjIdeal.main_v4 : Vec Ideal Cert.KProjIdeal.S1 .f32) (ix1 0)
      rw [Cert.RProjIdeal.Read.arr_main_v6, Cert.KProjIdeal.Read.arr_main_v4, scalar, scalar, e10]
    · show (Cert.RProjIdeal.Gen.V m' c Cert.RProjIdeal.main_v7 : Vec Ideal Cert.RProjIdeal.S1x1 .f32) (ix2 0 0) = (Cert.KProjIdeal.Gen.V m c Cert.KProjIdeal.main_v5 : Vec Ideal Cert.KProjIdeal.S1 .f32) (ix1 0)
      rw [Cert.RProjIdeal.Read.arr_main_v7, Cert.KProjIdeal.Read.arr_main_v5, scalar, scalar, e11]
  refine ⟨h0.trans ?_, h1.trans ?_, h2.trans ?_, h3.trans ?_, h4.trans ?_, h5.trans ?_, h6.trans ?_, h7.trans ?_, h⟩
  · rw [Cert.RProjIdeal.Read.result13, e]; exact (Cert.KProjIdeal.Read.result13 m c).symm
  · rw [Cert.RProjIdeal.Read.result14, e]; exact (Cert.KProjIdeal.Read.result14 m c).symm
  · rw [Cert.RProjIdeal.Read.result15, e]; exact (Cert.KProjIdeal.Read.result15 m c).symm
  · rw [Cert.RProjIdeal.Read.result16, e]; exact (Cert.KProjIdeal.Read.result16 m c).symm
  · rw [Cert.RProjIdeal.Read.result17, e]; exact (Cert.KProjIdeal.Read.result17 m c).symm
  · rw [Cert.RProjIdeal.Read.result18, e]; exact (Cert.KProjIdeal.Read.result18 m c).symm
  · rw [Cert.RProjIdeal.Read.result19, e]; exact (Cert.KProjIdeal.Read.result19 m c).symm
  · rw [Cert.RProjIdeal.Read.result20, e]; exact (Cert.KProjIdeal.Read.result20 m c).symm

end Cert.Proj

end
-- ==== Proof.Attn.Body.lean ====
/-
  One point of attn's grid: whatever its scratch and its outputs hold, the body runs to its end and leaves its
  inputs as they were. The five conditionals of the body depend on the grid point alone; they take seven forms.
-/
module

public import proofs.«01_k».proof.Proof.Gen.KAttn.Launch
public import proofs.«01_k».proof.Proof.Gen.KAttn.Skeleton
public import proofs.«01_k».proof.Proof.Gen.KAttn.Points
public import proofs.«01_k».proof.Proof.Gen.KAttn.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KAttn.Frames

open Cert.KAttn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body's five conditionals -/

/-- Holds at the first point. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- Holds at the points of the first head. -/
abbrev cond0_1 (i : grid0.Coords) : Prop := k0_cond2 i = 1#1

/-- Holds at the first sequence of a head. -/
abbrev cond0_2 (i : grid0.Coords) : Prop := (Scalar.cmpi .ne (Scalar.extui (Scalar.cmpi .eq (BitVec.ofNat 32 (i 1).val) 0#32)) 0#32) = 1#1

/-- Holds at the last sequence of a head. -/
abbrev cond0_3 (i : grid0.Coords) : Prop := k0_cond4 i = 1#1

/-- Holds at the last point. -/
abbrev cond0_4 (i : grid0.Coords) : Prop := k0_cond5 i = 1#1

theorem hcond0_0 (t : Fin cfg0.N) : cond0_0 (grid0.coords t) ↔ t.val % 24 = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_0, e0, e1]
  word_cmp

theorem hcond0_1 (t : Fin cfg0.N) : cond0_1 (grid0.coords t) ↔ t.val < 3 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_1, k0_cond2, e0, e1]
  word_cmp

theorem hcond0_2 (t : Fin cfg0.N) : cond0_2 (grid0.coords t) ↔ t.val % 3 = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_2, e0, e1]
  word_cmp

theorem hcond0_3 (t : Fin cfg0.N) : cond0_3 (grid0.coords t) ↔ t.val % 3 = 2 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_3, k0_cond4, e0, e1]
  word_cmp

theorem hcond0_4 (t : Fin cfg0.N) : cond0_4 (grid0.coords t) ↔ t.val % 24 = 23 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_4, k0_cond5, e0, e1]
  word_cmp

/-- The seven forms that the body takes at the points of the grid. -/
def Case (i : grid0.Coords) : Prop :=
  (cond0_0 i ∧ cond0_1 i ∧ cond0_2 i ∧ ¬cond0_3 i ∧ ¬cond0_4 i)
  ∨ (¬cond0_0 i ∧ cond0_1 i ∧ ¬cond0_2 i ∧ ¬cond0_3 i ∧ ¬cond0_4 i)
  ∨ (¬cond0_0 i ∧ cond0_1 i ∧ ¬cond0_2 i ∧ cond0_3 i ∧ ¬cond0_4 i)
  ∨ (¬cond0_0 i ∧ ¬cond0_1 i ∧ cond0_2 i ∧ ¬cond0_3 i ∧ ¬cond0_4 i)
  ∨ (¬cond0_0 i ∧ ¬cond0_1 i ∧ ¬cond0_2 i ∧ ¬cond0_3 i ∧ ¬cond0_4 i)
  ∨ (¬cond0_0 i ∧ ¬cond0_1 i ∧ ¬cond0_2 i ∧ cond0_3 i ∧ ¬cond0_4 i)
  ∨ (¬cond0_0 i ∧ ¬cond0_1 i ∧ ¬cond0_2 i ∧ cond0_3 i ∧ cond0_4 i)

theorem case_of {n : ℕ} (hn : n < 24) {c0 c1 c2 c3 c4 : Prop} (h0 : c0 ↔ n % 24 = 0) (h1 : c1 ↔ n < 3)
    (h2 : c2 ↔ n % 3 = 0) (h3 : c3 ↔ n % 3 = 2) (h4 : c4 ↔ n % 24 = 23) :
    (c0 ∧ c1 ∧ c2 ∧ ¬c3 ∧ ¬c4)
    ∨ (¬c0 ∧ c1 ∧ ¬c2 ∧ ¬c3 ∧ ¬c4)
    ∨ (¬c0 ∧ c1 ∧ ¬c2 ∧ c3 ∧ ¬c4)
    ∨ (¬c0 ∧ ¬c1 ∧ c2 ∧ ¬c3 ∧ ¬c4)
    ∨ (¬c0 ∧ ¬c1 ∧ ¬c2 ∧ ¬c3 ∧ ¬c4)
    ∨ (¬c0 ∧ ¬c1 ∧ ¬c2 ∧ c3 ∧ ¬c4)
    ∨ (¬c0 ∧ ¬c1 ∧ ¬c2 ∧ c3 ∧ c4) := by
  by_cases a0 : c0 <;> by_cases a1 : c1 <;> by_cases a2 : c2 <;> by_cases a3 : c3 <;> by_cases a4 : c4 <;>
    first
    | (exfalso; rw [h0] at a0; rw [h1] at a1; rw [h2] at a2; rw [h3] at a3; rw [h4] at a4; omega)
    | simp [a0, a1, a2, a3, a4]

/-- Every point has one of them. -/
theorem case_at (t : Fin cfg0.N) : Case (grid0.coords t) :=
  case_of (Nat.lt_of_lt_of_eq t.isLt N_0) (hcond0_0 t) (hcond0_1 t) (hcond0_2 t) (hcond0_3 t) (hcond0_4 t)

/-! ## The staging and scratch buffers as the body sees them -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x640 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S640x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S640x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S640x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1x640 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x1279 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1 .f32 := win0_18.stage (cfg0.slots t 18)
abbrev hs0_18 (t : Fin cfg0.N) : (ms0_18 t).IsWhole := hstage0_18 ((cfg0.slots t 18).cast nbuf0_18)
abbrev scM0_0 : Memref sig .tc .vmem S1280x256 .bf16 := Memref.whole cc0_scratch0
abbrev scM0_1 : Memref sig .tc .vmem S640x640 .bf16 := Memref.whole cc0_scratch1
abbrev scM0_2 : Memref sig .tc .vmem S640x640 .bf16 := Memref.whole cc0_scratch2
abbrev scM0_3 : Memref sig .tc .vmem S640x1280 .bf16 := Memref.whole cc0_scratch3
abbrev scM0_4 : Memref sig .tc .vmem S640x640 .f32 := Memref.whole cc0_scratch4
abbrev scM0_5 : Memref sig .tc .vmem S640x640 .f32 := Memref.whole cc0_scratch5
abbrev scM0_6 : Memref sig .tc .vmem S3x640x640 .f32 := Memref.whole cc0_scratch6
abbrev scM0_7 : Memref sig .tc .vmem S3x1x640 .f32 := Memref.whole cc0_scratch7
abbrev scM0_8 : Memref sig .tc .vmem S9x128x128 .f32 := Memref.whole cc0_scratch8
abbrev scM0_9 : Memref sig .tc .vmem S8x128 .f32 := Memref.whole cc0_scratch9
abbrev scM0_10 : Memref sig .tc .vmem S8x128 .f32 := Memref.whole cc0_scratch10
abbrev scM0_11 : Memref sig .tc .vmem S8x128 .f32 := Memref.whole cc0_scratch11
abbrev scM0_12 : Memref sig .tc .vmem S8x128 .f32 := Memref.whole cc0_scratch12

/-- Between points the scratch buffers hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

set_option maxHeartbeats 16000000 in
/-- The body at a point: from the inputs at their contents, and the outputs and the scratch at anything, it runs to
    its end with the inputs unchanged. -/
theorem body_run (c : Dev nD) (i : grid0.Coords) (arg2 : Memref sig .tc .smem S1 .f32) (harg2 : arg2.IsWhole) (arg3 : Memref sig .tc .smem S8 .f32) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S1x1x640 .i32) (harg8 : arg8.IsWhole) (arg9 : Memref sig .tc .vmem S640x128 .bf16) (harg9 : arg9.IsWhole) (arg10 : Memref sig .tc .vmem S640x128 .fp8e4m3) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S1x1x1x640 .f32) (harg14 : arg14.IsWhole) (arg15 : Memref sig .tc .vmem S8x1279 .f32) (harg15 : arg15.IsWhole) (arg16 : Memref sig .tc .vmem S8x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1280x256 .bf16) (harg21 : arg21.IsWhole) (arg22 : Memref sig .tc .vmem S640x640 .bf16) (harg22 : arg22.IsWhole) (arg23 : Memref sig .tc .vmem S640x640 .bf16) (harg23 : arg23.IsWhole) (arg24 : Memref sig .tc .vmem S640x1280 .bf16) (harg24 : arg24.IsWhole) (arg25 : Memref sig .tc .vmem S640x640 .f32) (harg25 : arg25.IsWhole) (arg26 : Memref sig .tc .vmem S640x640 .f32) (harg26 : arg26.IsWhole) (arg27 : Memref sig .tc .vmem S3x640x640 .f32) (harg27 : arg27.IsWhole) (arg28 : Memref sig .tc .vmem S3x1x640 .f32) (harg28 : arg28.IsWhole) (arg29 : Memref sig .tc .vmem S9x128x128 .f32) (harg29 : arg29.IsWhole) (arg30 : Memref sig .tc .vmem S8x128 .f32) (harg30 : arg30.IsWhole) (arg31 : Memref sig .tc .vmem S8x128 .f32) (harg31 : arg31.IsWhole) (arg32 : Memref sig .tc .vmem S8x128 .f32) (harg32 : arg32.IsWhole) (arg33 : Memref sig .tc .vmem S8x128 .f32) (harg33 : arg33.IsWhole) (hcase : Case i)
    (x0 : Vec F S1 .f32) (x1 : Vec F S8 .f32) (x2 : Vec F S640x128 .bf16) (x3 : Vec F S640x128 .bf16) (x4 : Vec F S640x128 .bf16) (x5 : Vec F S640x128 .f32) (x6 : Vec F S1x1x640 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
    intro E K
    simp only [cc0_attn_eq_skeleton]; unfold cc0_attn_skel
    simp only [k0_part5_eq_skeleton, k0_part1_eq_skeleton, k0_part2_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    rcases hcase with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
    all_goals
      sl_exec (disch := first | sl_exact hc0 | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      isplitl [HS9]
      · iexists _, _; isplitr; swap; · iexact HS9
        ipureintro; rfl
      isplitl [HS10]
      · iexists _, _; isplitr; swap; · iexact HS10
        ipureintro; rfl
      isplitl [HS11]
      · iexists _, _; isplitr; swap; · iexact HS11
        ipureintro; rfl
      iexists _, _; isplitr; swap; · iexact HS12
      ipureintro; rfl

end Cert.KAttn.Frames

end
-- ==== Proof.Attn.Frame.lean ====
/-
  The frame of attn: the call ends without a fault, its arguments as they were and all semaphores at zero.
-/
module

public import proofs.«01_k».proof.Proof.Attn.Body
public import Idealize.ShloMosaic.Lib.Claim

@[expose] public section

set_option maxRecDepth 16384

noncomputable section

namespace Cert.KAttn.Frames

open Cert.KAttn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No input window is idle at any point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

set_option maxHeartbeats 1140000 in
/-- The arguments end unchanged in every run that ends with the staged inputs and the rest of the memory as the
    region finds them. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c)⟩) h

/-! ## The pipeline's proof data -/

/-- The output windows, of whose contents nothing is said. -/
def forgets0 : Fin 19 → Bool := fun w => w.val == 7 || w.val == 8 || w.val == 9 || w.val == 10 || w.val == 11 || w.val == 12 || w.val == 13 || w.val == 14 || w.val == 15 || w.val == 16 || w.val == 17 || w.val == 18

/-- The arrays as the region finds them, and each input's buffer at its block after every point. Between points the
    scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The arrays are those that the region finds. -/
theorem A_eq (c : Dev nD) (w : Fin cfg0.W) : (dats m 0 c).A w = V m c (Pipeline.arrRef spec0 w) := by
  dsimp only [dats]

/-- The body leaves each input's buffer at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 22400000 in
/-- The body at a point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (case_at t) (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  iintro ⟨H0, H1, H2, H3, H4, H5, H6, H7, H8, H9, H10, H11, H12, H13, H14, H15, H16, H17, H18, HS0, HS1, HS2, HS3, HS4, HS5, HS6, HS7, HS8, HS9, HS10, HS11, HS12⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole call: it ends, its staged inputs and the rest of the memory are as the region finds them, and every
    semaphore is at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame: the call ends without a fault, with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KAttn.Frames

end
-- ==== Proof.Attn.BodyIdeal.lean ====
/-
  One point of the grid of attn's ideal program: whatever its scratch and its outputs hold, the body runs to its end
  and leaves its inputs as they were. The five conditionals of the body depend on the grid point alone; they take seven forms.
-/
module

public import proofs.«01_k».proof.Proof.Gen.KAttnIdeal.Launch
public import proofs.«01_k».proof.Proof.Gen.KAttnIdeal.Skeleton
public import proofs.«01_k».proof.Proof.Gen.KAttnIdeal.Points
public import proofs.«01_k».proof.Proof.Gen.KAttnIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KAttnIdeal.Frames

open Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions of the body's five conditionals -/

/-- Holds at the first point. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- Holds at the points of the first head. -/
abbrev cond0_1 (i : grid0.Coords) : Prop := k0_cond2 i = 1#1

/-- Holds at the first sequence of a head. -/
abbrev cond0_2 (i : grid0.Coords) : Prop := (Scalar.cmpi .ne (Scalar.extui (Scalar.cmpi .eq (BitVec.ofNat 32 (i 1).val) 0#32)) 0#32) = 1#1

/-- Holds at the last sequence of a head. -/
abbrev cond0_3 (i : grid0.Coords) : Prop := k0_cond4 i = 1#1

/-- Holds at the last point. -/
abbrev cond0_4 (i : grid0.Coords) : Prop := k0_cond5 i = 1#1

theorem hcond0_0 (t : Fin cfg0.N) : cond0_0 (grid0.coords t) ↔ t.val % 24 = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_0, e0, e1]
  word_cmp

theorem hcond0_1 (t : Fin cfg0.N) : cond0_1 (grid0.coords t) ↔ t.val < 3 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_1, k0_cond2, e0, e1]
  word_cmp

theorem hcond0_2 (t : Fin cfg0.N) : cond0_2 (grid0.coords t) ↔ t.val % 3 = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_2, e0, e1]
  word_cmp

theorem hcond0_3 (t : Fin cfg0.N) : cond0_3 (grid0.coords t) ↔ t.val % 3 = 2 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_3, k0_cond4, e0, e1]
  word_cmp

theorem hcond0_4 (t : Fin cfg0.N) : cond0_4 (grid0.coords t) ↔ t.val % 24 = 23 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  simp only [cond0_4, k0_cond5, e0, e1]
  word_cmp

/-- The seven forms that the body takes at the points of the grid. -/
def Case (i : grid0.Coords) : Prop :=
  (cond0_0 i ∧ cond0_1 i ∧ cond0_2 i ∧ ¬cond0_3 i ∧ ¬cond0_4 i)
  ∨ (¬cond0_0 i ∧ cond0_1 i ∧ ¬cond0_2 i ∧ ¬cond0_3 i ∧ ¬cond0_4 i)
  ∨ (¬cond0_0 i ∧ cond0_1 i ∧ ¬cond0_2 i ∧ cond0_3 i ∧ ¬cond0_4 i)
  ∨ (¬cond0_0 i ∧ ¬cond0_1 i ∧ cond0_2 i ∧ ¬cond0_3 i ∧ ¬cond0_4 i)
  ∨ (¬cond0_0 i ∧ ¬cond0_1 i ∧ ¬cond0_2 i ∧ ¬cond0_3 i ∧ ¬cond0_4 i)
  ∨ (¬cond0_0 i ∧ ¬cond0_1 i ∧ ¬cond0_2 i ∧ cond0_3 i ∧ ¬cond0_4 i)
  ∨ (¬cond0_0 i ∧ ¬cond0_1 i ∧ ¬cond0_2 i ∧ cond0_3 i ∧ cond0_4 i)

theorem case_of {n : ℕ} (hn : n < 24) {c0 c1 c2 c3 c4 : Prop} (h0 : c0 ↔ n % 24 = 0) (h1 : c1 ↔ n < 3)
    (h2 : c2 ↔ n % 3 = 0) (h3 : c3 ↔ n % 3 = 2) (h4 : c4 ↔ n % 24 = 23) :
    (c0 ∧ c1 ∧ c2 ∧ ¬c3 ∧ ¬c4)
    ∨ (¬c0 ∧ c1 ∧ ¬c2 ∧ ¬c3 ∧ ¬c4)
    ∨ (¬c0 ∧ c1 ∧ ¬c2 ∧ c3 ∧ ¬c4)
    ∨ (¬c0 ∧ ¬c1 ∧ c2 ∧ ¬c3 ∧ ¬c4)
    ∨ (¬c0 ∧ ¬c1 ∧ ¬c2 ∧ ¬c3 ∧ ¬c4)
    ∨ (¬c0 ∧ ¬c1 ∧ ¬c2 ∧ c3 ∧ ¬c4)
    ∨ (¬c0 ∧ ¬c1 ∧ ¬c2 ∧ c3 ∧ c4) := by
  by_cases a0 : c0 <;> by_cases a1 : c1 <;> by_cases a2 : c2 <;> by_cases a3 : c3 <;> by_cases a4 : c4 <;>
    first
    | (exfalso; rw [h0] at a0; rw [h1] at a1; rw [h2] at a2; rw [h3] at a3; rw [h4] at a4; omega)
    | simp [a0, a1, a2, a3, a4]

/-- Every point has one of them. -/
theorem case_at (t : Fin cfg0.N) : Case (grid0.coords t) :=
  case_of (Nat.lt_of_lt_of_eq t.isLt N_0) (hcond0_0 t) (hcond0_1 t) (hcond0_2 t) (hcond0_3 t) (hcond0_4 t)

/-! ## The staging and scratch buffers as the body sees them -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S8 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x640 .i32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S640x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S640x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S640x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S640x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1x640 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x1279 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x1 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1 .f32 := win0_18.stage (cfg0.slots t 18)
abbrev hs0_18 (t : Fin cfg0.N) : (ms0_18 t).IsWhole := hstage0_18 ((cfg0.slots t 18).cast nbuf0_18)
abbrev scM0_0 : Memref sig .tc .vmem S1280x256 .bf16 := Memref.whole cc0_scratch0
abbrev scM0_1 : Memref sig .tc .vmem S640x640 .bf16 := Memref.whole cc0_scratch1
abbrev scM0_2 : Memref sig .tc .vmem S640x640 .bf16 := Memref.whole cc0_scratch2
abbrev scM0_3 : Memref sig .tc .vmem S640x1280 .bf16 := Memref.whole cc0_scratch3
abbrev scM0_4 : Memref sig .tc .vmem S640x640 .f32 := Memref.whole cc0_scratch4
abbrev scM0_5 : Memref sig .tc .vmem S640x640 .f32 := Memref.whole cc0_scratch5
abbrev scM0_6 : Memref sig .tc .vmem S3x640x640 .f32 := Memref.whole cc0_scratch6
abbrev scM0_7 : Memref sig .tc .vmem S3x1x640 .f32 := Memref.whole cc0_scratch7
abbrev scM0_8 : Memref sig .tc .vmem S9x128x128 .f32 := Memref.whole cc0_scratch8
abbrev scM0_9 : Memref sig .tc .vmem S8x128 .f32 := Memref.whole cc0_scratch9
abbrev scM0_10 : Memref sig .tc .vmem S8x128 .f32 := Memref.whole cc0_scratch10
abbrev scM0_11 : Memref sig .tc .vmem S8x128 .f32 := Memref.whole cc0_scratch11
abbrev scM0_12 : Memref sig .tc .vmem S8x128 .f32 := Memref.whole cc0_scratch12

/-- Between points the scratch buffers hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

set_option maxHeartbeats 16000000 in
/-- The body at a point: from the inputs at their contents, and the outputs and the scratch at anything, it runs to
    its end with the inputs unchanged. -/
theorem body_run (c : Dev nD) (i : grid0.Coords) (arg2 : Memref sig .tc .smem S1 .f32) (harg2 : arg2.IsWhole) (arg3 : Memref sig .tc .smem S8 .f32) (harg3 : arg3.IsWhole) (arg4 : Memref sig .tc .vmem S640x128 .bf16) (harg4 : arg4.IsWhole) (arg5 : Memref sig .tc .vmem S640x128 .bf16) (harg5 : arg5.IsWhole) (arg6 : Memref sig .tc .vmem S640x128 .bf16) (harg6 : arg6.IsWhole) (arg7 : Memref sig .tc .vmem S640x128 .f32) (harg7 : arg7.IsWhole) (arg8 : Memref sig .tc .vmem S1x1x640 .i32) (harg8 : arg8.IsWhole) (arg9 : Memref sig .tc .vmem S640x128 .bf16) (harg9 : arg9.IsWhole) (arg10 : Memref sig .tc .vmem S640x128 .fp8e4m3) (harg10 : arg10.IsWhole) (arg11 : Memref sig .tc .vmem S640x128 .f32) (harg11 : arg11.IsWhole) (arg12 : Memref sig .tc .vmem S640x128 .f32) (harg12 : arg12.IsWhole) (arg13 : Memref sig .tc .vmem S640x128 .f32) (harg13 : arg13.IsWhole) (arg14 : Memref sig .tc .vmem S1x1x1x640 .f32) (harg14 : arg14.IsWhole) (arg15 : Memref sig .tc .vmem S8x1279 .f32) (harg15 : arg15.IsWhole) (arg16 : Memref sig .tc .vmem S8x1 .f32) (harg16 : arg16.IsWhole) (arg17 : Memref sig .tc .vmem S1x1 .f32) (harg17 : arg17.IsWhole) (arg18 : Memref sig .tc .vmem S1x1 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1280x256 .bf16) (harg21 : arg21.IsWhole) (arg22 : Memref sig .tc .vmem S640x640 .bf16) (harg22 : arg22.IsWhole) (arg23 : Memref sig .tc .vmem S640x640 .bf16) (harg23 : arg23.IsWhole) (arg24 : Memref sig .tc .vmem S640x1280 .bf16) (harg24 : arg24.IsWhole) (arg25 : Memref sig .tc .vmem S640x640 .f32) (harg25 : arg25.IsWhole) (arg26 : Memref sig .tc .vmem S640x640 .f32) (harg26 : arg26.IsWhole) (arg27 : Memref sig .tc .vmem S3x640x640 .f32) (harg27 : arg27.IsWhole) (arg28 : Memref sig .tc .vmem S3x1x640 .f32) (harg28 : arg28.IsWhole) (arg29 : Memref sig .tc .vmem S9x128x128 .f32) (harg29 : arg29.IsWhole) (arg30 : Memref sig .tc .vmem S8x128 .f32) (harg30 : arg30.IsWhole) (arg31 : Memref sig .tc .vmem S8x128 .f32) (harg31 : arg31.IsWhole) (arg32 : Memref sig .tc .vmem S8x128 .f32) (harg32 : arg32.IsWhole) (arg33 : Memref sig .tc .vmem S8x128 .f32) (harg33 : arg33.IsWhole) (hcase : Case i)
    (x0 : Vec F S1 .f32) (x1 : Vec F S8 .f32) (x2 : Vec F S640x128 .bf16) (x3 : Vec F S640x128 .bf16) (x4 : Vec F S640x128 .bf16) (x5 : Vec F S640x128 .f32) (x6 : Vec F S1x1x640 .i32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)) -∗ K ⟨⟩))
          ⊢ wp frame (wpE (defs₀ (F := F)) Variants.none c none) E (cc0_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
    intro E K
    simp only [cc0_attn_eq_skeleton]; unfold cc0_attn_skel
    simp only [k0_part5_eq_skeleton, k0_part1_eq_skeleton, k0_part2_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    rcases hcase with ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩ | ⟨hc0, hc1, hc2, hc3, hc4⟩
    all_goals
      sl_exec (disch := first | sl_exact hc0 | sl_exact hc1 | sl_exact hc2 | sl_exact hc3 | sl_exact hc4)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _, _; isplitr; swap; · iexact H7
        ipureintro; rfl
      isplitl [H8]
      · iexists _, _; isplitr; swap; · iexact H8
        ipureintro; rfl
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [H16]
      · iexists _, _; isplitr; swap; · iexact H16
        ipureintro; rfl
      isplitl [H17]
      · iexists _, _; isplitr; swap; · iexact H17
        ipureintro; rfl
      isplitl [H18]
      · iexists _, _; isplitr; swap; · iexact H18
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HS8]
      · iexists _, _; isplitr; swap; · iexact HS8
        ipureintro; rfl
      isplitl [HS9]
      · iexists _, _; isplitr; swap; · iexact HS9
        ipureintro; rfl
      isplitl [HS10]
      · iexists _, _; isplitr; swap; · iexact HS10
        ipureintro; rfl
      isplitl [HS11]
      · iexists _, _; isplitr; swap; · iexact HS11
        ipureintro; rfl
      iexists _, _; isplitr; swap; · iexact HS12
      ipureintro; rfl

end Cert.KAttnIdeal.Frames

end
-- ==== Proof.Attn.FrameIdeal.lean ====
/-
  The frame of attn's ideal program: it ends without a fault, its arguments as they were and all semaphores at zero.
-/
module

public import proofs.«01_k».proof.Proof.Attn.BodyIdeal
public import Idealize.ShloMosaic.Lib.Claim

@[expose] public section

set_option maxRecDepth 16384

noncomputable section

namespace Cert.KAttnIdeal.Frames

open Cert.KAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No input window is idle at any point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

set_option maxHeartbeats 1140000 in
/-- The arguments end unchanged in every run that ends with the staged inputs and the rest of the memory as the
    region finds them. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      ((h c).2 main_arg6 (Pipeline.mem_restRefs_of main_arg6 (by decide) (by decide))).trans (V_main_arg6 m c)⟩) h

/-! ## The pipeline's proof data -/

/-- The output windows, of whose contents nothing is said. -/
def forgets0 : Fin 19 → Bool := fun w => w.val == 7 || w.val == 8 || w.val == 9 || w.val == 10 || w.val == 11 || w.val == 12 || w.val == 13 || w.val == 14 || w.val == 15 || w.val == 16 || w.val == 17 || w.val == 18

/-- The arrays as the region finds them, and each input's buffer at its block after every point. Between points the
    scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨_ + 19, h⟩ => absurd h (Nat.not_lt.2 (Nat.le_add_left _ _))
  Φ _ := Pipeline.ΦA spec0 c
  q _ := fullShare
  owed _ := 0

/-- The arrays are those that the region finds. -/
theorem A_eq (c : Dev nD) (w : Fin cfg0.W) : (dats m 0 c).A w = V m c (Pipeline.arrRef spec0 w) := by
  dsimp only [dats]

/-- The body leaves each input's buffer at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

set_option maxHeartbeats 22400000 in
/-- The body at a point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
        unfold Dat.leavesExact; rw [liveAt0_0 t], after0_0]
  rw [show (dats m 0 c).leavesExact 1 t = owns (c : Thread nD τ) (ms0_1 t) fullShare ((dats m 0 c).after 1 t) from by
        unfold Dat.leavesExact; rw [liveAt0_1 t], after0_1]
  rw [show (dats m 0 c).leavesExact 2 t = owns (c : Thread nD τ) (ms0_2 t) fullShare ((dats m 0 c).after 2 t) from by
        unfold Dat.leavesExact; rw [liveAt0_2 t], after0_2]
  rw [show (dats m 0 c).leavesExact 3 t = owns (c : Thread nD τ) (ms0_3 t) fullShare ((dats m 0 c).after 3 t) from by
        unfold Dat.leavesExact; rw [liveAt0_3 t], after0_3]
  rw [show (dats m 0 c).leavesExact 4 t = owns (c : Thread nD τ) (ms0_4 t) fullShare ((dats m 0 c).after 4 t) from by
        unfold Dat.leavesExact; rw [liveAt0_4 t], after0_4]
  rw [show (dats m 0 c).leavesExact 5 t = owns (c : Thread nD τ) (ms0_5 t) fullShare ((dats m 0 c).after 5 t) from by
        unfold Dat.leavesExact; rw [liveAt0_5 t], after0_5]
  rw [show (dats m 0 c).leavesExact 6 t = owns (c : Thread nD τ) (ms0_6 t) fullShare ((dats m 0 c).after 6 t) from by
        unfold Dat.leavesExact; rw [liveAt0_6 t], after0_6]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (case_at t) (iblk m c 0 t) (iblk m c 1 t) (iblk m c 2 t) (iblk m c 3 t) (iblk m c 4 t) (iblk m c 5 t) (iblk m c 6 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  iintro ⟨H0, H1, H2, H3, H4, H5, H6, H7, H8, H9, H10, H11, H12, H13, H14, H15, H16, H17, H18, HS0, HS1, HS2, HS3, HS4, HS5, HS6, HS7, HS8, HS9, HS10, HS11, HS12⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole call: it ends, its staged inputs and the rest of the memory are as the region finds them, and every
    semaphore is at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame: the call ends without a fault, with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KAttnIdeal.Frames

end
-- ==== Proof.lean ====
/-
  The proof of `Cert.Claim`: for each of the five calls (the weight gradients Dw, the output projection's weight
  gradient Dwo, the output projection Out, the gradient through the projections Dx, and the projections Proj) the
  kernel, its ideal program and the reference's ideal program each end without a fault and leave their arguments
  as they were; the ideal program is the kernel over the extended reals; and over these it computes what the
  reference does. For the sixth call, attention, the first two of these alone.
-/
module

public import proofs.«01_k».proof.Defs
public import proofs.«01_k».proof.Proof.Gen.KDw
public import proofs.«01_k».proof.Proof.Gen.KDw.Skeleton
public import proofs.«01_k».proof.Proof.Gen.KDw.Launch
public import proofs.«01_k».proof.Proof.Gen.KDw.Points
public import proofs.«01_k».proof.Proof.Gen.KDw.Frame
public import proofs.«01_k».proof.Proof.Gen.KDwIdeal
public import proofs.«01_k».proof.Proof.Gen.KDwIdeal.Skeleton
public import proofs.«01_k».proof.Proof.Gen.KDwIdeal.Launch
public import proofs.«01_k».proof.Proof.Gen.KDwIdeal.Points
public import proofs.«01_k».proof.Proof.Gen.KDwIdeal.Frame
public import proofs.«01_k».proof.Proof.Gen.RDwIdeal
public import proofs.«01_k».proof.Proof.Gen.RDwIdeal.Skeleton
public import proofs.«01_k».proof.Proof.Gen.RDwIdeal.Launch
public import proofs.«01_k».proof.Proof.Gen.RDwIdeal.Points
public import proofs.«01_k».proof.Proof.Gen.RDwIdeal.Frame
public import proofs.«01_k».proof.Proof.Gen.KDwo
public import proofs.«01_k».proof.Proof.Gen.KDwo.Skeleton
public import proofs.«01_k».proof.Proof.Gen.KDwo.Launch
public import proofs.«01_k».proof.Proof.Gen.KDwo.Points
public import proofs.«01_k».proof.Proof.Gen.KDwo.Frame
public import proofs.«01_k».proof.Proof.Gen.KDwoIdeal
public import proofs.«01_k».proof.Proof.Gen.KDwoIdeal.Skeleton
public import proofs.«01_k».proof.Proof.Gen.KDwoIdeal.Launch
public import proofs.«01_k».proof.Proof.Gen.KDwoIdeal.Points
public import proofs.«01_k».proof.Proof.Gen.KDwoIdeal.Frame
public import proofs.«01_k».proof.Proof.Gen.RDwoIdeal
public import proofs.«01_k».proof.Proof.Gen.RDwoIdeal.Skeleton
public import proofs.«01_k».proof.Proof.Gen.RDwoIdeal.Launch
public import proofs.«01_k».proof.Proof.Gen.RDwoIdeal.Points
public import proofs.«01_k».proof.Proof.Gen.RDwoIdeal.Frame
public import proofs.«01_k».proof.Proof.Gen.KOut
public import proofs.«01_k».proof.Proof.Gen.KOut.Skeleton
public import proofs.«01_k».proof.Proof.Gen.KOut.Launch
public import proofs.«01_k».proof.Proof.Gen.KOut.Points
public import proofs.«01_k».proof.Proof.Gen.KOut.Frame
public import proofs.«01_k».proof.Proof.Gen.KOutIdeal
public import proofs.«01_k».proof.Proof.Gen.KOutIdeal.Skeleton
public import proofs.«01_k».proof.Proof.Gen.KOutIdeal.Launch
public import proofs.«01_k».proof.Proof.Gen.KOutIdeal.Points
public import proofs.«01_k».proof.Proof.Gen.KOutIdeal.Frame
public import proofs.«01_k».proof.Proof.Gen.ROutIdeal
public import proofs.«01_k».proof.Proof.Gen.ROutIdeal.Skeleton
public import proofs.«01_k».proof.Proof.Gen.ROutIdeal.Launch
public import proofs.«01_k».proof.Proof.Gen.ROutIdeal.Points
public import proofs.«01_k».proof.Proof.Gen.ROutIdeal.Frame
public import proofs.«01_k».proof.Proof.Gen.KDx
public import proofs.«01_k».proof.Proof.Gen.KDx.Skeleton
public import proofs.«01_k».proof.Proof.Gen.KDx.Launch
public import proofs.«01_k».proof.Proof.Gen.KDx.Points
public import proofs.«01_k».proof.Proof.Gen.KDx.Frame
public import proofs.«01_k».proof.Proof.Gen.KDxIdeal
public import proofs.«01_k».proof.Proof.Gen.KDxIdeal.Skeleton
public import proofs.«01_k».proof.Proof.Gen.KDxIdeal.Launch
public import proofs.«01_k».proof.Proof.Gen.KDxIdeal.Points
public import proofs.«01_k».proof.Proof.Gen.KDxIdeal.Frame
public import proofs.«01_k».proof.Proof.Gen.RDxIdeal
public import proofs.«01_k».proof.Proof.Gen.RDxIdeal.Skeleton
public import proofs.«01_k».proof.Proof.Gen.RDxIdeal.Launch
public import proofs.«01_k».proof.Proof.Gen.RDxIdeal.Points
public import proofs.«01_k».proof.Proof.Gen.RDxIdeal.Frame
public import proofs.«01_k».proof.Proof.Gen.KProj
public import proofs.«01_k».proof.Proof.Gen.KProj.Skeleton
public import proofs.«01_k».proof.Proof.Gen.KProj.Launch
public import proofs.«01_k».proof.Proof.Gen.KProj.Points
public import proofs.«01_k».proof.Proof.Gen.KProj.Frame
public import proofs.«01_k».proof.Proof.Gen.KProjIdeal
public import proofs.«01_k».proof.Proof.Gen.KProjIdeal.Skeleton
public import proofs.«01_k».proof.Proof.Gen.KProjIdeal.Launch
public import proofs.«01_k».proof.Proof.Gen.KProjIdeal.Points
public import proofs.«01_k».proof.Proof.Gen.KProjIdeal.Frame
public import proofs.«01_k».proof.Proof.Gen.RProjIdeal
public import proofs.«01_k».proof.Proof.Gen.RProjIdeal.Skeleton
public import proofs.«01_k».proof.Proof.Gen.RProjIdeal.Launch
public import proofs.«01_k».proof.Proof.Gen.RProjIdeal.Points
public import proofs.«01_k».proof.Proof.Gen.RProjIdeal.Frame
public import proofs.«01_k».proof.Proof.Gen.KAttn
public import proofs.«01_k».proof.Proof.Gen.KAttn.Skeleton
public import proofs.«01_k».proof.Proof.Gen.KAttn.Launch
public import proofs.«01_k».proof.Proof.Gen.KAttn.Points
public import proofs.«01_k».proof.Proof.Gen.KAttn.Frame
public import proofs.«01_k».proof.Proof.Gen.KAttnIdeal
public import proofs.«01_k».proof.Proof.Gen.KAttnIdeal.Skeleton
public import proofs.«01_k».proof.Proof.Gen.KAttnIdeal.Launch
public import proofs.«01_k».proof.Proof.Gen.KAttnIdeal.Points
public import proofs.«01_k».proof.Proof.Gen.KAttnIdeal.Frame
public import proofs.«01_k».proof.Proof.Gen.KDwIdeal.Value
public import proofs.«01_k».proof.Proof.Gen.RDwIdeal.Value
public import proofs.«01_k».proof.Proof.Gen.KDwoIdeal.Value
public import proofs.«01_k».proof.Proof.Gen.RDwoIdeal.Value
public import proofs.«01_k».proof.Proof.Gen.KOutIdeal.Value
public import proofs.«01_k».proof.Proof.Gen.ROutIdeal.Value
public import proofs.«01_k».proof.Proof.Gen.KDxIdeal.Value
public import proofs.«01_k».proof.Proof.Gen.RDxIdeal.Value
public import proofs.«01_k».proof.Proof.Gen.KProjIdeal.Value
public import proofs.«01_k».proof.Proof.Gen.RProjIdeal.Value
public import proofs.«01_k».proof.Proof.Dw
public import proofs.«01_k».proof.Proof.Dwo
public import proofs.«01_k».proof.Proof.Out
public import proofs.«01_k».proof.Proof.Dx
public import proofs.«01_k».proof.Proof.Proj
public import proofs.«01_k».proof.Proof.Attn.Frame
public import proofs.«01_k».proof.Proof.Attn.FrameIdeal
public import Idealize.ShloMosaic.Adequacy
public import Idealize.ShloMosaic.Init

@[expose] public section

noncomputable section

namespace Cert.Proof

open Idealize.ShloMosaic Idealize.SL.Sem Cert.KDw

/-- Every claim of the certificate, in the order in which it lists them. -/
theorem claim : Cert.Claim := ⟨Cert.KDw.Gen.facts, Cert.KDwIdeal.Gen.facts, Cert.RDwIdeal.Gen.facts, Cert.KDwo.Gen.facts, Cert.KDwoIdeal.Gen.facts, Cert.RDwoIdeal.Gen.facts, Cert.KOut.Gen.facts, Cert.KOutIdeal.Gen.facts, Cert.ROutIdeal.Gen.facts, Cert.KDx.Gen.facts, Cert.KDxIdeal.Gen.facts, Cert.RDxIdeal.Gen.facts, Cert.KProj.Gen.facts, Cert.KProjIdeal.Gen.facts, Cert.RProjIdeal.Gen.facts, Cert.KAttn.Gen.facts, Cert.KAttnIdeal.Gen.facts,
    fun m ρ _ => Cert.KDw.Gen.frame m ρ,
    fun m ρ _ => Cert.KDwIdeal.Gen.frame m ρ,
    fun m ρ _ => Cert.RDwIdeal.Gen.frame m ρ,
    fun m ρ _ => Cert.KDwo.Gen.frame m ρ,
    fun m ρ _ => Cert.KDwoIdeal.Gen.frame m ρ,
    fun m ρ _ => Cert.RDwoIdeal.Gen.frame m ρ,
    fun m ρ _ => Cert.KOut.Gen.frame m ρ,
    fun m ρ _ => Cert.KOutIdeal.Gen.frame m ρ,
    fun m ρ _ => Cert.ROutIdeal.Gen.frame m ρ,
    fun m ρ _ => Cert.KDx.Gen.frame m ρ,
    fun m ρ _ => Cert.KDxIdeal.Gen.frame m ρ,
    fun m ρ _ => Cert.RDxIdeal.Gen.frame m ρ,
    fun m ρ _ => Cert.KProj.Gen.frame m ρ,
    fun m ρ _ => Cert.KProjIdeal.Gen.frame m ρ,
    fun m ρ _ => Cert.RProjIdeal.Gen.frame m ρ,
    fun m ρ _ => Cert.KAttn.Frames.frame m ρ,
    fun m ρ _ => Cert.KAttnIdeal.Frames.frame m ρ,
    trivial,
    Cert.Dw.algebraic,
    trivial,
    Cert.Dwo.algebraic,
    trivial,
    Cert.Out.algebraic,
    IdealRules.named_const.statement Cert.KDxIdeal.κ "inv_d" .f32 0x3A2AAAAB#32 ((1 / 1536 : ℝ) : EReal) rfl,
    Cert.Dx.algebraic,
    IdealRules.named_const.statement Cert.KProjIdeal.κ "inv_d" .f32 0x3A2AAAAB#32 ((1 / 1536 : ℝ) : EReal) rfl,
    Cert.Proj.algebraic,
    trivial⟩

end Cert.Proof

end
